-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def preserves_Reference_ReferenceIdeal : Prop :=
  IdealRules.named_const.Statement Cert.ReferenceIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ quiescent_Reference (hReference := hReference)
    ∧ preserves_Kernel_KernelIdeal
    ∧ preserves_Reference_ReferenceIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x64x128 : Shape := ⟨4, ![2, 256, 64, 128]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x64x128 : S_.BroadcastsInDim S2x256x64x128 (![] : Fin 0 → Fin S2x256x64x128.rank)
  reducesTo_S2x256x64x128_S_d0_1_2_3 : S2x256x64x128.ReducesTo [0, 1, 2, 3] S_

variable [Facts]

def fn {F : FTy → Type} [FloatOps F] (main_arg0 : FVec F S2x256x512 .f32) (main_arg1 : FVec F S512x256 .f32) (main_arg2 : FVec F S2x256x64x128 .f32) (main_arg3 : FVec F S2x256x64x128 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x64x128 .f32 := Host.absf main_arg2
  let main_cst_2 : FVec F S_ .f32 := constant S_ .f32 0x7F800000#32
  let main_v10 : FVec F S2x256x64x128 .f32 := broadcastInDim S2x256x64x128 ![] bcast_S_S2x256x64x128 main_cst_2
  let main_v11 : IVec S2x256x64x128 1 := cmpf .olt main_v9 main_v10
  let main_c_3 : IVec S_ 1 := constantI S_ 1 1#1
  let main_v12 : IVec S_ 1 := (fun x v => Host.reduce IntOp.andi x v reducesTo_S2x256x64x128_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x8192 : Shape := ⟨2, ![512, 8192]⟩
abbrev S2x256x64x128 : Shape := ⟨4, ![2, 256, 64, 128]⟩
abbrev S8192x512 : Shape := ⟨2, ![8192, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x256x64x128 : S_.BroadcastsInDim S2x256x64x128 (![] : Fin 0 → Fin S2x256x64x128.rank)
  reducesTo_S2x256x64x128_S_d0_1_2_3 : S2x256x64x128.ReducesTo [0, 1, 2, 3] S_

variable [Facts]

def fn {F : FTy → Type} [FloatOps F] (main_arg0 : FVec F S2x256x512 .f32) (main_arg1 : FVec F S512x8192 .f32) (main_arg2 : FVec F S2x256x64x128 .f32) (main_arg3 : FVec F S2x256x64x128 .f32) (main_arg4 : FVec F S8192x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S2x256x64x128 .f32 := Host.absf main_arg2
  let main_cst_2 : FVec F S_ .f32 := constant S_ .f32 0x7F800000#32
  let main_v10 : FVec F S2x256x64x128 .f32 := broadcastInDim S2x256x64x128 ![] bcast_S_S2x256x64x128 main_cst_2
  let main_v11 : IVec S2x256x64x128 1 := cmpf .olt main_v9 main_v10
  let main_c_3 : IVec S_ 1 := constantI S_ 1 1#1
  let main_v12 : IVec S_ 1 := (fun x v => Host.reduce IntOp.andi x v reducesTo_S2x256x64x128_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x64x128 : Shape := ⟨4, ![2, 256, 64, 128]⟩
abbrev S256x512 : Shape := ⟨2, ![256, 512]⟩
abbrev S32x16x512 : Shape := ⟨3, ![32, 16, 512]⟩
abbrev S16 : Shape := ⟨1, ![16]⟩
abbrev S32 : Shape := ⟨1, ![32]⟩
abbrev S1 : Shape := ⟨1, ![1]⟩
abbrev S_ : Shape := ⟨0, ![]⟩
abbrev S1x64x64x128 : Shape := ⟨4, ![1, 64, 64, 128]⟩
abbrev S64x64x128 : Shape := ⟨3, ![64, 64, 128]⟩
abbrev S1x16x512 : Shape := ⟨3, ![1, 16, 512]⟩
abbrev S512x512 : Shape := ⟨2, ![512, 512]⟩
abbrev S512x64 : Shape := ⟨2, ![512, 64]⟩
abbrev S128x4 : Shape := ⟨2, ![128, 4]⟩
abbrev S4096x128 : Shape := ⟨2, ![4096, 128]⟩
abbrev S4x4096 : Shape := ⟨2, ![4, 4096]⟩
abbrev S4x64x64 : Shape := ⟨3, ![4, 64, 64]⟩
abbrev S64x64 : Shape := ⟨2, ![64, 64]⟩
abbrev S1x64x64 : Shape := ⟨3, ![1, 64, 64]⟩
abbrev S64 : Shape := ⟨1, ![64]⟩
abbrev S64x1 : Shape := ⟨2, ![64, 1]⟩
abbrev S64x256 : Shape := ⟨2, ![64, 256]⟩
abbrev S64x512 : Shape := ⟨2, ![64, 512]⟩
abbrev S4x16x512 : Shape := ⟨3, ![4, 16, 512]⟩
abbrev S16x512 : Shape := ⟨2, ![16, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x64x128, .f32⟩
  | .hbm, ⟨3, _⟩ => ⟨S2x256x64x128, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S256x512, .f32⟩
  | .local _ .vmem, ⟨3, _⟩ => ⟨S2x256x512, .f32⟩
  | .local _ .vmem, ⟨4, _⟩ => ⟨S2x256x64x128, .f32⟩
  | .local _ .vmem, ⟨5, _⟩ => ⟨S2x256x64x128, .f32⟩
  | .local _ .vmem, ⟨6, _⟩ => ⟨S32x16x512, .f32⟩
  | .local _ .vmem, ⟨7, _⟩ => ⟨S32x16x512, .f32⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 148 → Bool
  | ⟨i, _⟩ => dmaSemScopedAt i

abbrev sig : RefSig :=
  (ofTc nBuf bufTy 1 148 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_126 : BitVec 32 := 1#32
  let v100 : BitVec 32 := Scalar.addi v2 c1_i32_126
  let c32_i32_127 : BitVec 32 := 32#32
  let v101 : BitVec 32 := Scalar.remsi v100 c32_i32_127
  let c1_i32_129 : BitVec 32 := 1#32
  let v102 : BitVec 32 := Scalar.muli v101 c1_i32_129
  let v103 : BitVec 32 := Scalar.addi c0_i32_130 v102
  v103.toNat
def k0_dev2 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_131 : BitVec 32 := 2#32
  let v104 : BitVec 32 := Scalar.addi v2 c2_i32_131
  let c32_i32_132 : BitVec 32 := 32#32
  let v105 : BitVec 32 := Scalar.remsi v104 c32_i32_132
  let c1_i32_134 : BitVec 32 := 1#32
  let v106 : BitVec 32 := Scalar.muli v105 c1_i32_134
  let v107 : BitVec 32 := Scalar.addi c0_i32_135 v106
  v107.toNat
def k0_dev3 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_136 : BitVec 32 := 3#32
  let v108 : BitVec 32 := Scalar.addi v2 c3_i32_136
  let c32_i32_137 : BitVec 32 := 32#32
  let v109 : BitVec 32 := Scalar.remsi v108 c32_i32_137
  let c1_i32_139 : BitVec 32 := 1#32
  let v110 : BitVec 32 := Scalar.muli v109 c1_i32_139
  let v111 : BitVec 32 := Scalar.addi c0_i32_140 v110
  v111.toNat
def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_141 : BitVec 32 := 4#32
  let v112 : BitVec 32 := Scalar.addi v2 c4_i32_141
  let c32_i32_142 : BitVec 32 := 32#32
  let v113 : BitVec 32 := Scalar.remsi v112 c32_i32_142
  let c1_i32_144 : BitVec 32 := 1#32
  let v114 : BitVec 32 := Scalar.muli v113 c1_i32_144
  let v115 : BitVec 32 := Scalar.addi c0_i32_145 v114
  v115.toNat
def k0_dev5 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_146 : BitVec 32 := 5#32
  let v116 : BitVec 32 := Scalar.addi v2 c5_i32_146
  let c32_i32_147 : BitVec 32 := 32#32
  let v117 : BitVec 32 := Scalar.remsi v116 c32_i32_147
  let c1_i32_149 : BitVec 32 := 1#32
  let v118 : BitVec 32 := Scalar.muli v117 c1_i32_149
  let v119 : BitVec 32 := Scalar.addi c0_i32_150 v118
  v119.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_151 : BitVec 32 := 6#32
  let v120 : BitVec 32 := Scalar.addi v2 c6_i32_151
  let c32_i32_152 : BitVec 32 := 32#32
  let v121 : BitVec 32 := Scalar.remsi v120 c32_i32_152
  let c1_i32_154 : BitVec 32 := 1#32
  let v122 : BitVec 32 := Scalar.muli v121 c1_i32_154
  let v123 : BitVec 32 := Scalar.addi c0_i32_155 v122
  v123.toNat
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_156 : BitVec 32 := 7#32
  let v124 : BitVec 32 := Scalar.addi v2 c7_i32_156
  let c32_i32_157 : BitVec 32 := 32#32
  let v125 : BitVec 32 := Scalar.remsi v124 c32_i32_157
  let c1_i32_159 : BitVec 32 := 1#32
  let v126 : BitVec 32 := Scalar.muli v125 c1_i32_159
  let v127 : BitVec 32 := Scalar.addi c0_i32_160 v126
  v127.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_161 : BitVec 32 := 8#32
  let v128 : BitVec 32 := Scalar.addi v2 c8_i32_161
  let c32_i32_162 : BitVec 32 := 32#32
  let v129 : BitVec 32 := Scalar.remsi v128 c32_i32_162
  let c1_i32_164 : BitVec 32 := 1#32
  let v130 : BitVec 32 := Scalar.muli v129 c1_i32_164
  let v131 : BitVec 32 := Scalar.addi c0_i32_165 v130
  v131.toNat
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_166 : BitVec 32 := 9#32
  let v132 : BitVec 32 := Scalar.addi v2 c9_i32_166
  let c32_i32_167 : BitVec 32 := 32#32
  let v133 : BitVec 32 := Scalar.remsi v132 c32_i32_167
  let c1_i32_169 : BitVec 32 := 1#32
  let v134 : BitVec 32 := Scalar.muli v133 c1_i32_169
  let v135 : BitVec 32 := Scalar.addi c0_i32_170 v134
  v135.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_171 : BitVec 32 := 10#32
  let v136 : BitVec 32 := Scalar.addi v2 c10_i32_171
  let c32_i32_172 : BitVec 32 := 32#32
  let v137 : BitVec 32 := Scalar.remsi v136 c32_i32_172
  let c1_i32_174 : BitVec 32 := 1#32
  let v138 : BitVec 32 := Scalar.muli v137 c1_i32_174
  let v139 : BitVec 32 := Scalar.addi c0_i32_175 v138
  v139.toNat
def k0_dev11 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_176 : BitVec 32 := 11#32
  let v140 : BitVec 32 := Scalar.addi v2 c11_i32_176
  let c32_i32_177 : BitVec 32 := 32#32
  let v141 : BitVec 32 := Scalar.remsi v140 c32_i32_177
  let c1_i32_179 : BitVec 32 := 1#32
  let v142 : BitVec 32 := Scalar.muli v141 c1_i32_179
  let v143 : BitVec 32 := Scalar.addi c0_i32_180 v142
  v143.toNat
def k0_dev12 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_181 : BitVec 32 := 12#32
  let v144 : BitVec 32 := Scalar.addi v2 c12_i32_181
  let c32_i32_182 : BitVec 32 := 32#32
  let v145 : BitVec 32 := Scalar.remsi v144 c32_i32_182
  let c1_i32_184 : BitVec 32 := 1#32
  let v146 : BitVec 32 := Scalar.muli v145 c1_i32_184
  let v147 : BitVec 32 := Scalar.addi c0_i32_185 v146
  v147.toNat
def k0_dev13 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_186 : BitVec 32 := 13#32
  let v148 : BitVec 32 := Scalar.addi v2 c13_i32_186
  let c32_i32_187 : BitVec 32 := 32#32
  let v149 : BitVec 32 := Scalar.remsi v148 c32_i32_187
  let c1_i32_189 : BitVec 32 := 1#32
  let v150 : BitVec 32 := Scalar.muli v149 c1_i32_189
  let v151 : BitVec 32 := Scalar.addi c0_i32_190 v150
  v151.toNat
def k0_dev14 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_191 : BitVec 32 := 14#32
  let v152 : BitVec 32 := Scalar.addi v2 c14_i32_191
  let c32_i32_192 : BitVec 32 := 32#32
  let v153 : BitVec 32 := Scalar.remsi v152 c32_i32_192
  let c1_i32_194 : BitVec 32 := 1#32
  let v154 : BitVec 32 := Scalar.muli v153 c1_i32_194
  let v155 : BitVec 32 := Scalar.addi c0_i32_195 v154
  v155.toNat
def k0_dev15 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_196 : BitVec 32 := 15#32
  let v156 : BitVec 32 := Scalar.addi v2 c15_i32_196
  let c32_i32_197 : BitVec 32 := 32#32
  let v157 : BitVec 32 := Scalar.remsi v156 c32_i32_197
  let c1_i32_199 : BitVec 32 := 1#32
  let v158 : BitVec 32 := Scalar.muli v157 c1_i32_199
  let v159 : BitVec 32 := Scalar.addi c0_i32_200 v158
  v159.toNat
def k0_dev16 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v160 : BitVec 32 := Scalar.addi v2 c16_i32
  let c32_i32_201 : BitVec 32 := 32#32
  let v161 : BitVec 32 := Scalar.remsi v160 c32_i32_201
  let c1_i32_203 : BitVec 32 := 1#32
  let v162 : BitVec 32 := Scalar.muli v161 c1_i32_203
  let v163 : BitVec 32 := Scalar.addi c0_i32_204 v162
  v163.toNat
def k0_dev17 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v164 : BitVec 32 := Scalar.addi v2 c17_i32
  let c32_i32_205 : BitVec 32 := 32#32
  let v165 : BitVec 32 := Scalar.remsi v164 c32_i32_205
  let c1_i32_207 : BitVec 32 := 1#32
  let v166 : BitVec 32 := Scalar.muli v165 c1_i32_207
  let v167 : BitVec 32 := Scalar.addi c0_i32_208 v166
  v167.toNat
def k0_dev18 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v168 : BitVec 32 := Scalar.addi v2 c18_i32
  let c32_i32_209 : BitVec 32 := 32#32
  let v169 : BitVec 32 := Scalar.remsi v168 c32_i32_209
  let c1_i32_211 : BitVec 32 := 1#32
  let v170 : BitVec 32 := Scalar.muli v169 c1_i32_211
  let v171 : BitVec 32 := Scalar.addi c0_i32_212 v170
  v171.toNat
def k0_dev19 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v172 : BitVec 32 := Scalar.addi v2 c19_i32
  let c32_i32_213 : BitVec 32 := 32#32
  let v173 : BitVec 32 := Scalar.remsi v172 c32_i32_213
  let c1_i32_215 : BitVec 32 := 1#32
  let v174 : BitVec 32 := Scalar.muli v173 c1_i32_215
  let v175 : BitVec 32 := Scalar.addi c0_i32_216 v174
  v175.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v176 : BitVec 32 := Scalar.addi v2 c20_i32
  let c32_i32_217 : BitVec 32 := 32#32
  let v177 : BitVec 32 := Scalar.remsi v176 c32_i32_217
  let c1_i32_219 : BitVec 32 := 1#32
  let v178 : BitVec 32 := Scalar.muli v177 c1_i32_219
  let v179 : BitVec 32 := Scalar.addi c0_i32_220 v178
  v179.toNat
def k0_dev21 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v180 : BitVec 32 := Scalar.addi v2 c21_i32
  let c32_i32_221 : BitVec 32 := 32#32
  let v181 : BitVec 32 := Scalar.remsi v180 c32_i32_221
  let c1_i32_223 : BitVec 32 := 1#32
  let v182 : BitVec 32 := Scalar.muli v181 c1_i32_223
  let v183 : BitVec 32 := Scalar.addi c0_i32_224 v182
  v183.toNat
def k0_dev22 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v184 : BitVec 32 := Scalar.addi v2 c22_i32
  let c32_i32_225 : BitVec 32 := 32#32
  let v185 : BitVec 32 := Scalar.remsi v184 c32_i32_225
  let c1_i32_227 : BitVec 32 := 1#32
  let v186 : BitVec 32 := Scalar.muli v185 c1_i32_227
  let v187 : BitVec 32 := Scalar.addi c0_i32_228 v186
  v187.toNat
def k0_dev23 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v188 : BitVec 32 := Scalar.addi v2 c23_i32
  let c32_i32_229 : BitVec 32 := 32#32
  let v189 : BitVec 32 := Scalar.remsi v188 c32_i32_229
  let c1_i32_231 : BitVec 32 := 1#32
  let v190 : BitVec 32 := Scalar.muli v189 c1_i32_231
  let v191 : BitVec 32 := Scalar.addi c0_i32_232 v190
  v191.toNat
def k0_dev24 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v192 : BitVec 32 := Scalar.addi v2 c24_i32
  let c32_i32_233 : BitVec 32 := 32#32
  let v193 : BitVec 32 := Scalar.remsi v192 c32_i32_233
  let c1_i32_235 : BitVec 32 := 1#32
  let v194 : BitVec 32 := Scalar.muli v193 c1_i32_235
  let v195 : BitVec 32 := Scalar.addi c0_i32_236 v194
  v195.toNat
def k0_dev25 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v196 : BitVec 32 := Scalar.addi v2 c25_i32
  let c32_i32_237 : BitVec 32 := 32#32
  let v197 : BitVec 32 := Scalar.remsi v196 c32_i32_237
  let c1_i32_239 : BitVec 32 := 1#32
  let v198 : BitVec 32 := Scalar.muli v197 c1_i32_239
  let v199 : BitVec 32 := Scalar.addi c0_i32_240 v198
  v199.toNat
def k0_dev26 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v200 : BitVec 32 := Scalar.addi v2 c26_i32
  let c32_i32_241 : BitVec 32 := 32#32
  let v201 : BitVec 32 := Scalar.remsi v200 c32_i32_241
  let c1_i32_243 : BitVec 32 := 1#32
  let v202 : BitVec 32 := Scalar.muli v201 c1_i32_243
  let v203 : BitVec 32 := Scalar.addi c0_i32_244 v202
  v203.toNat
def k0_dev27 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v204 : BitVec 32 := Scalar.addi v2 c27_i32
  let c32_i32_245 : BitVec 32 := 32#32
  let v205 : BitVec 32 := Scalar.remsi v204 c32_i32_245
  let c1_i32_247 : BitVec 32 := 1#32
  let v206 : BitVec 32 := Scalar.muli v205 c1_i32_247
  let v207 : BitVec 32 := Scalar.addi c0_i32_248 v206
  v207.toNat
def k0_dev28 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v208 : BitVec 32 := Scalar.addi v2 c28_i32
  let c32_i32_249 : BitVec 32 := 32#32
  let v209 : BitVec 32 := Scalar.remsi v208 c32_i32_249
  let c1_i32_251 : BitVec 32 := 1#32
  let v210 : BitVec 32 := Scalar.muli v209 c1_i32_251
  let v211 : BitVec 32 := Scalar.addi c0_i32_252 v210
  v211.toNat
def k0_dev29 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v212 : BitVec 32 := Scalar.addi v2 c29_i32
  let c32_i32_253 : BitVec 32 := 32#32
  let v213 : BitVec 32 := Scalar.remsi v212 c32_i32_253
  let c1_i32_255 : BitVec 32 := 1#32
  let v214 : BitVec 32 := Scalar.muli v213 c1_i32_255
  let v215 : BitVec 32 := Scalar.addi c0_i32_256 v214
  v215.toNat
def k0_dev30 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v216 : BitVec 32 := Scalar.addi v2 c30_i32
  let c32_i32_257 : BitVec 32 := 32#32
  let v217 : BitVec 32 := Scalar.remsi v216 c32_i32_257
  let c1_i32_259 : BitVec 32 := 1#32
  let v218 : BitVec 32 := Scalar.muli v217 c1_i32_259
  let v219 : BitVec 32 := Scalar.addi c0_i32_260 v218
  v219.toNat
def k0_dev31 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v220 : BitVec 32 := Scalar.addi v2 c31_i32
  let c32_i32_261 : BitVec 32 := 32#32
  let v221 : BitVec 32 := Scalar.remsi v220 c32_i32_261
  let c1_i32_263 : BitVec 32 := 1#32
  let v222 : BitVec 32 := Scalar.muli v221 c1_i32_263
  let v223 : BitVec 32 := Scalar.addi c0_i32_264 v222
  v223.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v225 : Index := Scalar.indexCast v2
  let c0 : Index := 0#32
  let c0_266 : Index := 0#32
  ![v225.toNat, 0, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_334 : BitVec 32 := 0#32
  let v354 : BitVec 1 := Scalar.cmpi .ne v2 c0_i32_334
  let v355 : BitVec 32 := Scalar.extui v354
  let c0_i32_335 : BitVec 32 := 0#32
  let v356 : BitVec 1 := Scalar.cmpi .ne v355 c0_i32_335
  v356

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev32 : Nat :=
  let c0_i32_1811 : BitVec 32 := 0#32
  let c0_i32_1809 : BitVec 32 := 0#32
  let c1_i32_1810 : BitVec 32 := 1#32
  let v2513 : BitVec 32 := Scalar.muli c0_i32_1809 c1_i32_1810
  let v2514 : BitVec 32 := Scalar.addi c0_i32_1811 v2513
  v2514.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_336 : BitVec 32 := 1#32
  let v357 : BitVec 1 := Scalar.cmpi .ne v2 c1_i32_336
  let v358 : BitVec 32 := Scalar.extui v357
  let c0_i32_337 : BitVec 32 := 0#32
  let v359 : BitVec 1 := Scalar.cmpi .ne v358 c0_i32_337
  v359

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev33 : Nat :=
  let c0_i32_1811 : BitVec 32 := 0#32
  let c1_i32_1809 : BitVec 32 := 1#32
  let c1_i32_1810 : BitVec 32 := 1#32
  let v2513 : BitVec 32 := Scalar.muli c1_i32_1809 c1_i32_1810
  let v2514 : BitVec 32 := Scalar.addi c0_i32_1811 v2513
  v2514.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_338 : BitVec 32 := 2#32
  let v360 : BitVec 1 := Scalar.cmpi .ne v2 c2_i32_338
  let v361 : BitVec 32 := Scalar.extui v360
  let c0_i32_339 : BitVec 32 := 0#32
  let v362 : BitVec 1 := Scalar.cmpi .ne v361 c0_i32_339
  v362

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev34 : Nat :=
  let c0_i32_1811 : BitVec 32 := 0#32
  let c2_i32_1809 : BitVec 32 := 2#32
  let c1_i32_1810 : BitVec 32 := 1#32
  let v2513 : BitVec 32 := Scalar.muli c2_i32_1809 c1_i32_1810
  let v2514 : BitVec 32 := Scalar.addi c0_i32_1811 v2513
  v2514.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_340 : BitVec 32 := 3#32
  let v363 : BitVec 1 := Scalar.cmpi .ne v2 c3_i32_340
  let v364 : BitVec 32 := Scalar.extui v363
  let c0_i32_341 : BitVec 32 := 0#32
  let v365 : BitVec 1 := Scalar.cmpi .ne v364 c0_i32_341
  v365

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev35 : Nat :=
  let c0_i32_1811 : BitVec 32 := 0#32
  let c3_i32_1809 : BitVec 32 := 3#32
  let c1_i32_1810 : BitVec 32 := 1#32
  let v2513 : BitVec 32 := Scalar.muli c3_i32_1809 c1_i32_1810
  let v2514 : BitVec 32 := Scalar.addi c0_i32_1811 v2513
  v2514.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_395 : BitVec 32 := 4#32
  let v468 : BitVec 1 := Scalar.cmpi .ne v2 c4_i32_395
  let v469 : BitVec 32 := Scalar.extui v468
  let c0_i32_396 : BitVec 32 := 0#32
  let v470 : BitVec 1 := Scalar.cmpi .ne v469 c0_i32_396
  v470

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev36 : Nat :=
  let c0_i32_1811 : BitVec 32 := 0#32
  let c4_i32_1809 : BitVec 32 := 4#32
  let c1_i32_1810 : BitVec 32 := 1#32
  let v2513 : BitVec 32 := Scalar.muli c4_i32_1809 c1_i32_1810
  let v2514 : BitVec 32 := Scalar.addi c0_i32_1811 v2513
  v2514.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_397 : BitVec 32 := 5#32
  let v471 : BitVec 1 := Scalar.cmpi .ne v2 c5_i32_397
  let v472 : BitVec 32 := Scalar.extui v471
  let c0_i32_398 : BitVec 32 := 0#32
  let v473 : BitVec 1 := Scalar.cmpi .ne v472 c0_i32_398
  v473

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev37 : Nat :=
  let c0_i32_1811 : BitVec 32 := 0#32
  let c5_i32_1809 : BitVec 32 := 5#32
  let c1_i32_1810 : BitVec 32 := 1#32
  let v2513 : BitVec 32 := Scalar.muli c5_i32_1809 c1_i32_1810
  let v2514 : BitVec 32 := Scalar.addi c0_i32_1811 v2513
  v2514.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_399 : BitVec 32 := 6#32
  let v474 : BitVec 1 := Scalar.cmpi .ne v2 c6_i32_399
  let v475 : BitVec 32 := Scalar.extui v474
  let c0_i32_400 : BitVec 32 := 0#32
  let v476 : BitVec 1 := Scalar.cmpi .ne v475 c0_i32_400
  v476

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev38 : Nat :=
  let c0_i32_1811 : BitVec 32 := 0#32
  let c6_i32_1809 : BitVec 32 := 6#32
  let c1_i32_1810 : BitVec 32 := 1#32
  let v2513 : BitVec 32 := Scalar.muli c6_i32_1809 c1_i32_1810
  let v2514 : BitVec 32 := Scalar.addi c0_i32_1811 v2513
  v2514.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_401 : BitVec 32 := 7#32
  let v477 : BitVec 1 := Scalar.cmpi .ne v2 c7_i32_401
  let v478 : BitVec 32 := Scalar.extui v477
  let c0_i32_402 : BitVec 32 := 0#32
  let v479 : BitVec 1 := Scalar.cmpi .ne v478 c0_i32_402
  v479

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev39 : Nat :=
  let c0_i32_1811 : BitVec 32 := 0#32
  let c7_i32_1809 : BitVec 32 := 7#32
  let c1_i32_1810 : BitVec 32 := 1#32
  let v2513 : BitVec 32 := Scalar.muli c7_i32_1809 c1_i32_1810
  let v2514 : BitVec 32 := Scalar.addi c0_i32_1811 v2513
  v2514.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_456 : BitVec 32 := 8#32
  let v582 : BitVec 1 := Scalar.cmpi .ne v2 c8_i32_456
  let v583 : BitVec 32 := Scalar.extui v582
  let c0_i32_457 : BitVec 32 := 0#32
  let v584 : BitVec 1 := Scalar.cmpi .ne v583 c0_i32_457
  v584

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev40 : Nat :=
  let c0_i32_1811 : BitVec 32 := 0#32
  let c8_i32_1809 : BitVec 32 := 8#32
  let c1_i32_1810 : BitVec 32 := 1#32
  let v2513 : BitVec 32 := Scalar.muli c8_i32_1809 c1_i32_1810
  let v2514 : BitVec 32 := Scalar.addi c0_i32_1811 v2513
  v2514.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_458 : BitVec 32 := 9#32
  let v585 : BitVec 1 := Scalar.cmpi .ne v2 c9_i32_458
  let v586 : BitVec 32 := Scalar.extui v585
  let c0_i32_459 : BitVec 32 := 0#32
  let v587 : BitVec 1 := Scalar.cmpi .ne v586 c0_i32_459
  v587

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev41 : Nat :=
  let c0_i32_1811 : BitVec 32 := 0#32
  let c9_i32_1809 : BitVec 32 := 9#32
  let c1_i32_1810 : BitVec 32 := 1#32
  let v2513 : BitVec 32 := Scalar.muli c9_i32_1809 c1_i32_1810
  let v2514 : BitVec 32 := Scalar.addi c0_i32_1811 v2513
  v2514.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_460 : BitVec 32 := 10#32
  let v588 : BitVec 1 := Scalar.cmpi .ne v2 c10_i32_460
  let v589 : BitVec 32 := Scalar.extui v588
  let c0_i32_461 : BitVec 32 := 0#32
  let v590 : BitVec 1 := Scalar.cmpi .ne v589 c0_i32_461
  v590

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev42 : Nat :=
  let c0_i32_1811 : BitVec 32 := 0#32
  let c10_i32_1809 : BitVec 32 := 10#32
  let c1_i32_1810 : BitVec 32 := 1#32
  let v2513 : BitVec 32 := Scalar.muli c10_i32_1809 c1_i32_1810
  let v2514 : BitVec 32 := Scalar.addi c0_i32_1811 v2513
  v2514.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_462 : BitVec 32 := 11#32
  let v591 : BitVec 1 := Scalar.cmpi .ne v2 c11_i32_462
  let v592 : BitVec 32 := Scalar.extui v591
  let c0_i32_463 : BitVec 32 := 0#32
  let v593 : BitVec 1 := Scalar.cmpi .ne v592 c0_i32_463
  v593

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev43 : Nat :=
  let c0_i32_1811 : BitVec 32 := 0#32
  let c11_i32_1809 : BitVec 32 := 11#32
  let c1_i32_1810 : BitVec 32 := 1#32
  let v2513 : BitVec 32 := Scalar.muli c11_i32_1809 c1_i32_1810
  let v2514 : BitVec 32 := Scalar.addi c0_i32_1811 v2513
  v2514.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_517 : BitVec 32 := 12#32
  let v696 : BitVec 1 := Scalar.cmpi .ne v2 c12_i32_517
  let v697 : BitVec 32 := Scalar.extui v696
  let c0_i32_518 : BitVec 32 := 0#32
  let v698 : BitVec 1 := Scalar.cmpi .ne v697 c0_i32_518
  v698

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev44 : Nat :=
  let c0_i32_1811 : BitVec 32 := 0#32
  let c12_i32_1809 : BitVec 32 := 12#32
  let c1_i32_1810 : BitVec 32 := 1#32
  let v2513 : BitVec 32 := Scalar.muli c12_i32_1809 c1_i32_1810
  let v2514 : BitVec 32 := Scalar.addi c0_i32_1811 v2513
  v2514.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_519 : BitVec 32 := 13#32
  let v699 : BitVec 1 := Scalar.cmpi .ne v2 c13_i32_519
  let v700 : BitVec 32 := Scalar.extui v699
  let c0_i32_520 : BitVec 32 := 0#32
  let v701 : BitVec 1 := Scalar.cmpi .ne v700 c0_i32_520
  v701

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev45 : Nat :=
  let c0_i32_1811 : BitVec 32 := 0#32
  let c13_i32_1809 : BitVec 32 := 13#32
  let c1_i32_1810 : BitVec 32 := 1#32
  let v2513 : BitVec 32 := Scalar.muli c13_i32_1809 c1_i32_1810
  let v2514 : BitVec 32 := Scalar.addi c0_i32_1811 v2513
  v2514.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_521 : BitVec 32 := 14#32
  let v702 : BitVec 1 := Scalar.cmpi .ne v2 c14_i32_521
  let v703 : BitVec 32 := Scalar.extui v702
  let c0_i32_522 : BitVec 32 := 0#32
  let v704 : BitVec 1 := Scalar.cmpi .ne v703 c0_i32_522
  v704

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev46 : Nat :=
  let c0_i32_1811 : BitVec 32 := 0#32
  let c14_i32_1809 : BitVec 32 := 14#32
  let c1_i32_1810 : BitVec 32 := 1#32
  let v2513 : BitVec 32 := Scalar.muli c14_i32_1809 c1_i32_1810
  let v2514 : BitVec 32 := Scalar.addi c0_i32_1811 v2513
  v2514.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_523 : BitVec 32 := 15#32
  let v705 : BitVec 1 := Scalar.cmpi .ne v2 c15_i32_523
  let v706 : BitVec 32 := Scalar.extui v705
  let c0_i32_524 : BitVec 32 := 0#32
  let v707 : BitVec 1 := Scalar.cmpi .ne v706 c0_i32_524
  v707

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev47 : Nat :=
  let c0_i32_1811 : BitVec 32 := 0#32
  let c15_i32_1809 : BitVec 32 := 15#32
  let c1_i32_1810 : BitVec 32 := 1#32
  let v2513 : BitVec 32 := Scalar.muli c15_i32_1809 c1_i32_1810
  let v2514 : BitVec 32 := Scalar.addi c0_i32_1811 v2513
  v2514.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_577 : BitVec 32 := 16#32
  let v810 : BitVec 1 := Scalar.cmpi .ne v2 c16_i32_577
  let v811 : BitVec 32 := Scalar.extui v810
  let c0_i32_578 : BitVec 32 := 0#32
  let v812 : BitVec 1 := Scalar.cmpi .ne v811 c0_i32_578
  v812

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev48 : Nat :=
  let c0_i32_1811 : BitVec 32 := 0#32
  let c16_i32_1809 : BitVec 32 := 16#32
  let c1_i32_1810 : BitVec 32 := 1#32
  let v2513 : BitVec 32 := Scalar.muli c16_i32_1809 c1_i32_1810
  let v2514 : BitVec 32 := Scalar.addi c0_i32_1811 v2513
  v2514.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_579 : BitVec 32 := 17#32
  let v813 : BitVec 1 := Scalar.cmpi .ne v2 c17_i32_579
  let v814 : BitVec 32 := Scalar.extui v813
  let c0_i32_580 : BitVec 32 := 0#32
  let v815 : BitVec 1 := Scalar.cmpi .ne v814 c0_i32_580
  v815

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev49 : Nat :=
  let c0_i32_1811 : BitVec 32 := 0#32
  let c17_i32_1809 : BitVec 32 := 17#32
  let c1_i32_1810 : BitVec 32 := 1#32
  let v2513 : BitVec 32 := Scalar.muli c17_i32_1809 c1_i32_1810
  let v2514 : BitVec 32 := Scalar.addi c0_i32_1811 v2513
  v2514.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_581 : BitVec 32 := 18#32
  let v816 : BitVec 1 := Scalar.cmpi .ne v2 c18_i32_581
  let v817 : BitVec 32 := Scalar.extui v816
  let c0_i32_582 : BitVec 32 := 0#32
  let v818 : BitVec 1 := Scalar.cmpi .ne v817 c0_i32_582
  v818

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev50 : Nat :=
  let c0_i32_1811 : BitVec 32 := 0#32
  let c18_i32_1809 : BitVec 32 := 18#32
  let c1_i32_1810 : BitVec 32 := 1#32
  let v2513 : BitVec 32 := Scalar.muli c18_i32_1809 c1_i32_1810
  let v2514 : BitVec 32 := Scalar.addi c0_i32_1811 v2513
  v2514.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_583 : BitVec 32 := 19#32
  let v819 : BitVec 1 := Scalar.cmpi .ne v2 c19_i32_583
  let v820 : BitVec 32 := Scalar.extui v819
  let c0_i32_584 : BitVec 32 := 0#32
  let v821 : BitVec 1 := Scalar.cmpi .ne v820 c0_i32_584
  v821

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev51 : Nat :=
  let c0_i32_1811 : BitVec 32 := 0#32
  let c19_i32_1809 : BitVec 32 := 19#32
  let c1_i32_1810 : BitVec 32 := 1#32
  let v2513 : BitVec 32 := Scalar.muli c19_i32_1809 c1_i32_1810
  let v2514 : BitVec 32 := Scalar.addi c0_i32_1811 v2513
  v2514.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_638 : BitVec 32 := 20#32
  let v924 : BitVec 1 := Scalar.cmpi .ne v2 c20_i32_638
  let v925 : BitVec 32 := Scalar.extui v924
  let c0_i32_639 : BitVec 32 := 0#32
  let v926 : BitVec 1 := Scalar.cmpi .ne v925 c0_i32_639
  v926

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev52 : Nat :=
  let c0_i32_1811 : BitVec 32 := 0#32
  let c20_i32_1809 : BitVec 32 := 20#32
  let c1_i32_1810 : BitVec 32 := 1#32
  let v2513 : BitVec 32 := Scalar.muli c20_i32_1809 c1_i32_1810
  let v2514 : BitVec 32 := Scalar.addi c0_i32_1811 v2513
  v2514.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_640 : BitVec 32 := 21#32
  let v927 : BitVec 1 := Scalar.cmpi .ne v2 c21_i32_640
  let v928 : BitVec 32 := Scalar.extui v927
  let c0_i32_641 : BitVec 32 := 0#32
  let v929 : BitVec 1 := Scalar.cmpi .ne v928 c0_i32_641
  v929

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev53 : Nat :=
  let c0_i32_1811 : BitVec 32 := 0#32
  let c21_i32_1809 : BitVec 32 := 21#32
  let c1_i32_1810 : BitVec 32 := 1#32
  let v2513 : BitVec 32 := Scalar.muli c21_i32_1809 c1_i32_1810
  let v2514 : BitVec 32 := Scalar.addi c0_i32_1811 v2513
  v2514.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_642 : BitVec 32 := 22#32
  let v930 : BitVec 1 := Scalar.cmpi .ne v2 c22_i32_642
  let v931 : BitVec 32 := Scalar.extui v930
  let c0_i32_643 : BitVec 32 := 0#32
  let v932 : BitVec 1 := Scalar.cmpi .ne v931 c0_i32_643
  v932

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev54 : Nat :=
  let c0_i32_1811 : BitVec 32 := 0#32
  let c22_i32_1809 : BitVec 32 := 22#32
  let c1_i32_1810 : BitVec 32 := 1#32
  let v2513 : BitVec 32 := Scalar.muli c22_i32_1809 c1_i32_1810
  let v2514 : BitVec 32 := Scalar.addi c0_i32_1811 v2513
  v2514.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_644 : BitVec 32 := 23#32
  let v933 : BitVec 1 := Scalar.cmpi .ne v2 c23_i32_644
  let v934 : BitVec 32 := Scalar.extui v933
  let c0_i32_645 : BitVec 32 := 0#32
  let v935 : BitVec 1 := Scalar.cmpi .ne v934 c0_i32_645
  v935

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev55 : Nat :=
  let c0_i32_1811 : BitVec 32 := 0#32
  let c23_i32_1809 : BitVec 32 := 23#32
  let c1_i32_1810 : BitVec 32 := 1#32
  let v2513 : BitVec 32 := Scalar.muli c23_i32_1809 c1_i32_1810
  let v2514 : BitVec 32 := Scalar.addi c0_i32_1811 v2513
  v2514.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_699 : BitVec 32 := 24#32
  let v1038 : BitVec 1 := Scalar.cmpi .ne v2 c24_i32_699
  let v1039 : BitVec 32 := Scalar.extui v1038
  let c0_i32_700 : BitVec 32 := 0#32
  let v1040 : BitVec 1 := Scalar.cmpi .ne v1039 c0_i32_700
  v1040

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev56 : Nat :=
  let c0_i32_1811 : BitVec 32 := 0#32
  let c24_i32_1809 : BitVec 32 := 24#32
  let c1_i32_1810 : BitVec 32 := 1#32
  let v2513 : BitVec 32 := Scalar.muli c24_i32_1809 c1_i32_1810
  let v2514 : BitVec 32 := Scalar.addi c0_i32_1811 v2513
  v2514.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_701 : BitVec 32 := 25#32
  let v1041 : BitVec 1 := Scalar.cmpi .ne v2 c25_i32_701
  let v1042 : BitVec 32 := Scalar.extui v1041
  let c0_i32_702 : BitVec 32 := 0#32
  let v1043 : BitVec 1 := Scalar.cmpi .ne v1042 c0_i32_702
  v1043

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev57 : Nat :=
  let c0_i32_1811 : BitVec 32 := 0#32
  let c25_i32_1809 : BitVec 32 := 25#32
  let c1_i32_1810 : BitVec 32 := 1#32
  let v2513 : BitVec 32 := Scalar.muli c25_i32_1809 c1_i32_1810
  let v2514 : BitVec 32 := Scalar.addi c0_i32_1811 v2513
  v2514.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_703 : BitVec 32 := 26#32
  let v1044 : BitVec 1 := Scalar.cmpi .ne v2 c26_i32_703
  let v1045 : BitVec 32 := Scalar.extui v1044
  let c0_i32_704 : BitVec 32 := 0#32
  let v1046 : BitVec 1 := Scalar.cmpi .ne v1045 c0_i32_704
  v1046

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev58 : Nat :=
  let c0_i32_1811 : BitVec 32 := 0#32
  let c26_i32_1809 : BitVec 32 := 26#32
  let c1_i32_1810 : BitVec 32 := 1#32
  let v2513 : BitVec 32 := Scalar.muli c26_i32_1809 c1_i32_1810
  let v2514 : BitVec 32 := Scalar.addi c0_i32_1811 v2513
  v2514.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_705 : BitVec 32 := 27#32
  let v1047 : BitVec 1 := Scalar.cmpi .ne v2 c27_i32_705
  let v1048 : BitVec 32 := Scalar.extui v1047
  let c0_i32_706 : BitVec 32 := 0#32
  let v1049 : BitVec 1 := Scalar.cmpi .ne v1048 c0_i32_706
  v1049

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev59 : Nat :=
  let c0_i32_1811 : BitVec 32 := 0#32
  let c27_i32_1809 : BitVec 32 := 27#32
  let c1_i32_1810 : BitVec 32 := 1#32
  let v2513 : BitVec 32 := Scalar.muli c27_i32_1809 c1_i32_1810
  let v2514 : BitVec 32 := Scalar.addi c0_i32_1811 v2513
  v2514.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_760 : BitVec 32 := 28#32
  let v1152 : BitVec 1 := Scalar.cmpi .ne v2 c28_i32_760
  let v1153 : BitVec 32 := Scalar.extui v1152
  let c0_i32_761 : BitVec 32 := 0#32
  let v1154 : BitVec 1 := Scalar.cmpi .ne v1153 c0_i32_761
  v1154

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev60 : Nat :=
  let c0_i32_1811 : BitVec 32 := 0#32
  let c28_i32_1809 : BitVec 32 := 28#32
  let c1_i32_1810 : BitVec 32 := 1#32
  let v2513 : BitVec 32 := Scalar.muli c28_i32_1809 c1_i32_1810
  let v2514 : BitVec 32 := Scalar.addi c0_i32_1811 v2513
  v2514.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_762 : BitVec 32 := 29#32
  let v1155 : BitVec 1 := Scalar.cmpi .ne v2 c29_i32_762
  let v1156 : BitVec 32 := Scalar.extui v1155
  let c0_i32_763 : BitVec 32 := 0#32
  let v1157 : BitVec 1 := Scalar.cmpi .ne v1156 c0_i32_763
  v1157

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev61 : Nat :=
  let c0_i32_1811 : BitVec 32 := 0#32
  let c29_i32_1809 : BitVec 32 := 29#32
  let c1_i32_1810 : BitVec 32 := 1#32
  let v2513 : BitVec 32 := Scalar.muli c29_i32_1809 c1_i32_1810
  let v2514 : BitVec 32 := Scalar.addi c0_i32_1811 v2513
  v2514.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_764 : BitVec 32 := 30#32
  let v1158 : BitVec 1 := Scalar.cmpi .ne v2 c30_i32_764
  let v1159 : BitVec 32 := Scalar.extui v1158
  let c0_i32_765 : BitVec 32 := 0#32
  let v1160 : BitVec 1 := Scalar.cmpi .ne v1159 c0_i32_765
  v1160

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev62 : Nat :=
  let c0_i32_1811 : BitVec 32 := 0#32
  let c30_i32_1809 : BitVec 32 := 30#32
  let c1_i32_1810 : BitVec 32 := 1#32
  let v2513 : BitVec 32 := Scalar.muli c30_i32_1809 c1_i32_1810
  let v2514 : BitVec 32 := Scalar.addi c0_i32_1811 v2513
  v2514.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_766 : BitVec 32 := 31#32
  let v1161 : BitVec 1 := Scalar.cmpi .ne v2 c31_i32_766
  let v1162 : BitVec 32 := Scalar.extui v1161
  let c0_i32_767 : BitVec 32 := 0#32
  let v1163 : BitVec 1 := Scalar.cmpi .ne v1162 c0_i32_767
  v1163

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1812 : BitVec 32 := 0#32
  let c0_i32_1813 : BitVec 32 := 0#32
  ![v2.toNat, 0, 0]
def k0_dev63 : Nat :=
  let c0_i32_1811 : BitVec 32 := 0#32
  let c31_i32_1809 : BitVec 32 := 31#32
  let c1_i32_1810 : BitVec 32 := 1#32
  let v2513 : BitVec 32 := Scalar.muli c31_i32_1809 c1_i32_1810
  let v2514 : BitVec 32 := Scalar.addi c0_i32_1811 v2513
  v2514.toNat
def k0_off66 (d0 : Dev nD) (c1_i32_768 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1164 : BitVec 32 := Scalar.addi v2 c1_i32_768
  let c32_i32_769 : BitVec 32 := 32#32
  let v1165 : BitVec 32 := Scalar.remsi v1164 c32_i32_769
  ![v1165.toNat]
def k0_off67 (d0 : Dev nD) (c1_i32_768 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1164 : BitVec 32 := Scalar.addi v2 c1_i32_768
  let c32_i32_769 : BitVec 32 := 32#32
  let v1165 : BitVec 32 := Scalar.remsi v1164 c32_i32_769
  let c0_i32_772 : BitVec 32 := 0#32
  let c0_i32_773 : BitVec 32 := 0#32
  ![v1165.toNat, 0, 0]
def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1028 : BitVec 32 := 0#32
  let c0_i32_1029 : BitVec 32 := 0#32
  ![v2.toNat, 0, 0]
def k0_dev64 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1024 : BitVec 32 := 1#32
  let v1484 : BitVec 32 := Scalar.addi v2 c1_i32_1024
  let c32_i32_1025 : BitVec 32 := 32#32
  let v1485 : BitVec 32 := Scalar.remsi v1484 c32_i32_1025
  let c1_i32_1026 : BitVec 32 := 1#32
  let v1486 : BitVec 32 := Scalar.muli v1485 c1_i32_1026
  let v1487 : BitVec 32 := Scalar.addi c0_i32_1027 v1486
  v1487.toNat
def k0_dev65 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1032 : BitVec 32 := 2#32
  let v1496 : BitVec 32 := Scalar.addi v2 c2_i32_1032
  let c32_i32_1033 : BitVec 32 := 32#32
  let v1497 : BitVec 32 := Scalar.remsi v1496 c32_i32_1033
  let c1_i32_1034 : BitVec 32 := 1#32
  let v1498 : BitVec 32 := Scalar.muli v1497 c1_i32_1034
  let v1499 : BitVec 32 := Scalar.addi c0_i32_1035 v1498
  v1499.toNat
def k0_dev66 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1040 : BitVec 32 := 3#32
  let v1508 : BitVec 32 := Scalar.addi v2 c3_i32_1040
  let c32_i32_1041 : BitVec 32 := 32#32
  let v1509 : BitVec 32 := Scalar.remsi v1508 c32_i32_1041
  let c1_i32_1042 : BitVec 32 := 1#32
  let v1510 : BitVec 32 := Scalar.muli v1509 c1_i32_1042
  let v1511 : BitVec 32 := Scalar.addi c0_i32_1043 v1510
  v1511.toNat
def k0_dev67 (d0 : Dev nD) : Nat :=
  let c0_i32_1051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1048 : BitVec 32 := 4#32
  let v1520 : BitVec 32 := Scalar.addi v2 c4_i32_1048
  let c32_i32_1049 : BitVec 32 := 32#32
  let v1521 : BitVec 32 := Scalar.remsi v1520 c32_i32_1049
  let c1_i32_1050 : BitVec 32 := 1#32
  let v1522 : BitVec 32 := Scalar.muli v1521 c1_i32_1050
  let v1523 : BitVec 32 := Scalar.addi c0_i32_1051 v1522
  v1523.toNat
def k0_dev68 (d0 : Dev nD) : Nat :=
  let c0_i32_1059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1056 : BitVec 32 := 5#32
  let v1532 : BitVec 32 := Scalar.addi v2 c5_i32_1056
  let c32_i32_1057 : BitVec 32 := 32#32
  let v1533 : BitVec 32 := Scalar.remsi v1532 c32_i32_1057
  let c1_i32_1058 : BitVec 32 := 1#32
  let v1534 : BitVec 32 := Scalar.muli v1533 c1_i32_1058
  let v1535 : BitVec 32 := Scalar.addi c0_i32_1059 v1534
  v1535.toNat
def k0_dev69 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1064 : BitVec 32 := 6#32
  let v1544 : BitVec 32 := Scalar.addi v2 c6_i32_1064
  let c32_i32_1065 : BitVec 32 := 32#32
  let v1545 : BitVec 32 := Scalar.remsi v1544 c32_i32_1065
  let c1_i32_1066 : BitVec 32 := 1#32
  let v1546 : BitVec 32 := Scalar.muli v1545 c1_i32_1066
  let v1547 : BitVec 32 := Scalar.addi c0_i32_1067 v1546
  v1547.toNat
def k0_dev70 (d0 : Dev nD) : Nat :=
  let c0_i32_1075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1072 : BitVec 32 := 7#32
  let v1556 : BitVec 32 := Scalar.addi v2 c7_i32_1072
  let c32_i32_1073 : BitVec 32 := 32#32
  let v1557 : BitVec 32 := Scalar.remsi v1556 c32_i32_1073
  let c1_i32_1074 : BitVec 32 := 1#32
  let v1558 : BitVec 32 := Scalar.muli v1557 c1_i32_1074
  let v1559 : BitVec 32 := Scalar.addi c0_i32_1075 v1558
  v1559.toNat
def k0_dev71 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1080 : BitVec 32 := 8#32
  let v1568 : BitVec 32 := Scalar.addi v2 c8_i32_1080
  let c32_i32_1081 : BitVec 32 := 32#32
  let v1569 : BitVec 32 := Scalar.remsi v1568 c32_i32_1081
  let c1_i32_1082 : BitVec 32 := 1#32
  let v1570 : BitVec 32 := Scalar.muli v1569 c1_i32_1082
  let v1571 : BitVec 32 := Scalar.addi c0_i32_1083 v1570
  v1571.toNat
def k0_dev72 (d0 : Dev nD) : Nat :=
  let c0_i32_1091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1088 : BitVec 32 := 9#32
  let v1580 : BitVec 32 := Scalar.addi v2 c9_i32_1088
  let c32_i32_1089 : BitVec 32 := 32#32
  let v1581 : BitVec 32 := Scalar.remsi v1580 c32_i32_1089
  let c1_i32_1090 : BitVec 32 := 1#32
  let v1582 : BitVec 32 := Scalar.muli v1581 c1_i32_1090
  let v1583 : BitVec 32 := Scalar.addi c0_i32_1091 v1582
  v1583.toNat
def k0_dev73 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1096 : BitVec 32 := 10#32
  let v1592 : BitVec 32 := Scalar.addi v2 c10_i32_1096
  let c32_i32_1097 : BitVec 32 := 32#32
  let v1593 : BitVec 32 := Scalar.remsi v1592 c32_i32_1097
  let c1_i32_1098 : BitVec 32 := 1#32
  let v1594 : BitVec 32 := Scalar.muli v1593 c1_i32_1098
  let v1595 : BitVec 32 := Scalar.addi c0_i32_1099 v1594
  v1595.toNat
def k0_dev74 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1104 : BitVec 32 := 11#32
  let v1604 : BitVec 32 := Scalar.addi v2 c11_i32_1104
  let c32_i32_1105 : BitVec 32 := 32#32
  let v1605 : BitVec 32 := Scalar.remsi v1604 c32_i32_1105
  let c1_i32_1106 : BitVec 32 := 1#32
  let v1606 : BitVec 32 := Scalar.muli v1605 c1_i32_1106
  let v1607 : BitVec 32 := Scalar.addi c0_i32_1107 v1606
  v1607.toNat
def k0_dev75 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1112 : BitVec 32 := 12#32
  let v1616 : BitVec 32 := Scalar.addi v2 c12_i32_1112
  let c32_i32_1113 : BitVec 32 := 32#32
  let v1617 : BitVec 32 := Scalar.remsi v1616 c32_i32_1113
  let c1_i32_1114 : BitVec 32 := 1#32
  let v1618 : BitVec 32 := Scalar.muli v1617 c1_i32_1114
  let v1619 : BitVec 32 := Scalar.addi c0_i32_1115 v1618
  v1619.toNat
def k0_dev76 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1120 : BitVec 32 := 13#32
  let v1628 : BitVec 32 := Scalar.addi v2 c13_i32_1120
  let c32_i32_1121 : BitVec 32 := 32#32
  let v1629 : BitVec 32 := Scalar.remsi v1628 c32_i32_1121
  let c1_i32_1122 : BitVec 32 := 1#32
  let v1630 : BitVec 32 := Scalar.muli v1629 c1_i32_1122
  let v1631 : BitVec 32 := Scalar.addi c0_i32_1123 v1630
  v1631.toNat
def k0_dev77 (d0 : Dev nD) : Nat :=
  let c0_i32_1131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1128 : BitVec 32 := 14#32
  let v1640 : BitVec 32 := Scalar.addi v2 c14_i32_1128
  let c32_i32_1129 : BitVec 32 := 32#32
  let v1641 : BitVec 32 := Scalar.remsi v1640 c32_i32_1129
  let c1_i32_1130 : BitVec 32 := 1#32
  let v1642 : BitVec 32 := Scalar.muli v1641 c1_i32_1130
  let v1643 : BitVec 32 := Scalar.addi c0_i32_1131 v1642
  v1643.toNat
def k0_dev78 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1136 : BitVec 32 := 15#32
  let v1652 : BitVec 32 := Scalar.addi v2 c15_i32_1136
  let c32_i32_1137 : BitVec 32 := 32#32
  let v1653 : BitVec 32 := Scalar.remsi v1652 c32_i32_1137
  let c1_i32_1138 : BitVec 32 := 1#32
  let v1654 : BitVec 32 := Scalar.muli v1653 c1_i32_1138
  let v1655 : BitVec 32 := Scalar.addi c0_i32_1139 v1654
  v1655.toNat
def k0_dev79 (d0 : Dev nD) : Nat :=
  let c0_i32_1147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1144 : BitVec 32 := 16#32
  let v1664 : BitVec 32 := Scalar.addi v2 c16_i32_1144
  let c32_i32_1145 : BitVec 32 := 32#32
  let v1665 : BitVec 32 := Scalar.remsi v1664 c32_i32_1145
  let c1_i32_1146 : BitVec 32 := 1#32
  let v1666 : BitVec 32 := Scalar.muli v1665 c1_i32_1146
  let v1667 : BitVec 32 := Scalar.addi c0_i32_1147 v1666
  v1667.toNat
def k0_dev80 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1152 : BitVec 32 := 17#32
  let v1676 : BitVec 32 := Scalar.addi v2 c17_i32_1152
  let c32_i32_1153 : BitVec 32 := 32#32
  let v1677 : BitVec 32 := Scalar.remsi v1676 c32_i32_1153
  let c1_i32_1154 : BitVec 32 := 1#32
  let v1678 : BitVec 32 := Scalar.muli v1677 c1_i32_1154
  let v1679 : BitVec 32 := Scalar.addi c0_i32_1155 v1678
  v1679.toNat
def k0_dev81 (d0 : Dev nD) : Nat :=
  let c0_i32_1163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1160 : BitVec 32 := 18#32
  let v1688 : BitVec 32 := Scalar.addi v2 c18_i32_1160
  let c32_i32_1161 : BitVec 32 := 32#32
  let v1689 : BitVec 32 := Scalar.remsi v1688 c32_i32_1161
  let c1_i32_1162 : BitVec 32 := 1#32
  let v1690 : BitVec 32 := Scalar.muli v1689 c1_i32_1162
  let v1691 : BitVec 32 := Scalar.addi c0_i32_1163 v1690
  v1691.toNat
def k0_dev82 (d0 : Dev nD) : Nat :=
  let c0_i32_1171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1168 : BitVec 32 := 19#32
  let v1700 : BitVec 32 := Scalar.addi v2 c19_i32_1168
  let c32_i32_1169 : BitVec 32 := 32#32
  let v1701 : BitVec 32 := Scalar.remsi v1700 c32_i32_1169
  let c1_i32_1170 : BitVec 32 := 1#32
  let v1702 : BitVec 32 := Scalar.muli v1701 c1_i32_1170
  let v1703 : BitVec 32 := Scalar.addi c0_i32_1171 v1702
  v1703.toNat
def k0_dev83 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1176 : BitVec 32 := 20#32
  let v1712 : BitVec 32 := Scalar.addi v2 c20_i32_1176
  let c32_i32_1177 : BitVec 32 := 32#32
  let v1713 : BitVec 32 := Scalar.remsi v1712 c32_i32_1177
  let c1_i32_1178 : BitVec 32 := 1#32
  let v1714 : BitVec 32 := Scalar.muli v1713 c1_i32_1178
  let v1715 : BitVec 32 := Scalar.addi c0_i32_1179 v1714
  v1715.toNat
def k0_dev84 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1184 : BitVec 32 := 21#32
  let v1724 : BitVec 32 := Scalar.addi v2 c21_i32_1184
  let c32_i32_1185 : BitVec 32 := 32#32
  let v1725 : BitVec 32 := Scalar.remsi v1724 c32_i32_1185
  let c1_i32_1186 : BitVec 32 := 1#32
  let v1726 : BitVec 32 := Scalar.muli v1725 c1_i32_1186
  let v1727 : BitVec 32 := Scalar.addi c0_i32_1187 v1726
  v1727.toNat
def k0_dev85 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1192 : BitVec 32 := 22#32
  let v1736 : BitVec 32 := Scalar.addi v2 c22_i32_1192
  let c32_i32_1193 : BitVec 32 := 32#32
  let v1737 : BitVec 32 := Scalar.remsi v1736 c32_i32_1193
  let c1_i32_1194 : BitVec 32 := 1#32
  let v1738 : BitVec 32 := Scalar.muli v1737 c1_i32_1194
  let v1739 : BitVec 32 := Scalar.addi c0_i32_1195 v1738
  v1739.toNat
def k0_dev86 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1200 : BitVec 32 := 23#32
  let v1748 : BitVec 32 := Scalar.addi v2 c23_i32_1200
  let c32_i32_1201 : BitVec 32 := 32#32
  let v1749 : BitVec 32 := Scalar.remsi v1748 c32_i32_1201
  let c1_i32_1202 : BitVec 32 := 1#32
  let v1750 : BitVec 32 := Scalar.muli v1749 c1_i32_1202
  let v1751 : BitVec 32 := Scalar.addi c0_i32_1203 v1750
  v1751.toNat
def k0_dev87 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1208 : BitVec 32 := 24#32
  let v1760 : BitVec 32 := Scalar.addi v2 c24_i32_1208
  let c32_i32_1209 : BitVec 32 := 32#32
  let v1761 : BitVec 32 := Scalar.remsi v1760 c32_i32_1209
  let c1_i32_1210 : BitVec 32 := 1#32
  let v1762 : BitVec 32 := Scalar.muli v1761 c1_i32_1210
  let v1763 : BitVec 32 := Scalar.addi c0_i32_1211 v1762
  v1763.toNat
def k0_dev88 (d0 : Dev nD) : Nat :=
  let c0_i32_1219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1216 : BitVec 32 := 25#32
  let v1772 : BitVec 32 := Scalar.addi v2 c25_i32_1216
  let c32_i32_1217 : BitVec 32 := 32#32
  let v1773 : BitVec 32 := Scalar.remsi v1772 c32_i32_1217
  let c1_i32_1218 : BitVec 32 := 1#32
  let v1774 : BitVec 32 := Scalar.muli v1773 c1_i32_1218
  let v1775 : BitVec 32 := Scalar.addi c0_i32_1219 v1774
  v1775.toNat
def k0_dev89 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1224 : BitVec 32 := 26#32
  let v1784 : BitVec 32 := Scalar.addi v2 c26_i32_1224
  let c32_i32_1225 : BitVec 32 := 32#32
  let v1785 : BitVec 32 := Scalar.remsi v1784 c32_i32_1225
  let c1_i32_1226 : BitVec 32 := 1#32
  let v1786 : BitVec 32 := Scalar.muli v1785 c1_i32_1226
  let v1787 : BitVec 32 := Scalar.addi c0_i32_1227 v1786
  v1787.toNat
def k0_dev90 (d0 : Dev nD) : Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1232 : BitVec 32 := 27#32
  let v1796 : BitVec 32 := Scalar.addi v2 c27_i32_1232
  let c32_i32_1233 : BitVec 32 := 32#32
  let v1797 : BitVec 32 := Scalar.remsi v1796 c32_i32_1233
  let c1_i32_1234 : BitVec 32 := 1#32
  let v1798 : BitVec 32 := Scalar.muli v1797 c1_i32_1234
  let v1799 : BitVec 32 := Scalar.addi c0_i32_1235 v1798
  v1799.toNat
def k0_dev91 (d0 : Dev nD) : Nat :=
  let c0_i32_1243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1240 : BitVec 32 := 28#32
  let v1808 : BitVec 32 := Scalar.addi v2 c28_i32_1240
  let c32_i32_1241 : BitVec 32 := 32#32
  let v1809 : BitVec 32 := Scalar.remsi v1808 c32_i32_1241
  let c1_i32_1242 : BitVec 32 := 1#32
  let v1810 : BitVec 32 := Scalar.muli v1809 c1_i32_1242
  let v1811 : BitVec 32 := Scalar.addi c0_i32_1243 v1810
  v1811.toNat
def k0_dev92 (d0 : Dev nD) : Nat :=
  let c0_i32_1251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1248 : BitVec 32 := 29#32
  let v1820 : BitVec 32 := Scalar.addi v2 c29_i32_1248
  let c32_i32_1249 : BitVec 32 := 32#32
  let v1821 : BitVec 32 := Scalar.remsi v1820 c32_i32_1249
  let c1_i32_1250 : BitVec 32 := 1#32
  let v1822 : BitVec 32 := Scalar.muli v1821 c1_i32_1250
  let v1823 : BitVec 32 := Scalar.addi c0_i32_1251 v1822
  v1823.toNat
def k0_dev93 (d0 : Dev nD) : Nat :=
  let c0_i32_1259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1256 : BitVec 32 := 30#32
  let v1832 : BitVec 32 := Scalar.addi v2 c30_i32_1256
  let c32_i32_1257 : BitVec 32 := 32#32
  let v1833 : BitVec 32 := Scalar.remsi v1832 c32_i32_1257
  let c1_i32_1258 : BitVec 32 := 1#32
  let v1834 : BitVec 32 := Scalar.muli v1833 c1_i32_1258
  let v1835 : BitVec 32 := Scalar.addi c0_i32_1259 v1834
  v1835.toNat
def k0_dev94 (d0 : Dev nD) : Nat :=
  let c0_i32_1267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1264 : BitVec 32 := 31#32
  let v1844 : BitVec 32 := Scalar.addi v2 c31_i32_1264
  let c32_i32_1265 : BitVec 32 := 32#32
  let v1845 : BitVec 32 := Scalar.remsi v1844 c32_i32_1265
  let c1_i32_1266 : BitVec 32 := 1#32
  let v1846 : BitVec 32 := Scalar.muli v1845 c1_i32_1266
  let v1847 : BitVec 32 := Scalar.addi c0_i32_1267 v1846
  v1847.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1520 : BitVec 32 := 0#32
  let v2166 : BitVec 1 := Scalar.cmpi .ne v2 c0_i32_1520
  let v2167 : BitVec 32 := Scalar.extui v2166
  let c0_i32_1521 : BitVec 32 := 0#32
  let v2168 : BitVec 1 := Scalar.cmpi .ne v2167 c0_i32_1521
  v2168

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1522 : BitVec 32 := 1#32
  let v2169 : BitVec 1 := Scalar.cmpi .ne v2 c1_i32_1522
  let v2170 : BitVec 32 := Scalar.extui v2169
  let c0_i32_1523 : BitVec 32 := 0#32
  let v2171 : BitVec 1 := Scalar.cmpi .ne v2170 c0_i32_1523
  v2171

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1524 : BitVec 32 := 2#32
  let v2172 : BitVec 1 := Scalar.cmpi .ne v2 c2_i32_1524
  let v2173 : BitVec 32 := Scalar.extui v2172
  let c0_i32_1525 : BitVec 32 := 0#32
  let v2174 : BitVec 1 := Scalar.cmpi .ne v2173 c0_i32_1525
  v2174

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1526 : BitVec 32 := 3#32
  let v2175 : BitVec 1 := Scalar.cmpi .ne v2 c3_i32_1526
  let v2176 : BitVec 32 := Scalar.extui v2175
  let c0_i32_1527 : BitVec 32 := 0#32
  let v2177 : BitVec 1 := Scalar.cmpi .ne v2176 c0_i32_1527
  v2177

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1528 : BitVec 32 := 4#32
  let v2178 : BitVec 1 := Scalar.cmpi .ne v2 c4_i32_1528
  let v2179 : BitVec 32 := Scalar.extui v2178
  let c0_i32_1529 : BitVec 32 := 0#32
  let v2180 : BitVec 1 := Scalar.cmpi .ne v2179 c0_i32_1529
  v2180

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1530 : BitVec 32 := 5#32
  let v2181 : BitVec 1 := Scalar.cmpi .ne v2 c5_i32_1530
  let v2182 : BitVec 32 := Scalar.extui v2181
  let c0_i32_1531 : BitVec 32 := 0#32
  let v2183 : BitVec 1 := Scalar.cmpi .ne v2182 c0_i32_1531
  v2183

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1532 : BitVec 32 := 6#32
  let v2184 : BitVec 1 := Scalar.cmpi .ne v2 c6_i32_1532
  let v2185 : BitVec 32 := Scalar.extui v2184
  let c0_i32_1533 : BitVec 32 := 0#32
  let v2186 : BitVec 1 := Scalar.cmpi .ne v2185 c0_i32_1533
  v2186

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1534 : BitVec 32 := 7#32
  let v2187 : BitVec 1 := Scalar.cmpi .ne v2 c7_i32_1534
  let v2188 : BitVec 32 := Scalar.extui v2187
  let c0_i32_1535 : BitVec 32 := 0#32
  let v2189 : BitVec 1 := Scalar.cmpi .ne v2188 c0_i32_1535
  v2189

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1536 : BitVec 32 := 8#32
  let v2190 : BitVec 1 := Scalar.cmpi .ne v2 c8_i32_1536
  let v2191 : BitVec 32 := Scalar.extui v2190
  let c0_i32_1537 : BitVec 32 := 0#32
  let v2192 : BitVec 1 := Scalar.cmpi .ne v2191 c0_i32_1537
  v2192

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1538 : BitVec 32 := 9#32
  let v2193 : BitVec 1 := Scalar.cmpi .ne v2 c9_i32_1538
  let v2194 : BitVec 32 := Scalar.extui v2193
  let c0_i32_1539 : BitVec 32 := 0#32
  let v2195 : BitVec 1 := Scalar.cmpi .ne v2194 c0_i32_1539
  v2195

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1540 : BitVec 32 := 10#32
  let v2196 : BitVec 1 := Scalar.cmpi .ne v2 c10_i32_1540
  let v2197 : BitVec 32 := Scalar.extui v2196
  let c0_i32_1541 : BitVec 32 := 0#32
  let v2198 : BitVec 1 := Scalar.cmpi .ne v2197 c0_i32_1541
  v2198

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1542 : BitVec 32 := 11#32
  let v2199 : BitVec 1 := Scalar.cmpi .ne v2 c11_i32_1542
  let v2200 : BitVec 32 := Scalar.extui v2199
  let c0_i32_1543 : BitVec 32 := 0#32
  let v2201 : BitVec 1 := Scalar.cmpi .ne v2200 c0_i32_1543
  v2201

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1544 : BitVec 32 := 12#32
  let v2202 : BitVec 1 := Scalar.cmpi .ne v2 c12_i32_1544
  let v2203 : BitVec 32 := Scalar.extui v2202
  let c0_i32_1545 : BitVec 32 := 0#32
  let v2204 : BitVec 1 := Scalar.cmpi .ne v2203 c0_i32_1545
  v2204

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1546 : BitVec 32 := 13#32
  let v2205 : BitVec 1 := Scalar.cmpi .ne v2 c13_i32_1546
  let v2206 : BitVec 32 := Scalar.extui v2205
  let c0_i32_1547 : BitVec 32 := 0#32
  let v2207 : BitVec 1 := Scalar.cmpi .ne v2206 c0_i32_1547
  v2207

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1548 : BitVec 32 := 14#32
  let v2208 : BitVec 1 := Scalar.cmpi .ne v2 c14_i32_1548
  let v2209 : BitVec 32 := Scalar.extui v2208
  let c0_i32_1549 : BitVec 32 := 0#32
  let v2210 : BitVec 1 := Scalar.cmpi .ne v2209 c0_i32_1549
  v2210

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1550 : BitVec 32 := 15#32
  let v2211 : BitVec 1 := Scalar.cmpi .ne v2 c15_i32_1550
  let v2212 : BitVec 32 := Scalar.extui v2211
  let c0_i32_1551 : BitVec 32 := 0#32
  let v2213 : BitVec 1 := Scalar.cmpi .ne v2212 c0_i32_1551
  v2213

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1552 : BitVec 32 := 16#32
  let v2214 : BitVec 1 := Scalar.cmpi .ne v2 c16_i32_1552
  let v2215 : BitVec 32 := Scalar.extui v2214
  let c0_i32_1553 : BitVec 32 := 0#32
  let v2216 : BitVec 1 := Scalar.cmpi .ne v2215 c0_i32_1553
  v2216

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1554 : BitVec 32 := 17#32
  let v2217 : BitVec 1 := Scalar.cmpi .ne v2 c17_i32_1554
  let v2218 : BitVec 32 := Scalar.extui v2217
  let c0_i32_1555 : BitVec 32 := 0#32
  let v2219 : BitVec 1 := Scalar.cmpi .ne v2218 c0_i32_1555
  v2219

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1556 : BitVec 32 := 18#32
  let v2220 : BitVec 1 := Scalar.cmpi .ne v2 c18_i32_1556
  let v2221 : BitVec 32 := Scalar.extui v2220
  let c0_i32_1557 : BitVec 32 := 0#32
  let v2222 : BitVec 1 := Scalar.cmpi .ne v2221 c0_i32_1557
  v2222

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1558 : BitVec 32 := 19#32
  let v2223 : BitVec 1 := Scalar.cmpi .ne v2 c19_i32_1558
  let v2224 : BitVec 32 := Scalar.extui v2223
  let c0_i32_1559 : BitVec 32 := 0#32
  let v2225 : BitVec 1 := Scalar.cmpi .ne v2224 c0_i32_1559
  v2225

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1560 : BitVec 32 := 20#32
  let v2226 : BitVec 1 := Scalar.cmpi .ne v2 c20_i32_1560
  let v2227 : BitVec 32 := Scalar.extui v2226
  let c0_i32_1561 : BitVec 32 := 0#32
  let v2228 : BitVec 1 := Scalar.cmpi .ne v2227 c0_i32_1561
  v2228

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1562 : BitVec 32 := 21#32
  let v2229 : BitVec 1 := Scalar.cmpi .ne v2 c21_i32_1562
  let v2230 : BitVec 32 := Scalar.extui v2229
  let c0_i32_1563 : BitVec 32 := 0#32
  let v2231 : BitVec 1 := Scalar.cmpi .ne v2230 c0_i32_1563
  v2231

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1564 : BitVec 32 := 22#32
  let v2232 : BitVec 1 := Scalar.cmpi .ne v2 c22_i32_1564
  let v2233 : BitVec 32 := Scalar.extui v2232
  let c0_i32_1565 : BitVec 32 := 0#32
  let v2234 : BitVec 1 := Scalar.cmpi .ne v2233 c0_i32_1565
  v2234

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1566 : BitVec 32 := 23#32
  let v2235 : BitVec 1 := Scalar.cmpi .ne v2 c23_i32_1566
  let v2236 : BitVec 32 := Scalar.extui v2235
  let c0_i32_1567 : BitVec 32 := 0#32
  let v2237 : BitVec 1 := Scalar.cmpi .ne v2236 c0_i32_1567
  v2237

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1568 : BitVec 32 := 24#32
  let v2238 : BitVec 1 := Scalar.cmpi .ne v2 c24_i32_1568
  let v2239 : BitVec 32 := Scalar.extui v2238
  let c0_i32_1569 : BitVec 32 := 0#32
  let v2240 : BitVec 1 := Scalar.cmpi .ne v2239 c0_i32_1569
  v2240

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1570 : BitVec 32 := 25#32
  let v2241 : BitVec 1 := Scalar.cmpi .ne v2 c25_i32_1570
  let v2242 : BitVec 32 := Scalar.extui v2241
  let c0_i32_1571 : BitVec 32 := 0#32
  let v2243 : BitVec 1 := Scalar.cmpi .ne v2242 c0_i32_1571
  v2243

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1572 : BitVec 32 := 26#32
  let v2244 : BitVec 1 := Scalar.cmpi .ne v2 c26_i32_1572
  let v2245 : BitVec 32 := Scalar.extui v2244
  let c0_i32_1573 : BitVec 32 := 0#32
  let v2246 : BitVec 1 := Scalar.cmpi .ne v2245 c0_i32_1573
  v2246

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1574 : BitVec 32 := 27#32
  let v2247 : BitVec 1 := Scalar.cmpi .ne v2 c27_i32_1574
  let v2248 : BitVec 32 := Scalar.extui v2247
  let c0_i32_1575 : BitVec 32 := 0#32
  let v2249 : BitVec 1 := Scalar.cmpi .ne v2248 c0_i32_1575
  v2249

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1576 : BitVec 32 := 28#32
  let v2250 : BitVec 1 := Scalar.cmpi .ne v2 c28_i32_1576
  let v2251 : BitVec 32 := Scalar.extui v2250
  let c0_i32_1577 : BitVec 32 := 0#32
  let v2252 : BitVec 1 := Scalar.cmpi .ne v2251 c0_i32_1577
  v2252

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1578 : BitVec 32 := 29#32
  let v2253 : BitVec 1 := Scalar.cmpi .ne v2 c29_i32_1578
  let v2254 : BitVec 32 := Scalar.extui v2253
  let c0_i32_1579 : BitVec 32 := 0#32
  let v2255 : BitVec 1 := Scalar.cmpi .ne v2254 c0_i32_1579
  v2255

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1580 : BitVec 32 := 30#32
  let v2256 : BitVec 1 := Scalar.cmpi .ne v2 c30_i32_1580
  let v2257 : BitVec 32 := Scalar.extui v2256
  let c0_i32_1581 : BitVec 32 := 0#32
  let v2258 : BitVec 1 := Scalar.cmpi .ne v2257 c0_i32_1581
  v2258

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1582 : BitVec 32 := 31#32
  let v2259 : BitVec 1 := Scalar.cmpi .ne v2 c31_i32_1582
  let v2260 : BitVec 32 := Scalar.extui v2259
  let c0_i32_1583 : BitVec 32 := 0#32
  let v2261 : BitVec 1 := Scalar.cmpi .ne v2260 c0_i32_1583
  v2261

def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1813 : BitVec 32 := 0#32
  let c0_i32_1814 : BitVec 32 := 0#32
  ![v2.toNat, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
variable {F : FTy → Type} [FloatOps F] [Named F]
def κ : String → Option EReal := fun
  | "mask" => some ⊥
  | _ => none
-- ==== Reference.lean ====
abbrev S2x256x512 : Shape := ⟨3, ![2, 256, 512]⟩
abbrev S512x8192 : Shape := ⟨2, ![512, 8192]⟩
abbrev S2x256x64x128 : Shape := ⟨4, ![2, 256, 64, 128]⟩
abbrev S8192x512 : Shape := ⟨2, ![8192, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x256x128x64 : Shape := ⟨4, ![2, 256, 128, 64]⟩
abbrev S2x256x8192 : Shape := ⟨3, ![2, 256, 8192]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 102
  | .vmem => 2
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x64x128, .f32⟩
  | .hbm, ⟨3, _⟩ => ⟨S2x256x64x128, .f32⟩
  | .hbm, ⟨4, _⟩ => ⟨S8192x512, .f32⟩
  | .hbm, ⟨5, _⟩ => ⟨S256, .i32⟩
  | .hbm, ⟨6, _⟩ => ⟨S_, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i1⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S256, .i32⟩
  | .hbm, ⟨26, _⟩ => ⟨S_, .i32⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i1⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S_, .i32⟩
  | .hbm, ⟨52, _⟩ => ⟨S256x1, .i32⟩
  | .hbm, ⟨53, _⟩ => ⟨S256x1, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S256x256, .i1⟩
  | .hbm, ⟨58, _⟩ => ⟨S256x256, .i32⟩
  | .hbm, ⟨59, _⟩ => ⟨S256x256, .f32⟩
  | .hbm, ⟨60, _⟩ => ⟨S2x256x128x64, .f32⟩
  | .hbm, ⟨61, _⟩ => ⟨S2x256x128x64, .f32⟩
  | .hbm, ⟨62, _⟩ => ⟨S2x256x8192, .f32⟩
  | .hbm, ⟨63, _⟩ => ⟨S2x256x128x64, .f32⟩
  | .hbm, ⟨64, _⟩ => ⟨S2x128x256x256, .f32⟩
  | .hbm, ⟨65, _⟩ => ⟨S_, .f32⟩
  | .hbm, ⟨66, _⟩ => ⟨S2x128x256x256, .f32⟩
  | .hbm, ⟨67, _⟩ => ⟨S2x128x256x256, .f32⟩
  | .hbm, ⟨68, _⟩ => ⟨S1x1x256x256, .i1⟩
  | .hbm, ⟨69, _⟩ => ⟨S1x1x256x256, .f32⟩
  | .hbm, ⟨70, _⟩ => ⟨S2x128x256x256, .i1⟩
  | .hbm, ⟨71, _⟩ => ⟨S2x128x256x256, .f32⟩
  | .hbm, ⟨72, _⟩ => ⟨S2x128x256x256, .f32⟩
  | .hbm, ⟨73, _⟩ => ⟨S_, .f32⟩
  | .hbm, ⟨74, _⟩ => ⟨S2x128x256, .f32⟩
  | .hbm, ⟨75, _⟩ => ⟨S2x128x256x1, .f32⟩
  | .hbm, ⟨76, _⟩ => ⟨S2x128x256x256, .f32⟩
  | .hbm, ⟨77, _⟩ => ⟨S2x128x256x256, .f32⟩
  | .hbm, ⟨78, _⟩ => ⟨S2x128x256x256, .f32⟩
  | .hbm, ⟨79, _⟩ => ⟨S_, .i1⟩
  | .hbm, ⟨80, _⟩ => ⟨S256, .i1⟩
  | .hbm, ⟨81, _⟩ => ⟨S1x1x256x1, .i1⟩
  | .hbm, ⟨82, _⟩ => ⟨S_, .f32⟩
  | .hbm, ⟨83, _⟩ => ⟨S2x128x256, .f32⟩
  | .hbm, ⟨84, _⟩ => ⟨S2x128x256x1, .f32⟩
  | .hbm, ⟨85, _⟩ => ⟨S_, .f32⟩
  | .hbm, ⟨86, _⟩ => ⟨S_, .f32⟩
  | .hbm, ⟨87, _⟩ => ⟨S2x128x256x1, .i1⟩
  | .hbm, ⟨88, _⟩ => ⟨S2x128x256x1, .f32⟩
  | .hbm, ⟨89, _⟩ => ⟨S2x128x256x1, .f32⟩
  | .hbm, ⟨90, _⟩ => ⟨S2x128x256x256, .f32⟩
  | .hbm, ⟨91, _⟩ => ⟨S2x128x256x256, .f32⟩
  | .hbm, ⟨92, _⟩ => ⟨S1x1x256x1, .i1⟩
  | .hbm, ⟨93, _⟩ => ⟨S_, .f32⟩
  | .hbm, ⟨94, _⟩ => ⟨S_, .f32⟩
  | .hbm, ⟨95, _⟩ => ⟨S2x128x256x256, .i1⟩
  | .hbm, ⟨96, _⟩ => ⟨S2x128x256x256, .f32⟩
  | .hbm, ⟨97, _⟩ => ⟨S2x128x256x256, .f32⟩
  | .hbm, ⟨98, _⟩ => ⟨S2x128x64x256, .f32⟩
  | .hbm, ⟨99, _⟩ => ⟨S2x256x128x64, .f32⟩
  | .hbm, ⟨100, _⟩ => ⟨S2x256x8192, .f32⟩
  | .hbm, ⟨101, _⟩ => ⟨S2x256x512, .f32⟩
  | .local _ .vmem, ⟨0, _⟩ => ⟨S256x256, .i32⟩
  | .local _ .vmem, ⟨1, _⟩ => ⟨S256x256, .f32⟩
  | _, _ => ⟨S2x256x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_c_1 : Ref sig .tc := ⟨.hbm, 48, rfl⟩
abbrev main_v9 : Ref sig .tc := ⟨.hbm, 49, rfl⟩
abbrev main_v10 : Ref sig .tc := ⟨.hbm, 50, rfl⟩
abbrev main_c_2 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_call2_v0 : Ref sig .tc := ⟨.hbm, 70, rfl⟩
abbrev main_call2_v1 : Ref sig .tc := ⟨.hbm, 71, rfl⟩
abbrev main_v28 : Ref sig .tc := ⟨.hbm, 72, rfl⟩
abbrev main_cst_3 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c_4 : Ref sig .tc := ⟨.hbm, 79, rfl⟩
abbrev main_v34 : Ref sig .tc := ⟨.hbm, 80, rfl⟩
abbrev main_v35 : Ref sig .tc := ⟨.hbm, 81, rfl⟩
abbrev main_cst_5 : Ref sig .tc := ⟨.hbm, 82, rfl⟩
abbrev main_v36 : Ref sig .tc := ⟨.hbm, 83, rfl⟩
abbrev main_v37 : Ref sig .tc := ⟨.hbm, 84, rfl⟩
abbrev main_cst_6 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_7 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Proto.lean ====
/-
# The protocol of the kernel

Thirty-two devices run one body. Device `c` copies its two operand blocks tile by tile into scratch, opens with
a barrier over all thirty-two devices, computes its part of the product (`accPart`), sends row `k` of it to
device `k` (the scatter), adds up the thirty-one rows it receives (`red`), and sends the sum to every other
device (the gather).

The semaphores of a device, with who pays them and what a payment hands over:

* the barrier: device `d` pays device `c` one unit and with it row `c` of its own landing buffer;
* the sixteen semaphores of the local copies: the copy pays the tile it wrote and the tile it read;
* `rs_send[k]`: the copy of row `k` to device `k`, nothing (its source goes with the landing);
* `rs_recv[k]`: device `k`'s copy, the landing row `k` filled with device `k`'s part of row `c`, and row `c`
  of device `k`'s accumulator, which the gather overwrites later;
* `ag_send[k]`: the copy of the sum to device `k`, the share of the source row;
* `ag_recv[k]`: device `k`'s sum, in row `k` of this device's accumulator.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.SparseCore.Stream
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and this protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the ring -/

set_option backward.proofsInPublic true in
/-- The device `i` places after `c`. -/
def pr (c : Dev nD) (i : ℕ) : Dev nD := ⟨(c.val + i) % 32, Nat.mod_lt _ (by decide)⟩
/-- How many places after `c` the device `p` stands. -/
def off (c p : Dev nD) : ℕ := (p.val + 32 - c.val) % 32

theorem off_lt (c p : Dev nD) : off c p < 32 := Nat.mod_lt _ (by decide)
theorem off_self (c : Dev nD) : off c c = 0 := by unfold off; have := c.isLt; omega
theorem off_pr (c : Dev nD) (i : ℕ) (h : i < 32) : off c (pr c i) = i := by
  unfold off pr; have : c.val < 32 := c.isLt; dsimp only; omega
theorem pr_off (c p : Dev nD) : pr c (off c p) = p := by
  unfold off pr; have : c.val < 32 := c.isLt; have : p.val < 32 := p.isLt; apply Fin.ext; dsimp only; omega
theorem off_eq_zero {c p : Dev nD} : off c p = 0 ↔ p = c := by
  unfold off; have : c.val < 32 := c.isLt; have : p.val < 32 := p.isLt
  constructor
  · intro h; apply Fin.ext; omega
  · rintro rfl; omega
theorem pr_ne (c : Dev nD) (i : ℕ) (h1 : 1 ≤ i) (h : i < 32) : pr c i ≠ c := by
  intro e; have := off_pr c i h; rw [e, off_self] at this; omega

/-! ## Semaphores and cells -/

abbrev barS : Sem sig := (SemArray.scalar (sig.barrier 0 rfl) : Sems sig S_).sem
/-- The semaphore of the `t`-th local copy (the key tiles at 0–7, the value tiles at 8–15). -/
def kvS (t : Fin 16) : DmaSem sig := ⟨4 + t.val, by have := t.isLt; show 4 + t.val < 148; omega⟩
/-- The semaphores of the two exchanges, by kind: 0 scatter sent, 1 scatter received, 2 gather sent, 3 gather received. -/
def xS (j : Fin 4) (k : Dev nD) : DmaSem sig :=
  ⟨20 + 32 * j.val + k.val, by have := j.isLt; have : k.val < 32 := k.isLt; show 20 + 32 * j.val + k.val < 148; omega⟩

abbrev CK : Type := Unit ⊕ Fin 16 ⊕ (Fin 4 × Dev nD)

def csem : CK → SemLoc sig
  | .inl _ => .reg barS
  | .inr (.inl t) => .dma (kvS t)
  | .inr (.inr (j, k)) => .dma (xS j k)

abbrev kcell (ck : Dev nD × CK) : GSem nD τ sig := ((ck.1 : Thread nD τ), csem ck.2)

abbrev bar : CK := .inl ()
abbrev kv (t : Fin 16) : CK := .inr (.inl t)
abbrev xc (j : Fin 4) (k : Dev nD) : CK := .inr (.inr (j, k))

set_option backward.proofsInPublic true in
/-- Which of the protocol's semaphores a semaphore is. -/
def decode : SemLoc sig → Option CK
  | .reg _ => some (.inl ())
  | .dma n =>
    if h : n.val < 4 then none
    else if h' : n.val < 20 then some (.inr (.inl ⟨n.val - 4, by omega⟩))
    else some (.inr (.inr (⟨(n.val - 20) / 32, by have : n.val < 148 := n.isLt; omega⟩, ⟨(n.val - 20) % 32, Nat.mod_lt _ (by decide)⟩)))

theorem decode_csem (x : CK) : decode (csem x) = some x := by
  rcases x with _ | t | ⟨j, k⟩
  · rfl
  · have h : ((kvS t).val : ℕ) = 4 + t.val := rfl
    have ht := t.isLt
    show decode (.dma (kvS t)) = _
    unfold decode
    dsimp only
    rw [dif_neg (by omega), dif_pos (by omega)]
    congr 3; apply Fin.ext; show (kvS t).val - 4 = t.val; omega
  · have h : ((xS j k).val : ℕ) = 20 + 32 * j.val + k.val := rfl
    have hj := j.isLt
    have hk : k.val < 32 := k.isLt
    show decode (.dma (xS j k)) = _
    unfold decode
    dsimp only
    rw [dif_neg (by omega), dif_neg (by omega)]
    congr 3
    refine Prod.ext (Fin.ext ?_) (Fin.ext ?_)
    · show ((xS j k).val - 20) / 32 = j.val; omega
    · show ((xS j k).val - 20) % 32 = k.val; omega

theorem csem_injective : Function.Injective csem := fun x y h => by
  have := congrArg decode h
  rw [decode_csem, decode_csem] at this
  exact Option.some.inj this

theorem kcell_injective : Function.Injective (kcell : Dev nD × CK → GSem nD τ sig) := by
  rintro ⟨c, x⟩ ⟨c', x'⟩ h
  have h1 : c = c' := congrArg (fun g : GSem nD τ sig => g.1.1) h
  have h2 : x = x' := csem_injective (congrArg (fun g : GSem nD τ sig => g.2) h)
  rw [h1, h2]

/-! ## Regions of the buffers -/

/-- Row `k` of a `32 × 16 × 512` buffer. -/
def rowSet (k : Dev nD) : Finset S32x16x512.Idx := Finset.univ.filter fun i => (i 0).val = k.val
/-- Tile `t` of a key or value block. -/
def kset (t : Fin 8) : Finset S2x256x64x128.Idx := Finset.univ.filter fun i => 4 * (i 0).val + (i 1).val / 64 = t.val

theorem inb_row (k : Dev nD) : ∀ a, (![k.val, 0, 0] : Fin 3 → ℕ) a + S1x16x512.size a ≤ S32x16x512.size a := by
  revert k; decide
theorem inb_ktile (t : Fin 8) : ∀ a, (![t.val / 4, 64 * (t.val % 4), 0, 0] : Fin 4 → ℕ) a + S1x64x64x128.size a ≤ S2x256x64x128.size a := by
  revert t; decide

/-- A row of a `32 × 16 × 512` buffer, as the transfers name it. -/
abbrev rowM (M : Memref sig .tc .vmem S32x16x512 .f32) (o : Fin 3 → ℕ) (h : ∀ a, o a + S1x16x512.size a ≤ S32x16x512.size a) :
    Memref sig .tc .vmem S16x512 .f32 :=
  (M.slice (Rect.unit (s := S32x16x512) o S1x16x512.size h) (fun _ => rfl)).squeeze S16x512 squeezes_S1x16x512_S16x512
/-- A tile of a key or value block, as the transfers name it. -/
abbrev tileM {sp : Space} (M : Memref sig .tc sp S2x256x64x128 .f32) (o : Fin 4 → ℕ) (h : ∀ a, o a + S1x64x64x128.size a ≤ S2x256x64x128.size a) :
    Memref sig .tc sp S64x64x128 .f32 :=
  (M.slice (Rect.unit (s := S2x256x64x128) o S1x64x64x128.size h) (fun _ => rfl)).squeeze S64x64x128 squeezes_S1x64x64x128_S64x64x128

abbrev rowR (k : Dev nD) : Rect S32x16x512 := Rect.unit (s := S32x16x512) ![k.val, 0, 0] S1x16x512.size (inb_row k)
abbrev tileR (t : Fin 8) : Rect S2x256x64x128 := Rect.unit (s := S2x256x64x128) ![t.val / 4, 64 * (t.val % 4), 0, 0] S1x64x64x128.size (inb_ktile t)

theorem rowR_set (k : Dev nD) : (rowR k).set = rowSet k := by
  ext i
  rw [Rect.mem_set_unit]
  simp only [rowSet, Finset.mem_filter, Finset.mem_univ, true_and]
  constructor
  · intro h; have := h 0; simp at this; omega
  · intro h a
    have h1 : (i 1).val < 16 := (i 1).isLt
    have h2 : (i 2).val < 512 := (i 2).isLt
    match a with
    | ⟨0, _⟩ => show k.val ≤ (i 0).val ∧ (i 0).val < k.val + 1; omega
    | ⟨1, _⟩ => show 0 ≤ (i 1).val ∧ (i 1).val < 0 + 16; omega
    | ⟨2, _⟩ => show 0 ≤ (i 2).val ∧ (i 2).val < 0 + 512; omega

theorem tileR_set (t : Fin 8) : (tileR t).set = kset t := by
  ext i
  rw [Rect.mem_set_unit]
  simp only [kset, Finset.mem_filter, Finset.mem_univ, true_and]
  have ht := t.isLt
  have h0 : (i 0).val < 2 := (i 0).isLt
  have h1 : (i 1).val < 256 := (i 1).isLt
  have h2 : (i 2).val < 64 := (i 2).isLt
  have h3 : (i 3).val < 128 := (i 3).isLt
  constructor
  · intro h
    have e0 : t.val / 4 ≤ (i 0).val ∧ (i 0).val < t.val / 4 + 1 := h 0
    have e1 : 64 * (t.val % 4) ≤ (i 1).val ∧ (i 1).val < 64 * (t.val % 4) + 64 := h 1
    omega
  · intro h a
    match a with
    | ⟨0, _⟩ => show t.val / 4 ≤ (i 0).val ∧ (i 0).val < t.val / 4 + 1; omega
    | ⟨1, _⟩ => show 64 * (t.val % 4) ≤ (i 1).val ∧ (i 1).val < 64 * (t.val % 4) + 64; omega
    | ⟨2, _⟩ => show 0 ≤ (i 2).val ∧ (i 2).val < 0 + 64; omega
    | ⟨3, _⟩ => show 0 ≤ (i 3).val ∧ (i 3).val < 0 + 128; omega

theorem rowSet_disjoint {k k' : Dev nD} (h : k ≠ k') : Disjoint (rowSet k) (rowSet k') := by
  rw [Finset.disjoint_left]; intro i hi hi'
  simp only [rowSet, Finset.mem_filter, Finset.mem_univ, true_and] at hi hi'
  exact h (Fin.ext (hi.symm.trans hi'))
theorem kset_disjoint {k k' : Fin 8} (h : k ≠ k') : Disjoint (kset k) (kset k') := by
  rw [Finset.disjoint_left]; intro i hi hi'
  simp only [kset, Finset.mem_filter, Finset.mem_univ, true_and] at hi hi'
  exact h (Fin.ext (hi.symm.trans hi'))
theorem rowSet_biUnion : (Finset.univ : Finset (Dev nD)).biUnion rowSet = Finset.univ := by
  ext i
  simp only [Finset.mem_biUnion, Finset.mem_univ, true_and, iff_true]
  exact ⟨i 0, by simp [rowSet]⟩
theorem kset_biUnion : (Finset.univ : Finset (Fin 8)).biUnion kset = Finset.univ := by
  ext i
  simp only [Finset.mem_biUnion, Finset.mem_univ, true_and, iff_true]
  have h0 : (i 0).val < 2 := (i 0).isLt
  have h1 : (i 1).val < 256 := (i 1).isLt
  exact ⟨⟨4 * (i 0).val + (i 1).val / 64, by omega⟩, by simp [kset]⟩

/-! ## The values -/

theorem slices_q (t : Fin 8) : S512x64.Slices ![64 * t.val, 0] S64x64 := by revert t; decide
theorem slices_h (h : Fin 4) : S4x64x64.Slices ![h.val, 0, 0] S1x64x64 := by revert h; decide

/-- Head `h` of a tile of keys or values. -/
def headOf (h : Fin 4) (x : FVec F S4x64x64 .f32) : FVec F S64x64 .f32 :=
  shapeCast S64x64 (extractStridedSlice S1x64x64 ![h.val, 0, 0] x (slices_h h)) shapeCasts_S1x64x64_S64x64

/-- The scaled scores of a block of queries against a block of keys. -/
def scores (q k : FVec F S64x64 .f32) : FVec F S64x64 .f32 :=
  mulf (matmul dot_S64x64_S64x64_S64x64_1_1_0_0_n_n none q k (constant S64x64 .f32 0x00000000#32))
    (broadcast S64x64 (Scalar.ofBits .f32 0x3E000000#32))
/-- The exponentials of a row less its maximum. -/
def expRow (s : FVec F S64x64 .f32) : FVec F S64x64 .f32 :=
  exp (subf s (broadcastTo S64x64 (shapeCast S64x1 (multiReduction .maximumf [1] S64 s 0xFF800000#32 reduces_S64x64_S64 (.inl rfl) rfl)
    shapeCasts_S64_S64x1) broadcasts_S64x1_S64x64))
/-- A row divided by its sum. -/
def normRow (e : FVec F S64x64 .f32) : FVec F S64x64 .f32 :=
  divf e (broadcastTo S64x64 (shapeCast S64x1 (multiReduction .add [1] S64 e 0x00000000#32 reduces_S64x64_S64 (.inl rfl) rfl)
    shapeCasts_S64_S64x1) broadcasts_S64x1_S64x64)
/-- One head of one block of queries: the weighted sum of the values. -/
def attn (q k v : FVec F S64x64 .f32) : FVec F S64x64 .f32 :=
  matmul dot_S64x64_S64x64_S64x64_1_0_0_1_n_n none (normRow (expRow (scores q k))) v (constant S64x64 .f32 0x00000000#32)
/-- Block `t` of queries. -/
def qBlock (t : Fin 8) (q : FVec F S512x64 .f32) : FVec F S64x64 .f32 := extractStridedSlice S64x64 ![64 * t.val, 0] q (slices_q t)

/-- One head's output on block `t`. -/
def headOut (t : Fin 8) (h : Fin 4) (q : FVec F S512x64 .f32) (kt vt : FVec F S4x64x64 .f32) : FVec F S64x64 .f32 :=
  attn (qBlock t q) (headOf h kt) (headOf h vt)

/-- The four rows of block `t`: the four heads side by side against the output projection. -/
def tile (t : Fin 8) (q0 q1 q2 q3 : FVec F S512x64 .f32) (kt vt : FVec F S4x64x64 .f32) (wo : Vec F S256x512 .f32) : FVec F S4x16x512 .f32 :=
  shapeCast S4x16x512 (shapeCast S4x16x512
    (matmul dot_S64x256_S256x512_S64x512_1_0_0_1_n_n none
      (concatenate S64x256 1 [⟨S64x64, headOut t 0 q0 kt vt⟩, ⟨S64x64, headOut t 1 q1 kt vt⟩, ⟨S64x64, headOut t 2 q2 kt vt⟩, ⟨S64x64, headOut t 3 q3 kt vt⟩]
        concatenates_S64x64_S64x64_S64x64_S64x64_S64x256_d1)
      (shapeCast S256x512 wo shapeCasts_S256x512_S256x512) (constant S64x512 .f32 0x00000000#32))
    shapeCasts_S64x512_S4x16x512) shapeCasts_S4x16x512_S4x16x512

abbrev kM : Memref sig .tc .vmem S2x256x64x128 .f32 := Memref.whole cc0_scratch0
abbrev vM : Memref sig .tc .vmem S2x256x64x128 .f32 := Memref.whole cc0_scratch1
abbrev kA : Memref sig .tc .hbm S2x256x64x128 .f32 := Memref.whole main_arg2
abbrev vA : Memref sig .tc .hbm S2x256x64x128 .f32 := Memref.whole main_arg3
abbrev aM : Memref sig .tc .vmem S32x16x512 .f32 := Memref.whole cc0_scratch2
abbrev gM : Memref sig .tc .vmem S32x16x512 .f32 := Memref.whole cc0_scratch3
abbrev xM : Memref sig .tc .vmem S2x256x512 .f32 := Memref.whole cc0_stg0_0
abbrev wM : Memref sig .tc .vmem S512x256 .f32 := Memref.whole cc0_stg1_0
abbrev pM : Memref sig .tc .vmem S256x512 .f32 := Memref.whole cc0_stg2_0
abbrev oM : Memref sig .tc .vmem S2x256x512 .f32 := Memref.whole cc0_stg3_0

/-- The activations, as staged on device `c`. -/
def xV (c : Dev nD) : (cc0_stg0_0 : Ref sig .tc).ty.Contents (Elt F) :=
  (win0_0.blk (0 : Fin 1)).view.read (Elt F) (m ((c : Thread nD τ).loc main_arg0))
/-- The query projection, as staged on device `c`. -/
def wV (c : Dev nD) : (cc0_stg1_0 : Ref sig .tc).ty.Contents (Elt F) :=
  (win0_1.blk (0 : Fin 1)).view.read (Elt F) (m ((c : Thread nD τ).loc main_arg1))
/-- The output projection, as staged on device `c`. -/
def pV (c : Dev nD) : (cc0_stg2_0 : Ref sig .tc).ty.Contents (Elt F) :=
  (win0_2.blk (0 : Fin 1)).view.read (Elt F) (m ((c : Thread nD τ).loc main_arg4))

theorem inb_wcol (h : Fin 4) : ∀ a, (![0, 64 * h.val] : Fin 2 → ℕ) a + S512x64.size a ≤ S512x256.size a := by revert h; decide
/-- Head `h`'s columns of the query projection. -/
def wCol (c : Dev nD) (h : Fin 4) : Vec F S512x64 .f32 :=
  wM.view.readAt (Elt F) (Rect.unit (s := S512x256) ![0, 64 * h.val] S512x64.size (inb_wcol h)).toLoadRect (wV m c)
/-- Tile `t` of the keys. -/
def kT (c : Dev nD) (t : Fin 8) : Vec F S1x64x64x128 .f32 :=
  kM.view.readAt (Elt F) (tileR t).toLoadRect (m ((c : Thread nD τ).loc main_arg2))
/-- Tile `t` of the values. -/
def vT (c : Dev nD) (t : Fin 8) : Vec F S1x64x64x128 .f32 :=
  vM.view.readAt (Elt F) (tileR t).toLoadRect (m ((c : Thread nD τ).loc main_arg3))

/-- The word the body computes from its device's number. -/
def devW (c : Dev nD) : BitVec 32 := Scalar.remsi (Scalar.divsi (Dev.word c) 1#32) 32#32
/-- The columns that select the device's four heads. -/
def sel (c : Dev nD) : FVec F S128x4 .f32 := k0_pay8 (devW c)
/-- Head `h`'s queries on device `c`. -/
def qV (c : Dev nD) (h : Fin 4) : FVec F S512x64 .f32 := k0_pay5 (k0_pay3 (xV m c)) (wCol m c h)

/-- The four rows of block `t` on device `c`. -/
def tileV (c : Dev nD) (t : Fin 8) : FVec F S4x16x512 .f32 :=
  tile t (qV m c 0) (qV m c 1) (qV m c 2) (qV m c 3) (k0_pay9 (sel c) (kT m c t)) (k0_pay9 (sel c) (vT m c t)) (pV m c)

set_option backward.proofsInPublic true in
/-- Device `c`'s part of the product, whole. -/
def accPart (c : Dev nD) : (cc0_scratch2 : Ref sig .tc).ty.Contents (Elt F) := fun i : S32x16x512.Idx =>
  tileV m c ⟨(i 0).val / 4, by have : (i 0).val < 32 := (i 0).isLt; omega⟩
    (ix3 (⟨(i 0).val % 4, Nat.mod_lt _ (by decide)⟩ : Fin 4) (i 1) (i 2))

/-- The landing buffer of device `q` after the scatter: row `p` from device `p`, its own row zero. -/
def stageAll (q : Dev nD) : (cc0_scratch3 : Ref sig .tc).ty.Contents (Elt F) := fun i : S32x16x512.Idx =>
  if (show Dev nD from i 0) = q then (k0_pay2 (F := F)) (ix3 (0 : Fin 1) (i 1) (i 2)) else accPart m (i 0) (ix3 (show Fin 32 from q) (i 1) (i 2))

/-- Row `q` of the sum over all devices. -/
def red (q : Dev nD) : FVec F S1x16x512 .f32 :=
  k0_pay81 (aM.view.readAt (Elt F) (rowR q).toLoadRect (accPart m q)) (stageAll m q)

/-- The sum over all devices, whole: what every accumulator holds at the end. -/
def accFin : (cc0_scratch2 : Ref sig .tc).ty.Contents (Elt F) := fun i : S32x16x512.Idx =>
  red m (i 0) (ix3 (0 : Fin 1) (i 1) (i 2))

/-- The result. -/
def outV : (cc0_stg3_0 : Ref sig .tc).ty.Contents (Elt F) := k0_pay1 (accFin m)

/-! ## The schedule -/

abbrev kL (c : Dev nD) : Loc nD τ sig := (c : Thread nD τ).loc cc0_scratch0
abbrev vL (c : Dev nD) : Loc nD τ sig := (c : Thread nD τ).loc cc0_scratch1
abbrev aL (c : Dev nD) : Loc nD τ sig := (c : Thread nD τ).loc cc0_scratch2
abbrev gL (c : Dev nD) : Loc nD τ sig := (c : Thread nD τ).loc cc0_scratch3
abbrev k0L (c : Dev nD) : Loc nD τ sig := (c : Thread nD τ).loc main_arg2
abbrev v0L (c : Dev nD) : Loc nD τ sig := (c : Thread nD τ).loc main_arg3

theorem pos32 : 0 < 32 := by decide
/-- The share of a source row the copy to device `p` holds. -/
def pieceP (p : Dev nD) : PosShare TreeShare := pieceOf fullShare 32 pos32 p

/-- The credit of a row and of a tile. -/
def N : ℕ := (rowM aM ![0, 0, 0] inb_S32x16x512_S1x16x512_0_0_0).view.dmaCredit
def NK : ℕ := (tileM kM ![0, 0, 0, 0] inb_S2x256x64x128_S1x64x64x128_0_0_0_0).view.dmaCredit
theorem N_pos : 0 < N := View.dmaCredit_pos _ (by decide)
theorem NK_pos : 0 < NK := View.dmaCredit_pos _ (by decide)

/-- Row `k` of the landing buffer of device `c`, whatever it holds. -/
def slotAny (c k : Dev nD) : sProp 𝕄 := iprop(∃ f, gL c ↦[rowSet k]{fullShare} f)
/-- A tile of keys in place, with the operand's tile it was read from. -/
def kPay (c : Dev nD) (t : Fin 8) : sProp 𝕄 :=
  iprop((kL c ↦[kset t]{fullShare} m (k0L c)) ∗ (k0L c ↦[kset t]{fullShare} m (k0L c)))
def vPay (c : Dev nD) (t : Fin 8) : sProp 𝕄 :=
  iprop((vL c ↦[kset t]{fullShare} m (v0L c)) ∗ (v0L c ↦[kset t]{fullShare} m (v0L c)))
def rsPay (c k : Dev nD) : sProp 𝕄 :=
  iprop((gL c ↦[rowSet k]{fullShare} stageAll m c) ∗ (aL k ↦[rowSet c]{fullShare} accPart m k))
def agsPay (c k : Dev nD) : sProp 𝕄 := aL c ↦[rowSet c]{pieceP k} accFin m
def agrPay (c k : Dev nD) : sProp 𝕄 := aL c ↦[rowSet k]{fullShare} accFin m

/-- Who pays a semaphore of device `c`, by the payer's name. -/
def dutyOf (c : Dev nD) : Option CK → Finset (Dev nD)
  | some (.inl _) => Finset.univ.erase c
  | some (.inr (.inl _)) => {c}
  | some (.inr (.inr (_, k))) => if k = c then ∅ else {k}
  | none => ∅
def amt : Option CK → ℕ
  | some (.inl _) => 1
  | some (.inr (.inl _)) => NK
  | some (.inr (.inr _)) => N
  | none => 1
set_option backward.proofsInPublic true in
def payOf (c d : Dev nD) : Option CK → sProp 𝕄
  | some (.inl _) => slotAny d c
  | some (.inr (.inl t)) => if h : t.val < 8 then kPay m c ⟨t.val, h⟩ else vPay m c ⟨t.val - 8, by have := t.isLt; omega⟩
  | some (.inr (.inr (⟨0, _⟩, k))) => iprop(emp)
  | some (.inr (.inr (⟨1, _⟩, k))) => rsPay m c k
  | some (.inr (.inr (⟨2, _⟩, k))) => agsPay m c k
  | some (.inr (.inr (⟨_ + 3, _⟩, k))) => agrPay m c k
  | none => iprop(emp)

def Rd : Rounds.Schedule (GSem nD τ sig) (Dev nD) 𝕄 where
  duties g r := if r = 0 ∧ g.1.2 = .tc then dutyOf g.1.1 (decode g.2) else ∅
  unitless _ := False
  amount g _ _ := amt (decode g.2)
  payload g _ d := payOf m g.1.1 d (decode g.2)
  amount_pos g _ _ _ := by
    unfold amt
    split
    · exact Nat.one_pos
    · exact NK_pos
    · exact N_pos
    · exact Nat.one_pos

instance payOf_storable (c d : Dev nD) (x : Option CK) : BI.Storable (upEmb : UEmb _ 𝕄) (payOf m c d x) := by
  unfold payOf slotAny kPay vPay rsPay agsPay agrPay
  (repeat' split) <;> infer_instance

instance Rd_payload_storable (g : GSem nD τ sig) (r : ℕ) (d : Dev nD) :
    BI.Storable (upEmb : UEmb _ 𝕄) ((Rd (F := F) m).payload g r d) := by
  show BI.Storable upEmb (payOf m g.1.1 d (decode g.2))
  infer_instance

theorem duties_kcell (c : Dev nD) (x : CK) : (Rd (F := F) m).duties (kcell (c, x)) 0 = dutyOf c (some x) := by
  dsimp only [Rd]; rw [decode_csem]; exact if_pos ⟨rfl, rfl⟩
theorem duties_later (g : GSem nD τ sig) : ∀ r, 1 ≤ r → (Rd (F := F) m).duties g r = ∅ :=
  fun r hr => by dsimp only [Rd]; exact if_neg fun h => by omega
theorem amount_kcell (c : Dev nD) (x : CK) (d : Dev nD) : (Rd (F := F) m).amount (kcell (c, x)) 0 d = amt (some x) := by
  dsimp only [Rd]; rw [decode_csem]
theorem payload_kcell (c : Dev nD) (x : CK) (d : Dev nD) : (Rd (F := F) m).payload (kcell (c, x)) 0 d = payOf m c d (some x) := by
  dsimp only [Rd]; rw [decode_csem]

theorem expect_bar (c : Dev nD) : (Rd (F := F) m).expect (kcell (c, bar)) 0 = 31 := by
  unfold Schedule.expect Schedule.amountOf
  rw [duties_kcell, Finset.sum_congr rfl fun d _ => amount_kcell m c bar d, Finset.sum_const]
  show (Finset.univ.erase c).card • 1 = 31
  rw [Finset.card_erase_of_mem (Finset.mem_univ c), Finset.card_univ, Fintype.card_fin]; rfl
theorem expect_kv (c : Dev nD) (t : Fin 16) : (Rd (F := F) m).expect (kcell (c, kv t)) 0 = NK := by
  unfold Schedule.expect Schedule.amountOf
  rw [duties_kcell]; show Finset.sum {c} _ = NK
  rw [Finset.sum_singleton, amount_kcell]; rfl
theorem expect_xc (c : Dev nD) (j : Fin 4) (k : Dev nD) (h : k ≠ c) : (Rd (F := F) m).expect (kcell (c, xc j k)) 0 = N := by
  unfold Schedule.expect Schedule.amountOf
  rw [duties_kcell]; show Finset.sum (if k = c then ∅ else {k}) _ = N
  rw [if_neg h, Finset.sum_singleton, amount_kcell]; rfl

theorem rest_bar (c : Dev nD) : bigSep ((Rd (F := F) m).duties (kcell (c, bar)) 0 \ ∅) (fun d => (Rd (F := F) m).payload (kcell (c, bar)) 0 d)
    = bigSep (Finset.univ.erase c) (fun d => slotAny (F := F) d c) := by
  rw [Finset.sdiff_empty, duties_kcell]
  exact bigSep_congr fun d _ => payload_kcell m c bar d
theorem rest_kv (c : Dev nD) (t : Fin 16) : bigSep ((Rd (F := F) m).duties (kcell (c, kv t)) 0 \ ∅) (fun d => (Rd (F := F) m).payload (kcell (c, kv t)) 0 d)
    = payOf m c c (some (kv t)) := by
  rw [Finset.sdiff_empty, duties_kcell]; show bigSep {c} _ = _
  rw [bigSep_singleton, payload_kcell]
theorem rest_xc (c : Dev nD) (j : Fin 4) (k : Dev nD) (h : k ≠ c) :
    bigSep ((Rd (F := F) m).duties (kcell (c, xc j k)) 0 \ ∅) (fun d => (Rd (F := F) m).payload (kcell (c, xc j k)) 0 d)
    = payOf m c k (some (xc j k)) := by
  rw [Finset.sdiff_empty, duties_kcell]; show bigSep (if k = c then ∅ else {k}) _ = _
  rw [if_neg h, bigSep_singleton, payload_kcell]

/-! ## What a device owes, and the levels -/

/-- What device `c` still owes after its first `i - 1` signals, the scatter's copies to the devices below `j`
    and the first `k - 1` copies of the gather. -/
def O (c : Dev nD) (i j k : ℕ) : CellTallies nD τ sig Unit :=
  (∑ p : Dev nD, if off c p < i then 0 else tallyAt (kcell (p, bar)) () 1)
    + (∑ p : Dev nD, if p = c ∨ p.val < j then 0 else tallyAt (kcell (p, xc 1 c)) () N)
    + ∑ p : Dev nD, if off c p < k then 0 else tallyAt (kcell (p, xc 3 c)) () N

def L (g : GSem nD τ sig) : Finset Unit := if g.1.2 = .tc then {()} else ∅
/-- The barrier at 1, the scatter's landings at 2, the gather's at 3, everything else at 0. -/
def lvOf : Option CK → ℕ
  | some (.inl _) => 1
  | some (.inr (.inr (⟨1, _⟩, _))) => 2
  | some (.inr (.inr (⟨3, _⟩, _))) => 3
  | _ => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem L_mem (ck : Dev nD × CK) (u : Unit) : u ∈ L (kcell ck) := by rw [kcell, L_tc]; exact Finset.mem_singleton_self _
theorem lv_kcell (c : Dev nD) (x : CK) (u : Unit) : lv (kcell (c, x)) u = lvOf (some x) := by unfold lv; rw [decode_csem]

/-- Changing one summand to nothing takes it off the sum. -/
theorem sum_turn {A : Type} [AddCommMonoid A] (f g : Dev nD → A) (p : Dev nD) (h : ∀ q, q ≠ p → f q = g q) (hz : g p = 0) :
    ∑ q, f q = (∑ q, g q) + f p := by
  rw [← Finset.sum_erase_add Finset.univ f (Finset.mem_univ p), ← Finset.sum_erase_add Finset.univ g (Finset.mem_univ p), hz, add_zero]
  congr 1
  exact Finset.sum_congr rfl fun q hq => h q (Finset.ne_of_mem_erase hq)

theorem O_sig (c : Dev nD) (i j k : ℕ) (hi : i < 32) : O c i j k = O c (i + 1) j k + tallyAt (kcell (pr c i, bar)) () 1 := by
  unfold O
  rw [sum_turn (fun p => if off c p < i then 0 else tallyAt (kcell (p, bar)) () 1) (fun p => if off c p < i + 1 then 0 else tallyAt (kcell (p, bar)) () 1) (pr c i)
    (fun q hq => by
      have : off c q ≠ i := fun e => hq (by rw [← e, pr_off])
      by_cases h : off c q < i
      · rw [if_pos h, if_pos (by omega)]
      · rw [if_neg h, if_neg (by omega)])
    (if_pos (by rw [off_pr c i hi]; omega))]
  rw [if_neg (by rw [off_pr c i hi]; omega)]
  ac_rfl
theorem O_rs (c : Dev nD) (i k : ℕ) (p : Dev nD) (hp : p ≠ c) : O c i p.val k = O c i (p.val + 1) k + tallyAt (kcell (p, xc 1 c)) () N := by
  unfold O
  rw [sum_turn (fun q => if q = c ∨ q.val < p.val then 0 else tallyAt (kcell (q, xc 1 c)) () N) (fun q => if q = c ∨ q.val < p.val + 1 then 0 else tallyAt (kcell (q, xc 1 c)) () N) p
    (fun q hq => by
      have : q.val ≠ p.val := fun e => hq (Fin.ext e)
      by_cases h : q = c ∨ q.val < p.val
      · rw [if_pos h, if_pos (h.imp_right (Nat.lt_succ_of_lt ·))]
      · rw [if_neg h, if_neg (by rintro (e | e); exacts [h (.inl e), h (.inr (Nat.lt_of_le_of_ne (Nat.lt_succ_iff.mp e) this))])])
    (if_pos (.inr (Nat.lt_succ_self _)))]
  rw [if_neg (by rintro (h | h); exacts [hp h, Nat.lt_irrefl _ h])]
  ac_rfl
theorem O_rs_self (c : Dev nD) (i k : ℕ) : O c i c.val k = O c i (c.val + 1) k := by
  unfold O
  congr 2
  refine Finset.sum_congr rfl fun q _ => ?_
  by_cases h : q = c ∨ q.val < c.val
  · rw [if_pos h, if_pos (h.imp_right (Nat.lt_succ_of_lt ·))]
  · rw [if_neg h, if_neg (by rintro (e | e); exacts [h (.inl e), h (by rcases Nat.lt_succ_iff_lt_or_eq.mp e with e | e; exacts [.inr e, .inl (Fin.ext e)])])]
theorem O_ag (c : Dev nD) (i j k : ℕ) (hk : k < 32) : O c i j k = O c i j (k + 1) + tallyAt (kcell (pr c k, xc 3 c)) () N := by
  unfold O
  rw [sum_turn (fun p => if off c p < k then 0 else tallyAt (kcell (p, xc 3 c)) () N) (fun p => if off c p < k + 1 then 0 else tallyAt (kcell (p, xc 3 c)) () N) (pr c k)
    (fun q hq => by
      have : off c q ≠ k := fun e => hq (by rw [← e, pr_off])
      by_cases h : off c q < k
      · rw [if_pos h, if_pos (by omega)]
      · rw [if_neg h, if_neg (by omega)])
    (if_pos (by rw [off_pr c k hk]; omega))]
  rw [if_neg (by rw [off_pr c k hk]; omega)]
  ac_rfl
theorem O_done (c : Dev nD) : O c 32 32 32 = 0 := by
  unfold O
  rw [Finset.sum_eq_zero fun p _ => if_pos (off_lt c p), Finset.sum_eq_zero fun p _ => if_pos (.inr p.isLt), Finset.sum_eq_zero fun p _ => if_pos (off_lt c p), add_zero, add_zero]

theorem sum_pos {f : Dev nD → CellTallies nD τ sig Unit} {g : GSem nD τ sig} {u : Unit} (h : 0 < (∑ p, f p) g u) : ∃ p, 0 < f p g u := by
  by_contra hn
  push Not at hn
  rw [Finset.sum_apply, Finsupp.finset_sum_apply] at h
  rw [Finset.sum_eq_zero fun p _ => Nat.le_zero.mp (hn p)] at h
  exact Nat.lt_irrefl 0 h

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem ite_pos {P : Prop} [Decidable P] {g g' : GSem nD τ sig} {u : Unit} {n : ℕ}
    (h : 0 < (if P then (0 : CellTallies nD τ sig Unit) else tallyAt g' () n) g u) : ¬ P ∧ g = g' := by
  by_cases hP : P
  · rw [if_pos hP] at h; exact absurd h (Nat.lt_irrefl 0)
  · rw [if_neg hP] at h; exact ⟨hP, tally_pos h⟩

theorem add_pos {A B : CellTallies nD τ sig Unit} {g : GSem nD τ sig} {u : Unit} (h : 0 < (A + B) g u) : 0 < A g u ∨ 0 < B g u := by
  rw [Pi.add_apply, Finsupp.add_apply] at h
  rcases Nat.eq_zero_or_pos (A g u) with h1 | h1
  · rw [h1, Nat.zero_add] at h; exact .inr h
  · exact .inl h1

theorem O_pos {c : Dev nD} {i j k : ℕ} {g : GSem nD τ sig} {u : Unit} (h : 0 < O c i j k g u) :
    (∃ p, i < 32 ∧ g = kcell (p, bar)) ∨ (∃ p, j < 32 ∧ g = kcell (p, xc 1 c)) ∨ (∃ p, k < 32 ∧ g = kcell (p, xc 3 c)) := by
  unfold O at h
  rcases add_pos h with h | h
  · rcases add_pos h with h | h
    · obtain ⟨p, hp⟩ := sum_pos h
      obtain ⟨h1, e⟩ := ite_pos hp
      exact .inl ⟨p, Nat.lt_of_le_of_lt (Nat.le_of_not_lt h1) (off_lt c p), e⟩
    · obtain ⟨p, hp⟩ := sum_pos h
      obtain ⟨h1, e⟩ := ite_pos hp
      exact .inr (.inl ⟨p, Nat.lt_of_le_of_lt (Nat.le_of_not_lt fun e' => h1 (.inr e')) p.isLt, e⟩)
  · obtain ⟨p, hp⟩ := sum_pos h
    obtain ⟨h1, e⟩ := ite_pos hp
    exact .inr (.inr ⟨p, Nat.lt_of_le_of_lt (Nat.le_of_not_lt h1) (off_lt c p), e⟩)

/-- A device may wait on a semaphore whose level lies below all it owes. -/
theorem mayWait (c : Dev nD) (sm : SemLoc sig) (i j k : ℕ) (h1 : i < 32 → lvOf (decode sm) < 1) (h2 : j < 32 → lvOf (decode sm) < 2)
    (h3 : k < 32 → lvOf (decode sm) < 3) : (levAts L lv : sProp 𝕄) ⊢ MayWait (c : Thread nD τ) sm () (O c i j k) :=
  MayOwe.of_cut (L := L) (lev := lv) (lvOf (decode sm)) (fun p hp => by rw [Finset.mem_singleton.mp hp, L_tc]; exact Finset.mem_singleton_self _)
    (fun g u hg => by rcases O_pos hg with ⟨p, -, rfl⟩ | ⟨p, -, rfl⟩ | ⟨p, -, rfl⟩ <;> exact L_mem _ _)
    (fun p hp => by rw [Finset.mem_singleton.mp hp]; exact Nat.le_refl _)
    (fun g u hg => by
      rcases O_pos hg with ⟨p, hi, rfl⟩ | ⟨p, hi, rfl⟩ | ⟨p, hi, rfl⟩
      · rw [lv_kcell]; exact h1 hi
      · rw [lv_kcell]; exact h2 hi
      · rw [lv_kcell]; exact h3 hi)

/-! ## The records every device may read -/

/-- Every cell's invariant, that its round 0 is reached, and the levels. -/
def Rec (K : Dev nD × CK → ℕ) : sProp 𝕄 :=
  iprop(bigSep Finset.univ (fun ck => cellInv ER (Rd m) (K ck) (kcell ck)) ∗ bigSep Finset.univ (fun ck => reached ER (kcell ck) 0) ∗ levAts L lv)

instance Rec_persistent (K : Dev nD × CK → ℕ) : BI.Persistent (Rec m K) := by unfold Rec; infer_instance

theorem Rec_inv (K : Dev nD × CK → ℕ) (ck : Dev nD × CK) : Rec m K ⊢ cellInv ER (Rd m) (K ck) (kcell ck) := by
  have e : Rec m K ⊢ bigSep Finset.univ (fun ck => cellInv ER (Rd m) (K ck) (kcell ck)) := by
    unfold Rec; iintro ⟨H, -, -⟩; iexact H
  exact e.trans (bigSep_elim (Finset.mem_univ ck))
theorem Rec_reached (K : Dev nD × CK → ℕ) (ck : Dev nD × CK) : Rec m K ⊢ reached ER (kcell ck) 0 := by
  have e : Rec m K ⊢ bigSep Finset.univ (fun ck => reached ER (kcell ck) 0) := by
    unfold Rec; iintro ⟨-, H, -⟩; iexact H
  exact e.trans (bigSep_elim (Finset.mem_univ ck))
theorem Rec_wait (K : Dev nD × CK → ℕ) (c : Dev nD) (x : CK) (i j k : ℕ) (h1 : i < 32 → lvOf (some x) < 1) (h2 : j < 32 → lvOf (some x) < 2)
    (h3 : k < 32 → lvOf (some x) < 3) : Rec m K ⊢ MayWait (c : Thread nD τ) (csem x) () (O c i j k) := by
  have e : Rec m K ⊢ (levAts L lv : sProp 𝕄) := by
    unfold Rec; iintro ⟨-, -, H⟩; iexact H
  exact e.trans (mayWait c (csem x) i j k (by rw [decode_csem]; exact h1) (by rw [decode_csem]; exact h2) (by rw [decode_csem]; exact h3))

end Cert.Ring

end
-- ==== Proof.Steps.lean ====
/-
# One rule per statement of the body

What a device holds is a handful of families, one member per transfer (`Fam`): a member not yet started, in flight,
or done. Each statement of the body moves one member on.
-/
module

public import proofs.«01_k».proof.Proof.Proto

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A program of device `c` runs to `Q`. -/
abbrev wpc {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## Semaphores and rows by their offsets -/

theorem sem_at {n : ℕ} {base : ℕ} {d : ℕ} (h : base + (⟨1, ![d]⟩ : Shape).numel ≤ n) {o : Fin 1 → ℕ}
    (inb : ∀ a, o a + S1.size a ≤ (⟨1, ![d]⟩ : Shape).size a) {k : ℕ} (ho : o = ![k]) :
    (((SemArray.consecutive (n := n) base (⟨1, ![d]⟩ : Shape) h).slice (Rect.unit (s := (⟨1, ![d]⟩ : Shape)) o S1.size inb)).squeeze S_
      squeezes_S1_S_).sem.val = base + k := by
  subst ho
  show base + ((⟨1, ![d]⟩ : Shape).rowMajor _).val = base + k
  congr 1
  refine (Shape.rowMajorPi_succ_val _ _).trans ?_
  have e0 : ∀ (x : Fin (∏ a : Fin 0, (fun a : Fin 0 => (⟨1, ![d]⟩ : Shape).size a.succ) a)), x.val = 0 := fun x => by
    have := x.isLt; simp at this; omega
  rw [e0, Finset.univ_eq_empty, Finset.prod_empty, Nat.mul_one, Nat.add_zero, Rect.emb_apply]
  have e1 : ∀ y : Fin (S1.size 0), y.val = 0 := fun y => by have : y.val < 1 := y.isLt; omega
  show k + 1 * (_ : Fin (S1.size 0)).val = k
  rw [e1, Nat.mul_zero, Nat.add_zero]

theorem sem_kv {o : Fin 1 → ℕ} (inb : ∀ a, o a + S1.size a ≤ S16.size a) (t : Fin 16) (ho : o = ![t.val]) :
    SemLoc.dma ((cc0_scratch4.slice (Rect.unit (s := S16) o S1.size inb)).squeeze S_ squeezes_S1_S_).sem = csem (kv t) :=
  congrArg SemLoc.dma (Fin.ext (sem_at _ _ ho))
theorem sem_x0 {o : Fin 1 → ℕ} (inb : ∀ a, o a + S1.size a ≤ S32.size a) (k : Dev nD) (ho : o = ![k.val]) :
    SemLoc.dma ((cc0_scratch5.slice (Rect.unit (s := S32) o S1.size inb)).squeeze S_ squeezes_S1_S_).sem = csem (xc 0 k) :=
  congrArg SemLoc.dma (Fin.ext (sem_at _ _ ho))
theorem sem_x1 {o : Fin 1 → ℕ} (inb : ∀ a, o a + S1.size a ≤ S32.size a) (k : Dev nD) (ho : o = ![k.val]) :
    SemLoc.dma ((cc0_scratch6.slice (Rect.unit (s := S32) o S1.size inb)).squeeze S_ squeezes_S1_S_).sem = csem (xc 1 k) :=
  congrArg SemLoc.dma (Fin.ext (sem_at _ _ ho))
theorem sem_x2 {o : Fin 1 → ℕ} (inb : ∀ a, o a + S1.size a ≤ S32.size a) (k : Dev nD) (ho : o = ![k.val]) :
    SemLoc.dma ((cc0_scratch7.slice (Rect.unit (s := S32) o S1.size inb)).squeeze S_ squeezes_S1_S_).sem = csem (xc 2 k) :=
  congrArg SemLoc.dma (Fin.ext (sem_at _ _ ho))
theorem sem_x3 {o : Fin 1 → ℕ} (inb : ∀ a, o a + S1.size a ≤ S32.size a) (k : Dev nD) (ho : o = ![k.val]) :
    SemLoc.dma ((cc0_scratch8.slice (Rect.unit (s := S32) o S1.size inb)).squeeze S_ squeezes_S1_S_).sem = csem (xc 3 k) :=
  congrArg SemLoc.dma (Fin.ext (sem_at _ _ ho))

theorem rowA_set (k : Dev nD) : (rowM aM ![k.val, 0, 0] (inb_row k)).view.set = rowSet k := by
  rw [← rowR_set k]; exact (View.set_reshape _ _).trans (View.set_slice_whole _ _)
theorem rowG_set (k : Dev nD) : (rowM gM ![k.val, 0, 0] (inb_row k)).view.set = rowSet k := by
  rw [← rowR_set k]; exact (View.set_reshape _ _).trans (View.set_slice_whole _ _)
theorem tileK_set (t : Fin 8) : (tileM kM ![t.val / 4, 64 * (t.val % 4), 0, 0] (inb_ktile t)).view.set = kset t := by
  rw [← tileR_set t]; exact (View.set_reshape _ _).trans (View.set_slice_whole _ _)
theorem tileV_set (t : Fin 8) : (tileM vM ![t.val / 4, 64 * (t.val % 4), 0, 0] (inb_ktile t)).view.set = kset t := by
  rw [← tileR_set t]; exact (View.set_reshape _ _).trans (View.set_slice_whole _ _)
theorem tileKA_set (t : Fin 8) : (tileM kA ![t.val / 4, 64 * (t.val % 4), 0, 0] (inb_ktile t)).view.set = kset t := by
  rw [← tileR_set t]; exact (View.set_reshape _ _).trans (View.set_slice_whole _ _)
theorem tileVA_set (t : Fin 8) : (tileM vA ![t.val / 4, 64 * (t.val % 4), 0, 0] (inb_ktile t)).view.set = kset t := by
  rw [← tileR_set t]; exact (View.set_reshape _ _).trans (View.set_slice_whole _ _)

/-! ## Families -/

/-- Where the member of number `r` stands when `a` are started and `b` done. -/
def st (r a b : ℕ) : ℕ := if r < b then 2 else if r < a then 1 else 0

theorem st_done {r a b : ℕ} (h : r < b) : st r a b = 2 := if_pos h
theorem st_flight {r a b : ℕ} (h : r < a) (h' : b ≤ r) : st r a b = 1 := (if_neg (Nat.not_lt.mpr h')).trans (if_pos h)
theorem st_pre {r a b : ℕ} (h : a ≤ r) (h' : b ≤ r) : st r a b = 0 := (if_neg (Nat.not_lt.mpr h')).trans (if_neg (Nat.not_lt.mpr h))

def Fam {I : Type} [Fintype I] (P : I → ℕ → sProp 𝕄) (rank : I → ℕ) (a b : ℕ) : sProp 𝕄 := bigSep Finset.univ fun j => P j (st (rank j) a b)

section Fam
variable {I : Type} [Fintype I] [DecidableEq I]

theorem Fam_start (P : I → ℕ → sProp 𝕄) (rank : I → ℕ) {a b : ℕ} (e : I) (he : rank e = a) (hinj : ∀ j, rank j = a → j = e) (hb : b ≤ a) :
    Fam P rank a b ⊢ iprop(P e 0 ∗ (P e 1 -∗ Fam P rank (a + 1) b)) := by
  unfold Fam
  have h := bigSep_univ_update (Φ := fun j => P j (st (rank j) a b)) (Ψ := fun j => P j (st (rank j) (a + 1) b)) e
    (fun j hj => by
      have : rank j ≠ a := fun h => hj (hinj j h)
      dsimp only [st]
      by_cases h1 : rank j < b
      · rw [if_pos h1, if_pos h1]
      · rw [if_neg h1, if_neg h1]
        by_cases h2 : rank j < a
        · rw [if_pos h2, if_pos (by omega)]
        · rw [if_neg h2, if_neg (by omega)])
  rwa [st_pre (by omega) (by omega), st_flight (by omega) (by omega)] at h

theorem Fam_end (P : I → ℕ → sProp 𝕄) (rank : I → ℕ) {a b : ℕ} (e : I) (he : rank e = b) (hinj : ∀ j, rank j = b → j = e) (hb : b < a) :
    Fam P rank a b ⊢ iprop(P e 1 ∗ (P e 2 -∗ Fam P rank a (b + 1))) := by
  unfold Fam
  have h := bigSep_univ_update (Φ := fun j => P j (st (rank j) a b)) (Ψ := fun j => P j (st (rank j) a (b + 1))) e
    (fun j hj => by
      have : rank j ≠ b := fun h => hj (hinj j h)
      dsimp only [st]
      by_cases h1 : rank j < b
      · rw [if_pos h1, if_pos (by omega)]
      · rw [if_neg h1, if_neg (by omega)])
  rwa [st_flight (by omega) (by omega), st_done (by omega)] at h

/-- One member of a family read without moving it. -/
theorem Fam_look (P : I → ℕ → sProp 𝕄) (rank : I → ℕ) {a b : ℕ} (e : I) : Fam P rank a b ⊢ iprop(P e (st (rank e) a b) ∗ (P e (st (rank e) a b) -∗ Fam P rank a b)) := by
  unfold Fam
  exact bigSep_univ_update (Φ := fun j => P j (st (rank j) a b)) (Ψ := fun j => P j (st (rank j) a b)) e (fun _ _ => rfl)

end Fam

/-! ## What a device owes -/

def Ow (i j k : ℕ) : sProp 𝕄 := iprop(∃ W, owes (c : Thread nD τ) (O c i j k) W)

abbrev at0 (x : CK) : sProp 𝕄 := atPos ER (kcell (c, x)) 0 ∅ 0
abbrev at1 (x : CK) : sProp 𝕄 := atPos ER (kcell (c, x)) (0 + 1) ∅ 0
abbrev tok (g : Dev nD) (x : CK) (d : Dev nD) : sProp 𝕄 := dutyTok ER (kcell (g, x)) 0 d
abbrev crd (x : CK) (n : ℕ) : sProp 𝕄 := cred (tallyAt (kcell (c, x)) () n)

/-- The wait on a transfer of the family `P`: the transfer is done, and what it hands over comes with it. -/
theorem step_wait {I : Type} [Fintype I] [DecidableEq I] (P : I → ℕ → sProp 𝕄) (rank : I → ℕ) (e : I) {a b : ℕ} (he : rank e = b)
    (hinj : ∀ j, rank j = b → j = e) (hb : b < a) (x : CK) {n : ℕ} (hexp : (Rd m).expect (kcell (c, x)) 0 = n)
    (h1 : P e 1 ⊢ iprop(crd c x n ∗ at0 c x))
    (h2 : iprop(bigSep ((Rd m).duties (kcell (c, x)) 0 \ ∅) (fun d => (Rd m).payload (kcell (c, x)) 0 d) ∗ at1 c x) ⊢ P e 2)
    {i j k : ℕ} (hi : i < 32 → lvOf (some x) < 1) (hj : j < 32 → lvOf (some x) < 2) (hk : k < 32 → lvOf (some x) < 3)
    {sp sp' : Space} {s s' : Shape} {ty ty' : EltTy} {κ' : Kind} {sem : DmaSem sig} (hs : SemLoc.dma sem = csem x)
    {src : Memref sig .tc sp' s' ty'} {dst : Memref sig κ' sp s ty} {hsrc : src.view.WordExact} {hdst : dst.view.WordExact} (hN : dst.view.dmaCredit = n)
    {R : sProp 𝕄} {α : Type} {kk : PUnit → Prog (TpuEff nD τ sig (Elt F) Λ₀ .tc) α} {Q : α → sProp 𝕄}
    (h : iprop(Rec m K ∗ Fam P rank a (b + 1) ∗ Ow c i j k ∗ R) ⊢ wpc c (kk ⟨⟩) Q) :
    iprop(Rec m K ∗ Fam P rank a b ∗ Ow c i j k ∗ R) ⊢ wpc c (.op (.waitDma2 sem src dst hsrc hdst) kk) Q := by
  unfold Ow
  iintro ⟨#HR, HF, ⟨%W, HO⟩, HRest⟩
  ihave HI := (Rec_inv m K (c, x)) $$ HR
  ihave HF := (Fam_end P rank e he hinj hb) $$ HF
  icases HF with ⟨HP, HF⟩
  ihave HP := h1 $$ HP
  icases HP with ⟨Hc, Hat⟩
  have hw : ∀ Kt : PUnit → sProp 𝕄, wpE (defs₀ (F := F)) 𝒱₀ (c : Thread nD τ) none Set.univ (.waitDma2 sem src dst hsrc hdst) Kt
      = waitSpec (c : Thread nD τ) Set.univ (csem x) n Kt := fun Kt => by
    rw [← hs, ← hN]; exact wpE_waitDma2_eq 𝒱₀ (c : Thread nD τ) none Set.univ Kt
  iapply (Rounds.wp_wait_rest_token 𝒱₀ ER (Rd m) (c : Thread nD τ) none (κ := K (c, x)) (sm := csem x)
      hw (Set.mem_univ _) () (O := O c i j k) (W := W) (R := 0) (m := 0) (T := ∅) (by rw [Nat.zero_add]; exact hexp.symm)) $$ [HI Hc HO Hat]
  · isplitl [HI]; · iexact HI
    isplitl [Hc]; · iexact Hc
    isplitl [HO]; · iexact HO
    isplitr
    · iapply (Rec_wait m K c x i j k hi hj hk); iexact HR
    · iexact Hat
  iintro ⟨HO, Hat, -, Hpay⟩
  ihave HP := h2 $$ [Hpay Hat]
  · isplitl [Hpay] <;> iassumption
  ihave HF := HF $$ HP
  unfold Ow at h
  iapply h
  isplitr; · iexact HR
  isplitl [HF]; · iexact HF
  isplitl [HO]; · iexists _; iexact HO
  iexact HRest

/-! ## The local copies -/

def lo (t : Fin 8) : Fin 16 := ⟨t.val, by have := t.isLt; omega⟩
def hi (t : Fin 8) : Fin 16 := ⟨8 + t.val, by have := t.isLt; omega⟩

/-- The order in which the local copies start and are awaited: keys and values in turn. -/
def rkv (t : Fin 16) : ℕ := if t.val < 8 then 2 * t.val else 2 * (t.val - 8) + 1

theorem rkv_lo (t : Fin 8) : rkv (lo t) = 2 * t.val := if_pos t.isLt
theorem rkv_hi (t : Fin 8) : rkv (hi t) = 2 * t.val + 1 := by
  unfold rkv hi; dsimp only; rw [if_neg (by omega)]; omega
theorem rkv_inj {t t' : Fin 16} (h : rkv t = rkv t') : t = t' := by
  unfold rkv at h; apply Fin.ext; have := t.isLt; have := t'.isLt
  split at h <;> split at h <;> omega

/-- The tiles a local copy moves, before it starts. -/
def kPre (t : Fin 8) : sProp 𝕄 :=
  iprop((∃ f, kL c ↦[kset t]{fullShare} f) ∗ (k0L c ↦[kset t]{fullShare} m (k0L c)))
def vPre (t : Fin 8) : sProp 𝕄 :=
  iprop((∃ f, vL c ↦[kset t]{fullShare} f) ∗ (v0L c ↦[kset t]{fullShare} m (v0L c)))
def kvPre (t : Fin 16) : sProp 𝕄 :=
  if h : t.val < 8 then kPre m c ⟨t.val, h⟩ else vPre m c ⟨t.val - 8, by have := t.isLt; omega⟩

theorem kvPre_lo (t : Fin 8) : kvPre m c (lo t) = kPre m c t := dif_pos t.isLt
theorem kvPre_hi (t : Fin 8) : kvPre m c (hi t) = vPre m c t := by
  unfold kvPre; rw [dif_neg (by show ¬ 8 + t.val < 8; omega)]; congr 1; apply Fin.ext; show 8 + t.val - 8 = t.val; omega
theorem payKV_lo (d : Dev nD) (t : Fin 8) : payOf m c d (some (kv (lo t))) = kPay m c t := by
  show dite _ _ _ = _; exact dif_pos t.isLt
theorem payKV_hi (d : Dev nD) (t : Fin 8) : payOf m c d (some (kv (hi t))) = vPay m c t := by
  show dite _ _ _ = _
  rw [dif_neg (by show ¬ 8 + t.val < 8; omega)]; congr 1; apply Fin.ext; show 8 + t.val - 8 = t.val; omega

def PKV (t : Fin 16) : ℕ → sProp 𝕄
  | 0 => iprop(kvPre m c t ∗ tok c (kv t) c ∗ at0 c (kv t))
  | 1 => iprop(crd c (kv t) NK ∗ at0 c (kv t))
  | _ => iprop(payOf m c c (some (kv t)) ∗ at1 c (kv t))

theorem PKV_0 (t : Fin 16) : PKV m c t 0 = iprop(kvPre m c t ∗ tok c (kv t) c ∗ at0 c (kv t)) := rfl
theorem PKV_1 (t : Fin 16) : PKV m c t 1 = iprop(crd c (kv t) NK ∗ at0 c (kv t)) := rfl
theorem PKV_2 (t : Fin 16) : PKV m c t 2 = iprop(payOf m c c (some (kv t)) ∗ at1 c (kv t)) := rfl

abbrev KV (a b : ℕ) : sProp 𝕄 := Fam (PKV m c) rkv a b

theorem k_landed (t : Fin 8) (f : (cc0_scratch0 : Ref sig .tc).ty.Contents (Elt F)) (g : (main_arg2 : Ref sig .tc).ty.Contents (Elt F)) :
    (kL c ↦[kset t]{fullShare} (tileM kM ![t.val / 4, 64 * (t.val % 4), 0, 0] (inb_ktile t)).view.write (Elt F) f
      ((tileM kA ![t.val / 4, 64 * (t.val % 4), 0, 0] (inb_ktile t)).view.read (Elt F) g) Finset.univ : sProp 𝕄) = (kL c ↦[kset t]{fullShare} g) := by
  refine pointsTo_congr fun i hi => ?_
  rw [← tileK_set t] at hi
  obtain ⟨j, -, rfl⟩ := Finset.mem_map.mp hi
  rw [View.write_emb_of_mem _ _ (Finset.mem_univ j)]
  rfl
theorem v_landed (t : Fin 8) (f : (cc0_scratch1 : Ref sig .tc).ty.Contents (Elt F)) (g : (main_arg3 : Ref sig .tc).ty.Contents (Elt F)) :
    (vL c ↦[kset t]{fullShare} (tileM vM ![t.val / 4, 64 * (t.val % 4), 0, 0] (inb_ktile t)).view.write (Elt F) f
      ((tileM vA ![t.val / 4, 64 * (t.val % 4), 0, 0] (inb_ktile t)).view.read (Elt F) g) Finset.univ : sProp 𝕄) = (vL c ↦[kset t]{fullShare} g) := by
  refine pointsTo_congr fun i hi => ?_
  rw [← tileV_set t] at hi
  obtain ⟨j, -, rfl⟩ := Finset.mem_map.mp hi
  rw [View.write_emb_of_mem _ _ (Finset.mem_univ j)]
  rfl

theorem cr_k (o : Fin 4 → ℕ) (inb) : (tileM kM o inb).view.dmaCredit = NK := rfl
theorem cr_v (o : Fin 4 → ℕ) (inb) : (tileM vM o inb).view.dmaCredit = NK := rfl
theorem cr_a (o : Fin 3 → ℕ) (inb) : (rowM aM o inb).view.dmaCredit = N := rfl
theorem cr_g (o : Fin 3 → ℕ) (inb) : (rowM gM o inb).view.dmaCredit = N := rfl

theorem step_copyK {R : sProp 𝕄} {α : Type} {kk : PUnit → Prog (TpuEff nD τ sig (Elt F) Λ₀ .tc) α} {Q : α → sProp 𝕄}
    (t : Fin 8) {n : ℕ} (hn : 2 * t.val = n) {o : Fin 4 → ℕ} (ho : o = ![t.val / 4, 64 * (t.val % 4), 0, 0])
    {inb inb' : ∀ a, o a + S1x64x64x128.size a ≤ S2x256x64x128.size a} {s : DmaSem sig} (hs : SemLoc.dma s = csem (kv (lo t)))
    {hsrc : (tileM kA o inb).view.WordExact} {hdst : (tileM kM o inb').view.WordExact}
    {hsem : DmaTarget.Typed (nD := nD) .hbm (.dma s) (DmaTarget.here (p := (c : Thread nD τ).2) (tileM kM o inb'))}
    (h : iprop(Rec m K ∗ KV m c (n + 1) 0 ∗ R) ⊢ wpc c (kk ⟨⟩) Q) :
    iprop(Rec m K ∗ KV m c n 0 ∗ R) ⊢ wpc c (.op (.enqueueDma (tileM kA o inb) (.here (tileM kM o inb')) (.dma s) hsrc hdst hsem) kk) Q := by
  subst ho
  generalize SemLoc.dma s = sl at hs hsem ⊢
  subst hs
  have hF := Fam_start (PKV m c) rkv (lo t) ((rkv_lo t).trans hn) (fun j hj => rkv_inj (by rw [hj, rkv_lo, hn])) (Nat.zero_le n)
  rw [PKV_0, PKV_1, kvPre_lo] at hF
  unfold kPre at hF
  have hstep : ∀ f, iprop(cellInv ER (Rd m) (K (c, kv (lo t))) (kcell (c, kv (lo t))) ∗ (k0L c ↦[kset t]{fullShare} m (k0L c)) ∗ (kL c ↦[kset t]{fullShare} f)
      ∗ tok c (kv (lo t)) c ∗ reached ER (kcell (c, kv (lo t))) 0)
      ⊢ iprop((crd c (kv (lo t)) NK -∗ wpc c (kk ⟨⟩) Q) -∗ wpc c (.op (.enqueueDma (tileM kA _ inb) (.here (tileM kM _ inb')) (csem (kv (lo t))) hsrc hdst hsem) kk) Q) := fun f => by
    have h0 := Rounds.wp_copy_pointsTo (defs := defs₀ (F := F)) (Q := Q) (k := kk) (src := tileM kA _ inb) (dst := tileM kM _ inb') 𝒱₀ ER (Rd m) (c : Thread nD τ) none (κ := K (c, kv (lo t))) (sem := csem (kv (lo t))) (r := 0) (d := c) (q := fullShare)
      (fs := m (k0L c)) (fd := f) (hsrc := hsrc) (hdst := hdst) (hsem := hsem) (Es := Set.univ) (Γ := [])
      (by rw [duties_kcell]; exact Finset.mem_singleton_self c) () NK rfl (amount_kcell m c (kv (lo t)) c)
      (by rw [payload_kcell, payKV_lo]; unfold kPay; rw [tileK_set, tileKA_set]; exact Entails.of_eq (congrArg (fun z => iprop(z ∗ _)) (k_landed c t f _)))
    rw [tileK_set, tileKA_set] at h0
    exact h0
  iintro ⟨#HR, HF, HRest⟩
  ihave HI := (Rec_inv m K (c, kv (lo t))) $$ HR
  ihave Hr := (Rec_reached m K (c, kv (lo t))) $$ HR
  ihave HF := hF $$ HF
  icases HF with ⟨⟨⟨⟨%f, Hd⟩, Hs⟩, Ht, Hat⟩, HF⟩
  iapply (hstep f) $$ [HI Hs Hd Ht Hr]
  · isplitl [HI]; · iexact HI
    isplitl [Hs]; · iexact Hs
    isplitl [Hd]; · iexact Hd
    isplitl [Ht]; · iexact Ht
    iexact Hr
  iintro Hc
  ihave HF := HF $$ [Hc Hat]
  · isplitl [Hc]; · iexact Hc
    iexact Hat
  iapply h
  isplitr; · iexact HR
  isplitl [HF]; · iexact HF
  iexact HRest

theorem step_copyV {R : sProp 𝕄} {α : Type} {kk : PUnit → Prog (TpuEff nD τ sig (Elt F) Λ₀ .tc) α} {Q : α → sProp 𝕄}
    (t : Fin 8) {n : ℕ} (hn : 2 * t.val + 1 = n) {o : Fin 4 → ℕ} (ho : o = ![t.val / 4, 64 * (t.val % 4), 0, 0])
    {inb inb' : ∀ a, o a + S1x64x64x128.size a ≤ S2x256x64x128.size a} {s : DmaSem sig} (hs : SemLoc.dma s = csem (kv (Ring.hi t)))
    {hsrc : (tileM vA o inb).view.WordExact} {hdst : (tileM vM o inb').view.WordExact}
    {hsem : DmaTarget.Typed (nD := nD) .hbm (.dma s) (DmaTarget.here (p := (c : Thread nD τ).2) (tileM vM o inb'))}
    (h : iprop(Rec m K ∗ KV m c (n + 1) 0 ∗ R) ⊢ wpc c (kk ⟨⟩) Q) :
    iprop(Rec m K ∗ KV m c n 0 ∗ R) ⊢ wpc c (.op (.enqueueDma (tileM vA o inb) (.here (tileM vM o inb')) (.dma s) hsrc hdst hsem) kk) Q := by
  subst ho
  generalize SemLoc.dma s = sl at hs hsem ⊢
  subst hs
  have hF := Fam_start (PKV m c) rkv (Ring.hi t) ((rkv_hi t).trans hn) (fun j hj => rkv_inj (by rw [hj, rkv_hi, hn])) (Nat.zero_le n)
  rw [PKV_0, PKV_1, kvPre_hi] at hF
  unfold vPre at hF
  have hstep : ∀ f, iprop(cellInv ER (Rd m) (K (c, kv (Ring.hi t))) (kcell (c, kv (Ring.hi t))) ∗ (v0L c ↦[kset t]{fullShare} m (v0L c)) ∗ (vL c ↦[kset t]{fullShare} f)
      ∗ tok c (kv (Ring.hi t)) c ∗ reached ER (kcell (c, kv (Ring.hi t))) 0)
      ⊢ iprop((crd c (kv (Ring.hi t)) NK -∗ wpc c (kk ⟨⟩) Q) -∗ wpc c (.op (.enqueueDma (tileM vA _ inb) (.here (tileM vM _ inb')) (csem (kv (Ring.hi t))) hsrc hdst hsem) kk) Q) := fun f => by
    have h0 := Rounds.wp_copy_pointsTo (defs := defs₀ (F := F)) (Q := Q) (k := kk) (src := tileM vA _ inb) (dst := tileM vM _ inb') 𝒱₀ ER (Rd m) (c : Thread nD τ) none (κ := K (c, kv (Ring.hi t))) (sem := csem (kv (Ring.hi t))) (r := 0) (d := c) (q := fullShare)
      (fs := m (v0L c)) (fd := f) (hsrc := hsrc) (hdst := hdst) (hsem := hsem) (Es := Set.univ) (Γ := [])
      (by rw [duties_kcell]; exact Finset.mem_singleton_self c) () NK rfl (amount_kcell m c (kv (Ring.hi t)) c)
      (by rw [payload_kcell, payKV_hi]; unfold vPay; rw [tileV_set, tileVA_set]; exact Entails.of_eq (congrArg (fun z => iprop(z ∗ _)) (v_landed c t f _)))
    rw [tileV_set, tileVA_set] at h0
    exact h0
  iintro ⟨#HR, HF, HRest⟩
  ihave HI := (Rec_inv m K (c, kv (Ring.hi t))) $$ HR
  ihave Hr := (Rec_reached m K (c, kv (Ring.hi t))) $$ HR
  ihave HF := hF $$ HF
  icases HF with ⟨⟨⟨⟨%f, Hd⟩, Hs⟩, Ht, Hat⟩, HF⟩
  iapply (hstep f) $$ [HI Hs Hd Ht Hr]
  · isplitl [HI]; · iexact HI
    isplitl [Hs]; · iexact Hs
    isplitl [Hd]; · iexact Hd
    isplitl [Ht]; · iexact Ht
    iexact Hr
  iintro Hc
  ihave HF := HF $$ [Hc Hat]
  · isplitl [Hc]; · iexact Hc
    iexact Hat
  iapply h
  isplitr; · iexact HR
  isplitl [HF]; · iexact HF
  iexact HRest

end Cert.Ring

end
-- ==== Proof.Scatter.lean ====
/-
# The barrier and the scatter

The statements up to the end of the scatter: signals, guarded copies of the rows.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The barrier's signals -/

/-- The signal of device `c` to device `p`, with the landing row it hands over. -/
def PSig (p : Dev nD) : ℕ → sProp 𝕄
  | 0 => iprop(slotAny c p ∗ tok p bar c)
  | _ => iprop(emp)
theorem PSig_0 (p : Dev nD) : PSig (F := F) c p 0 = iprop(slotAny c p ∗ tok p bar c) := rfl
theorem PSig_1 (p : Dev nD) : PSig (F := F) c p 1 = iprop(emp) := rfl

theorem off_inj {c p p' : Dev nD} (h : off c p = off c p') : p = p' := by
  rw [← pr_off c p, h, pr_off]

/-- Before the barrier: the first `a` local copies started, the first `i - 1` signals sent. -/
def P1 (a i : ℕ) (R : sProp 𝕄) : sProp 𝕄 := iprop(Rec m K ∗ KV m c a 0 ∗ Fam (PSig c) (off c) i 1 ∗ Ow c i 0 1 ∗ R)

theorem P1_copyK {R : sProp 𝕄} {α : Type} {kk : PUnit → Prog (TpuEff nD τ sig (Elt F) Λ₀ .tc) α} {Q : α → sProp 𝕄}
    (t : Fin 8) {n i : ℕ} (hn : 2 * t.val = n) {o : Fin 4 → ℕ} (ho : o = ![t.val / 4, 64 * (t.val % 4), 0, 0])
    {inb inb' : ∀ a, o a + S1x64x64x128.size a ≤ S2x256x64x128.size a} {s : DmaSem sig} (hs : SemLoc.dma s = csem (kv (lo t)))
    {hsrc : (tileM kA o inb).view.WordExact} {hdst : (tileM kM o inb').view.WordExact}
    {hsem : DmaTarget.Typed (nD := nD) .hbm (.dma s) (DmaTarget.here (p := (c : Thread nD τ).2) (tileM kM o inb'))}
    (h : P1 m K c (n + 1) i R ⊢ wpc c (kk ⟨⟩) Q) :
    P1 m K c n i R ⊢ wpc c (.op (.enqueueDma (tileM kA o inb) (.here (tileM kM o inb')) (.dma s) hsrc hdst hsem) kk) Q :=
  step_copyK m K c t hn ho hs h
theorem P1_copyV {R : sProp 𝕄} {α : Type} {kk : PUnit → Prog (TpuEff nD τ sig (Elt F) Λ₀ .tc) α} {Q : α → sProp 𝕄}
    (t : Fin 8) {n i : ℕ} (hn : 2 * t.val + 1 = n) {o : Fin 4 → ℕ} (ho : o = ![t.val / 4, 64 * (t.val % 4), 0, 0])
    {inb inb' : ∀ a, o a + S1x64x64x128.size a ≤ S2x256x64x128.size a} {s : DmaSem sig} (hs : SemLoc.dma s = csem (kv (Ring.hi t)))
    {hsrc : (tileM vA o inb).view.WordExact} {hdst : (tileM vM o inb').view.WordExact}
    {hsem : DmaTarget.Typed (nD := nD) .hbm (.dma s) (DmaTarget.here (p := (c : Thread nD τ).2) (tileM vM o inb'))}
    (h : P1 m K c (n + 1) i R ⊢ wpc c (kk ⟨⟩) Q) :
    P1 m K c n i R ⊢ wpc c (.op (.enqueueDma (tileM vA o inb) (.here (tileM vM o inb')) (.dma s) hsrc hdst hsem) kk) Q :=
  step_copyV m K c t hn ho hs h

theorem P1_signal {R : sProp 𝕄} {α : Type} {kk : PUnit → Prog (TpuEff nD τ sig (Elt F) Λ₀ .tc) α} {Q : α → sProp 𝕄}
    {a i n : ℕ} {hlt : n < nD} (hn : n = (c.val + i) % 32) (h1 : 1 ≤ i) (hi : i < 32)
    (h : P1 m K c a (i + 1) R ⊢ wpc c (kk ⟨⟩) Q) :
    P1 m K c a i R ⊢ wpc c (.op (.semSignal (Dev.tc (⟨n, hlt⟩ : Dev nD) : Thread nD τ) barS (BitVec.toInt 1#32)) kk) Q := by
  obtain ⟨p, hp⟩ : ∃ p : Dev nD, p = pr c i := ⟨_, rfl⟩
  have e : (⟨n, hlt⟩ : Dev nD) = p := by rw [hp]; exact Fin.ext hn
  rw [e]
  have hF := Fam_start (PSig (F := F) c) (off c) (a := i) (b := 1) p (by rw [hp, off_pr c i hi])
    (fun j hj => off_inj (c := c) (by rw [hj, hp, off_pr c i hi])) h1
  rw [PSig_0, PSig_1] at hF
  have hne : p ≠ c := by rw [hp]; exact pr_ne c i h1 hi
  have hO : O c i 0 1 = O c (i + 1) 0 1 + tallyAt (kcell (p, bar)) () 1 := by rw [hp]; exact O_sig c i 0 1 hi
  have hstep : ∀ W, iprop(cellInv ER (Rd m) (K (p, bar)) (kcell (p, bar)) ∗ owes (c : Thread nD τ) (O c i 0 1) W ∗ tok p bar c ∗ slotAny c p ∗ reached ER (kcell (p, bar)) 0)
      ⊢ iprop((owes (c : Thread nD τ) (O c (i + 1) 0 1) W -∗ wpc c (kk ⟨⟩) Q) -∗ wpc c (.op (.semSignal (Dev.tc p : Thread nD τ) barS (BitVec.toInt 1#32)) kk) Q) := fun W => by
    have h0 := Rounds.wp_signal (defs := defs₀ (F := F)) (Q := Q) (k := kk) 𝒱₀ ER (Rd m) (c : Thread nD τ) none (dst := (p : Thread nD τ)) (κ := K (p, bar)) (Γ := []) (Es := Set.univ)
      (sem := barS) (r := 0) (d := c) (k' := 1) (by rw [show ((p : Thread nD τ), SemLoc.reg barS) = kcell (p, bar) from rfl, duties_kcell]; exact Finset.mem_erase.mpr ⟨hne.symm, Finset.mem_univ c⟩)
      (amount_kcell m p bar c) () (O c (i + 1) 0 1) hO (W := W)
    rw [show ((p : Thread nD τ), SemLoc.reg barS) = kcell (p, bar) from rfl, payload_kcell] at h0
    exact h0
  unfold P1 Ow at h ⊢
  iintro ⟨#HR, HKV, HF, ⟨%W, HO⟩, HRest⟩
  ihave HI := (Rec_inv m K (p, bar)) $$ HR
  ihave Hr := (Rec_reached m K (p, bar)) $$ HR
  ihave HF := hF $$ HF
  icases HF with ⟨⟨Hslot, Ht⟩, HF⟩
  iapply (hstep W) $$ [HI HO Ht Hslot Hr]
  · isplitl [HI]; · iexact HI
    isplitl [HO]; · iexact HO
    isplitl [Ht]; · iexact Ht
    isplitl [Hslot]; · iexact Hslot
    iexact Hr
  iintro HO
  ihave HF := HF $$ []
  · iempintro
  iapply h
  isplitr; · iexact HR
  isplitl [HKV]; · iexact HKV
  isplitl [HF]; · iexact HF
  isplitl [HO]; · iexists W; iexact HO
  iexact HRest

/-! ## The scatter -/

/-- The copy of row `p` to device `p`. -/
def PRs (p : Dev nD) : ℕ → sProp 𝕄
  | 0 => if p = c then at0 c (xc 0 p) else iprop((tok c (xc 0 p) p ∗ tok p (xc 1 c) c ∗ at0 c (xc 0 p)) ∗ slotAny p c)
  | 1 => if p = c then at0 c (xc 0 p) else iprop(crd c (xc 0 p) N ∗ at0 c (xc 0 p))
  | _ => if p = c then at0 c (xc 0 p) else at1 c (xc 0 p)
/-- The copy of device `p`'s row to this device. -/
def PRr (p : Dev nD) : ℕ → sProp 𝕄
  | 0 => iprop(emp)
  | 1 => iprop(crd c (xc 1 p) N ∗ at0 c (xc 1 p))
  | _ => if p = c then at0 c (xc 1 p) else iprop(rsPay m c p ∗ at1 c (xc 1 p))
/-- The copy of the sum to device `p`. -/
def PAs (p : Dev nD) : ℕ → sProp 𝕄
  | 0 => iprop((tok c (xc 2 p) p ∗ tok p (xc 3 c) c ∗ at0 c (xc 2 p)) ∗ (aL p ↦[rowSet c]{fullShare} accPart m p) ∗ agsPay m c p)
  | 1 => iprop(crd c (xc 2 p) N ∗ at0 c (xc 2 p))
  | _ => if p = c then at0 c (xc 2 p) else iprop(agsPay m c p ∗ at1 c (xc 2 p))
/-- The copy of device `p`'s sum to this device. -/
def PAr (p : Dev nD) : ℕ → sProp 𝕄
  | 0 => iprop(emp)
  | 1 => iprop(crd c (xc 3 p) N ∗ at0 c (xc 3 p))
  | _ => if p = c then at0 c (xc 3 p) else iprop(agrPay m c p ∗ at1 c (xc 3 p))

abbrev FRs (a b : ℕ) : sProp 𝕄 := Fam (PRs c) (fun p : Dev nD => p.val) a b
abbrev FRr (b : ℕ) : sProp 𝕄 := Fam (PRr m c) (off c) 32 b
abbrev FAs (a b : ℕ) : sProp 𝕄 := Fam (PAs m c) (off c) a b
abbrev FAr (b : ℕ) : sProp 𝕄 := Fam (PAr m c) (off c) 32 b

/-- The rows of the accumulator device `c` still holds when the copies to the devices below `j` have started. -/
def Aset (j : ℕ) : Finset S32x16x512.Idx := Finset.univ.filter fun i => j ≤ (i 0).val ∨ (i 0).val = c.val

/-- The accumulator, its first `s` tiles computed. -/
def Acc (s j : ℕ) : sProp 𝕄 :=
  iprop(∃ f, ⌜∀ i : S32x16x512.Idx, (i 0).val < 4 * s → f i = accPart m c i⌝ ∗ (aL c ↦[Aset c j]{fullShare} f))

abbrev xL : Loc nD τ sig := (c : Thread nD τ).loc cc0_stg0_0
abbrev wL : Loc nD τ sig := (c : Thread nD τ).loc cc0_stg1_0
abbrev pL : Loc nD τ sig := (c : Thread nD τ).loc cc0_stg2_0
abbrev oL : Loc nD τ sig := (c : Thread nD τ).loc cc0_stg3_0

/-- The staged operands. -/
def Stg : sProp 𝕄 := iprop((xL c ↦{fullShare} xV m c) ∗ (wL c ↦{fullShare} wV m c) ∗ (pL c ↦{fullShare} pV m c))

/-- Between the barrier and the scatter's waits: the first `b` local copies awaited, the first `s` tiles computed, the
    first `j` rows sent. -/
def P2 (b s j : ℕ) (R : sProp 𝕄) : sProp 𝕄 :=
  iprop(Rec m K ∗ KV m c 16 b ∗ Ow c 32 j 1 ∗ FRs c j 0 ∗ Acc m c s j ∗ Stg m c ∗ R)

theorem emb_row (k : Dev nD) (y : S1x16x512.Idx) : (rowR k).emb y = (ix3 (show Fin 32 from k) (y 1) (y 2) : S32x16x512.Idx) := by
  have h0 : (y 0).val < 1 := (y 0).isLt
  refine funext fun a => Fin.ext ?_
  rw [Rect.emb_apply]
  match a with
  | ⟨0, _⟩ => show k.val + 1 * (y 0).val = k.val; omega
  | ⟨1, _⟩ => show 0 + 1 * (y 1).val = (y 1).val; omega
  | ⟨2, _⟩ => show 0 + 1 * (y 2).val = (y 2).val; omega

theorem emb_row_mem (k : Dev nD) (y : S1x16x512.Idx) : (rowR k).emb y ∈ rowSet k := by
  rw [emb_row]; simp only [rowSet, Finset.mem_filter, Finset.mem_univ, _root_.true_and]; rfl

theorem rs_landed (p : Dev nD) (hp : p ≠ c) (f : (cc0_scratch2 : Ref sig .tc).ty.Contents (Elt F)) (g : (cc0_scratch3 : Ref sig .tc).ty.Contents (Elt F))
    (hf : ∀ i ∈ rowSet p, f i = accPart m c i) :
    (gL p ↦[rowSet c]{fullShare} (rowM gM ![c.val, 0, 0] (inb_row c)).view.write (Elt F) g
      ((rowM aM ![p.val, 0, 0] (inb_row p)).view.read (Elt F) f) Finset.univ : sProp 𝕄) = (gL p ↦[rowSet c]{fullShare} stageAll m p) := by
  refine pointsTo_congr fun i hi => ?_
  rw [← rowG_set c] at hi
  obtain ⟨j, -, rfl⟩ := Finset.mem_map.mp hi
  rw [View.write_emb_of_mem _ _ (Finset.mem_univ j)]
  obtain ⟨y, hy⟩ : ∃ y : S1x16x512.Idx, y = Shape.reshapeEquiv squeezes_S1x16x512_S16x512.numel_eq j := ⟨_, rfl⟩
  have e1 : (rowM gM ![c.val, 0, 0] (inb_row c)).view.emb j = (rowR c).emb y := by rw [hy]; rfl
  have e2 : (rowM aM ![p.val, 0, 0] (inb_row p)).view.read (Elt F) f j = f ((rowR p).emb y) := by rw [hy]; rfl
  rw [e1, e2]
  refine (hf _ (emb_row_mem p y)).trans ?_
  rw [emb_row p y, emb_row c y]
  unfold stageAll
  exact (if_neg (fun h : c = p => hp h.symm)).symm

theorem ag_landed (p : Dev nD) (g : (cc0_scratch2 : Ref sig .tc).ty.Contents (Elt F)) :
    (aL p ↦[rowSet c]{fullShare} (rowM aM ![c.val, 0, 0] (inb_row c)).view.write (Elt F) g
      ((rowM aM ![c.val, 0, 0] (inb_row c)).view.read (Elt F) (accFin m)) Finset.univ : sProp 𝕄) = (aL p ↦[rowSet c]{fullShare} accFin m) := by
  refine pointsTo_congr fun i hi => ?_
  rw [← rowA_set c] at hi
  obtain ⟨j, -, rfl⟩ := Finset.mem_map.mp hi
  rw [View.write_emb_of_mem _ _ (Finset.mem_univ j)]
  rfl

theorem Aset_split (p : Dev nD) (hp : p ≠ c) : Aset c p.val \ rowSet p = Aset c (p.val + 1) := by
  have hne : p.val ≠ c.val := fun e => hp (Fin.ext e)
  ext i
  simp only [Aset, rowSet, Finset.mem_sdiff, Finset.mem_filter, Finset.mem_univ, true_and]
  omega
theorem Aset_row (p : Dev nD) : rowSet p ⊆ Aset c p.val := fun i hi => by
  simp only [Aset, rowSet, Finset.mem_filter, Finset.mem_univ, true_and] at hi ⊢
  omega
theorem Aset_self : Aset c (c.val + 1) = Aset c c.val := by
  ext i
  simp only [Aset, Finset.mem_filter, Finset.mem_univ, true_and]
  omega

/-- The copy of row `p` to device `p ≠ c`, under no guard. -/
theorem P2_send {R : sProp 𝕄} {α : Type} {kk : PUnit → Prog (TpuEff nD τ sig (Elt F) Λ₀ .tc) α} {Q : α → sProp 𝕄}
    (p : Dev nD) (hp : p ≠ c) {b s j : ℕ} (hj : p.val = j) (hs : j < 4 * s)
    {sS sR : SemLoc sig} (hsS : sS = csem (xc 0 p)) (hsR : sR = csem (xc 1 c))
    {inb inb'} {hsc : (rowM gM ![c.val, 0, 0] inb').view.ref.isScScratch = false}
    {hsrc : (rowM aM ![p.val, 0, 0] inb).view.WordExact} {hdst : (rowM gM ![c.val, 0, 0] inb').view.WordExact}
    {hsem : DmaTarget.Typed .vmem sR (.remote (p := (c : Thread nD τ).2) (Dev.tc p : Thread nD τ) (rowM gM ![c.val, 0, 0] inb') sS hsc)}
    (h : P2 m K c b s (j + 1) R ⊢ wpc c (kk ⟨⟩) Q) :
    P2 m K c b s j R ⊢ wpc c (.op (.enqueueDma (rowM aM ![p.val, 0, 0] inb) (.remote (Dev.tc p : Thread nD τ) (rowM gM ![c.val, 0, 0] inb') sS hsc) sR hsrc hdst hsem) kk) Q := by
  subst hsS hsR hj
  have hF := Fam_start (PRs (F := F) c) (fun p : Dev nD => p.val) (a := p.val) (b := 0) p rfl (fun j hj => Fin.ext hj) (Nat.zero_le _)
  rw [show PRs (F := F) c p 0 = iprop((tok c (xc 0 p) p ∗ tok p (xc 1 c) c ∗ at0 c (xc 0 p)) ∗ slotAny p c) from if_neg hp,
    show PRs (F := F) c p 1 = iprop(crd c (xc 0 p) N ∗ at0 c (xc 0 p)) from if_neg hp] at hF
  unfold slotAny at hF
  have hstep : ∀ f g W, (∀ i ∈ rowSet p, f i = accPart m c i) → iprop(cellInv ER (Rd m) (K (c, xc 0 p)) (kcell (c, xc 0 p)) ∗ cellInv ER (Rd m) (K (p, xc 1 c)) (kcell (p, xc 1 c))
        ∗ (aL c ↦[rowSet p]{fullShare} f) ∗ (gL p ↦[rowSet c]{fullShare} g)
        ∗ owes (c : Thread nD τ) (O c 32 p.val 1) W ∗ tok c (xc 0 p) p ∗ reached ER (kcell (c, xc 0 p)) 0 ∗ tok p (xc 1 c) c ∗ reached ER (kcell (p, xc 1 c)) 0)
      ⊢ iprop(((crd c (xc 0 p) N ∗ owes (c : Thread nD τ) (O c 32 (p.val + 1) 1) W) -∗ wpc c (kk ⟨⟩) Q)
          -∗ wpc c (.op (.enqueueDma (rowM aM ![p.val, 0, 0] inb) (.remote (Dev.tc p : Thread nD τ) (rowM gM ![c.val, 0, 0] inb') (csem (xc 0 p)) hsc) (csem (xc 1 c)) hsrc hdst hsem) kk) Q) := fun f g W hf => by
    have h0 := Rounds.wp_send_landing_pointsTo (defs := defs₀ (F := F)) (Q := Q) (k := kk) (src := rowM aM ![p.val, 0, 0] inb) (dst := rowM gM ![c.val, 0, 0] inb') (hsc := hsc)
      𝒱₀ ER (Rd m) (c : Thread nD τ) none (c' := (p : Thread nD τ)) (κ₁ := K (c, xc 0 p)) (κ₂ := K (p, xc 1 c)) (sS := csem (xc 0 p)) (sem := csem (xc 1 c)) (r₁ := 0) (r₂ := 0) (d₁ := p) (d₂ := c)
      (q := fullShare) (fs := f) (fd := g) (hsrc := hsrc) (hdst := hdst) (hsem := hsem) (Es := Set.univ) (Γ := [])
      (by rw [duties_kcell]; show p ∈ (if p = c then ∅ else {p} : Finset (Dev nD)); rw [if_neg hp]; exact Finset.mem_singleton_self p)
      (by rw [duties_kcell]; show c ∈ (if c = p then ∅ else {c} : Finset (Dev nD)); rw [if_neg hp.symm]; exact Finset.mem_singleton_self c)
      () () N rfl (amount_kcell m c (xc 0 p) p) (amount_kcell m p (xc 1 c) c) (O c 32 (p.val + 1) 1) (O_rs c 32 1 p hp) (W := W)
      (by rw [payload_kcell]; exact Entails.refl _)
      (by rw [payload_kcell, rowA_set, rowG_set]; show _ ⊢ rsPay m p c; unfold rsPay
          exact Entails.of_eq (congrArg₂ (fun y z => iprop(y ∗ z)) (rs_landed m c p hp f g hf) (pointsTo_congr hf)))
    rw [rowA_set, rowG_set] at h0
    exact h0
  unfold P2 Acc Ow at h ⊢
  iintro ⟨#HR, HKV, ⟨%W, HO⟩, HF, ⟨%f, %hf, HA⟩, HS, HRest⟩
  have hf' : ∀ i ∈ rowSet p, f i = accPart m c i := fun i hi => hf i (by
    simp only [rowSet, Finset.mem_filter, Finset.mem_univ, _root_.true_and] at hi; omega)
  ihave HI := (Rec_inv m K (c, xc 0 p)) $$ HR
  ihave Hr := (Rec_reached m K (c, xc 0 p)) $$ HR
  ihave HI' := (Rec_inv m K (p, xc 1 c)) $$ HR
  ihave Hr' := (Rec_reached m K (p, xc 1 c)) $$ HR
  ihave HF := hF $$ HF
  icases HF with ⟨⟨⟨Ht, Ht', Hat⟩, ⟨%g, Hg⟩⟩, HF⟩
  ihave HA := (pointsTo_split_subset (Aset_row c p)).1 $$ HA
  icases HA with ⟨Hrow, HA⟩
  iapply (hstep f g W hf') $$ [HI HI' Hrow Hg HO Ht Hr Ht' Hr']
  · isplitl [HI]; · iexact HI
    isplitl [HI']; · iexact HI'
    isplitl [Hrow]; · iexact Hrow
    isplitl [Hg]; · iexact Hg
    isplitl [HO]; · iexact HO
    isplitl [Ht]; · iexact Ht
    isplitl [Hr]; · iexact Hr
    isplitl [Ht']; · iexact Ht'
    iexact Hr'
  iintro ⟨Hc, HO⟩
  ihave HF := HF $$ [Hc Hat]
  · isplitl [Hc]; · iexact Hc
    iexact Hat
  ihave HA := (Entails.of_eq (congrArg (fun I => (aL c ↦[I]{fullShare} f : sProp 𝕄)) (Aset_split c p hp))) $$ HA
  iapply h
  isplitr; · iexact HR
  isplitl [HKV]; · iexact HKV
  isplitl [HO]; · iexists W; iexact HO
  isplitl [HF]; · iexact HF
  isplitl [HA]
  · iexists f
    isplitr; · ipureintro; exact hf
    iexact HA
  isplitl [HS]; · iexact HS
  iexact HRest

/-- At its own row a device sends nothing. -/
theorem P2_skip {R : sProp 𝕄} {b s : ℕ} : P2 m K c b s c.val R ⊢ P2 m K c b s (c.val + 1) R := by
  have hF := Fam_start (PRs (F := F) c) (fun p : Dev nD => p.val) (a := c.val) (b := 0) c rfl (fun j hj => Fin.ext hj) (Nat.zero_le _)
  rw [show PRs (F := F) c c 0 = at0 c (xc 0 c) from if_pos rfl, show PRs (F := F) c c 1 = at0 c (xc 0 c) from if_pos rfl] at hF
  unfold P2 Acc Ow
  rw [Aset_self, ← O_rs_self]
  iintro ⟨HR, HKV, HO, HF, HA, HS, HRest⟩
  ihave HF := hF $$ HF
  icases HF with ⟨Hat, HF⟩
  ihave HF := HF $$ Hat
  isplitl [HR]; · iexact HR
  isplitl [HKV]; · iexact HKV
  isplitl [HO]; · iexact HO
  isplitl [HF]; · iexact HF
  isplitl [HA]; · iexact HA
  isplitl [HS]; · iexact HS
  iexact HRest

/-- The guarded copy of row `k`: sent unless the device is `k` itself. -/
theorem P2_rs {R : sProp 𝕄} {α β : Type} {rest : Prog (TpuEff nD τ sig (Elt F) Λ₀ .tc) β} {kk : β → Prog (TpuEff nD τ sig (Elt F) Λ₀ .tc) α} {Q : α → sProp 𝕄}
    {b s j : ℕ} (hj : j < 32) (hs : j < 4 * s) {cnd : BitVec 1} (hc : cnd = 1#1 ↔ c.val ≠ j)
    {oS oR : Fin 1 → ℕ} {oD oA : Fin 3 → ℕ} {n : ℕ}
    {iS : ∀ a, oS a + S1.size a ≤ S32.size a} {iR : cnd = 1#1 → ∀ a, oR a + S1.size a ≤ S32.size a}
    {iA : ∀ a, oA a + S1x16x512.size a ≤ S32x16x512.size a} {iD : cnd = 1#1 → ∀ a, oD a + S1x16x512.size a ≤ S32x16x512.size a}
    {hlt : cnd = 1#1 → n < nD}
    (hS : oS = ![j]) (hR : oR = ![c.val]) (hD : oD = ![c.val, 0, 0]) (hA : oA = ![j, 0, 0]) (hn : n = j)
    {hsc : ∀ e : cnd = 1#1, (rowM gM oD (iD e)).view.ref.isScScratch = false}
    {hsrc : cnd = 1#1 → (rowM aM oA iA).view.WordExact} {hdst : ∀ e : cnd = 1#1, (rowM gM oD (iD e)).view.WordExact}
    {hsem : ∀ e : cnd = 1#1, DmaTarget.Typed .vmem (.dma ((cc0_scratch6.slice (Rect.unit (s := S32) oR S1.size (iR e))).squeeze S_ squeezes_S1_S_).sem)
      (.remote (p := (c : Thread nD τ).2) (Dev.tc (⟨n, hlt e⟩ : Dev nD) : Thread nD τ) (rowM gM oD (iD e))
        (.dma ((cc0_scratch5.slice (Rect.unit (s := S32) oS S1.size iS)).squeeze S_ squeezes_S1_S_).sem) (hsc e))}
    (h : P2 m K c b s (j + 1) R ⊢ wpc c (Prog.bind rest kk) Q) :
    P2 m K c b s j R ⊢ wpc c (Prog.bind (if e : cnd = 1#1 then
        .op (.enqueueDma (rowM aM oA iA) (.remote (Dev.tc (⟨n, hlt e⟩ : Dev nD) : Thread nD τ) (rowM gM oD (iD e))
          (.dma ((cc0_scratch5.slice (Rect.unit (s := S32) oS S1.size iS)).squeeze S_ squeezes_S1_S_).sem) (hsc e))
          (.dma ((cc0_scratch6.slice (Rect.unit (s := S32) oR S1.size (iR e))).squeeze S_ squeezes_S1_S_).sem) (hsrc e) (hdst e) (hsem e)) fun _ => rest
      else rest) kk) Q := by
  by_cases e : cnd = 1#1
  · rw [dif_pos e]
    have hne := hc.mp e
    subst hD hA hn
    refine P2_send m K c (kk := fun _ => Prog.bind rest kk) ⟨n, hlt e⟩ (fun h => hne (congrArg Fin.val h).symm) rfl hs (sem_x0 _ ⟨n, hlt e⟩ hS) (sem_x1 _ c hR) ?_
    exact h
  · rw [dif_neg e]
    have hj : c.val = j := by by_contra hn; exact e (hc.mpr hn)
    subst hj
    exact (P2_skip m K c).trans h

end Cert.Ring

end
-- ==== Proof.Tiles.lean ====
/-
# Loads and tiles

The loads and stores between the barrier and the scatter's waits, and the waits on the local copies.
-/
module

public import proofs.«01_k».proof.Proof.Scatter

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem setOn_load (b : Ref sig .tc) (r : Rect b.ty.shape) : (Memref.whole b : Memref sig .tc _ _ _).view.setOn r.toLoadRect.set = r.set := by
  show Finset.map (Function.Embedding.refl _) r.toLoadRect.set = r.set
  rw [Finset.map_refl]
theorem setOn_store (b : Ref sig .tc) (r : Rect b.ty.shape) : ((Memref.whole b : Memref sig .tc _ _ _).access r).setOn Finset.univ = r.set :=
  View.set_slice_whole b r

/-! ## Loads -/

/-- A load of what the state lends. -/
theorem step_load {S : sProp 𝕄} {sp : CoreSpace} {s : Shape} {e : EltTy} {M : Memref sig (c : Thread nD τ).2.kind sp s e} {r : LoadRect s} {hl : M.view.LoadsAt r}
    {I : Finset (Idx (M.view.loc (c : Thread nD τ)))} {q : PosShare TreeShare} {f : Buf (Elt F) (M.view.loc (c : Thread nD τ))} (hI : M.view.setOn r.set ⊆ I)
    {α : Type} {kk : (r.shape.Idx → Elt F e) → Prog (TpuEff nD τ sig (Elt F) Λ₀ .tc) α} {Q : α → sProp 𝕄}
    (hlend : S ⊢ iprop((M.view.loc (c : Thread nD τ) ↦[I]{q} f) ∗ ((M.view.loc (c : Thread nD τ) ↦[I]{q} f) -∗ S)))
    (h : S ⊢ wpc c (kk (M.view.readAt (Elt F) r f)) Q) : S ⊢ wpc c (.op (.load M r hl) kk) Q := by
  have hstep := wp_load (defs := defs₀ (F := F)) (Γ := []) (Q := Q) 𝒱₀ (c : Thread nD τ) none Set.univ (m := M) (r := r) (hl := hl) (k := kk) (q := q) (f := f) hI
  refine hlend.trans ?_
  iintro ⟨Hp, Hb⟩
  iapply hstep $$ Hp
  iintro Hp
  ihave HS := Hb $$ Hp
  iapply h
  iexact HS

/-- A load whose value is not used. -/
theorem step_load_any {S : sProp 𝕄} {sp : CoreSpace} {s : Shape} {e : EltTy} {M : Memref sig (c : Thread nD τ).2.kind sp s e} {r : LoadRect s} {hl : M.view.LoadsAt r}
    {I : Finset (Idx (M.view.loc (c : Thread nD τ)))} {q : PosShare TreeShare} (hI : M.view.setOn r.set ⊆ I)
    {α : Type} {kk : (r.shape.Idx → Elt F e) → Prog (TpuEff nD τ sig (Elt F) Λ₀ .tc) α} {Q : α → sProp 𝕄}
    (hlend : S ⊢ iprop(∃ f : Buf (Elt F) (M.view.loc (c : Thread nD τ)), (M.view.loc (c : Thread nD τ) ↦[I]{q} f) ∗ ((M.view.loc (c : Thread nD τ) ↦[I]{q} f) -∗ S)))
    (h : ∀ v, S ⊢ wpc c (kk v) Q) : S ⊢ wpc c (.op (.load M r hl) kk) Q := by
  refine hlend.trans ?_
  iintro ⟨%f, Hp, Hb⟩
  have hstep := wp_load (defs := defs₀ (F := F)) (Γ := []) (Q := Q) 𝒱₀ (c : Thread nD τ) none Set.univ (m := M) (r := r) (hl := hl) (k := kk) (q := q) (f := f) hI
  iapply hstep $$ Hp
  iintro Hp
  ihave HS := Hb $$ Hp
  iapply (h (M.view.readAt (Elt F) r f))
  iexact HS

section Loads
variable {b s j : ℕ}

theorem P2_x {R : sProp 𝕄} {α : Type} {Q : α → sProp 𝕄}
    {o : Fin 3 → ℕ} (ho : o = fun _ => 0) {inb : ∀ a, o a + S2x256x512.size a ≤ S2x256x512.size a}
    {hl : xM.view.LoadsAt (Rect.unit (s := S2x256x512) o S2x256x512.size inb).toLoadRect}
    {kk : Vec F S2x256x512 .f32 → Prog (TpuEff nD τ sig (Elt F) Λ₀ .tc) α}
    (h : P2 m K c b s j R ⊢ wpc c (kk (xV m c)) Q) :
    P2 m K c b s j R ⊢ wpc c (.op (.load xM (Rect.unit (s := S2x256x512) o S2x256x512.size inb).toLoadRect hl) kk) Q := by
  refine step_load c (M := xM) (I := Finset.univ) (q := fullShare) (f := xV m c) (Finset.subset_univ _) ?_ ?_
  · unfold P2 Stg
    iintro ⟨H1, H2, H3, H4, H5, ⟨Hx, Hw, Hp⟩, H6⟩
    isplitl [Hx]; · iexact Hx
    iintro Hx
    isplitl [H1]; · iexact H1
    isplitl [H2]; · iexact H2
    isplitl [H3]; · iexact H3
    isplitl [H4]; · iexact H4
    isplitl [H5]; · iexact H5
    isplitr [H6]
    · isplitl [Hx]; · iexact Hx
      isplitl [Hw]; · iexact Hw
      iexact Hp
    iexact H6
  · have e : xM.view.readAt (Elt F) (Rect.unit (s := S2x256x512) o S2x256x512.size inb).toLoadRect (xV m c) = xV m c := Memref.readAt_unit_zero (Elt F) cc0_stg0_0 ho inb _
    rw [e]; exact h

theorem P2_w {R : sProp 𝕄} {α : Type} {Q : α → sProp 𝕄} (hd : Fin 4)
    {o : Fin 2 → ℕ} (ho : o = ![0, 64 * hd.val]) {inb : ∀ a, o a + S512x64.size a ≤ S512x256.size a}
    {hl : wM.view.LoadsAt (Rect.unit (s := S512x256) o S512x64.size inb).toLoadRect}
    {kk : Vec F S512x64 .f32 → Prog (TpuEff nD τ sig (Elt F) Λ₀ .tc) α}
    (h : P2 m K c b s j R ⊢ wpc c (kk (wCol m c hd)) Q) :
    P2 m K c b s j R ⊢ wpc c (.op (.load wM (Rect.unit (s := S512x256) o S512x64.size inb).toLoadRect hl) kk) Q := by
  subst ho
  refine step_load c (M := wM) (I := Finset.univ) (q := fullShare) (f := wV m c) (Finset.subset_univ _) ?_ (by exact h)
  unfold P2 Stg
  iintro ⟨H1, H2, H3, H4, H5, ⟨Hx, Hw, Hp⟩, H6⟩
  isplitl [Hw]; · iexact Hw
  iintro Hw
  isplitl [H1]; · iexact H1
  isplitl [H2]; · iexact H2
  isplitl [H3]; · iexact H3
  isplitl [H4]; · iexact H4
  isplitl [H5]; · iexact H5
  isplitr [H6]
  · isplitl [Hx]; · iexact Hx
    isplitl [Hw]; · iexact Hw
    iexact Hp
  iexact H6

theorem P2_p {R : sProp 𝕄} {α : Type} {Q : α → sProp 𝕄}
    {o : Fin 2 → ℕ} (ho : o = fun _ => 0) {inb : ∀ a, o a + S256x512.size a ≤ S256x512.size a}
    {hl : pM.view.LoadsAt (Rect.unit (s := S256x512) o S256x512.size inb).toLoadRect}
    {kk : Vec F S256x512 .f32 → Prog (TpuEff nD τ sig (Elt F) Λ₀ .tc) α}
    (h : P2 m K c b s j R ⊢ wpc c (kk (pV m c)) Q) :
    P2 m K c b s j R ⊢ wpc c (.op (.load pM (Rect.unit (s := S256x512) o S256x512.size inb).toLoadRect hl) kk) Q := by
  refine step_load c (M := pM) (I := Finset.univ) (q := fullShare) (f := pV m c) (Finset.subset_univ _) ?_ ?_
  · unfold P2 Stg
    iintro ⟨H1, H2, H3, H4, H5, ⟨Hx, Hw, Hp⟩, H6⟩
    isplitl [Hp]; · iexact Hp
    iintro Hp
    isplitl [H1]; · iexact H1
    isplitl [H2]; · iexact H2
    isplitl [H3]; · iexact H3
    isplitl [H4]; · iexact H4
    isplitl [H5]; · iexact H5
    isplitr [H6]
    · isplitl [Hx]; · iexact Hx
      isplitl [Hw]; · iexact Hw
      iexact Hp
    iexact H6
  · have e : pM.view.readAt (Elt F) (Rect.unit (s := S256x512) o S256x512.size inb).toLoadRect (pV m c) = pV m c := Memref.readAt_unit_zero (Elt F) cc0_stg2_0 ho inb _
    rw [e]; exact h

theorem P2_k {R : sProp 𝕄} {α : Type} {Q : α → sProp 𝕄} (t : Fin 8) (hb : 2 * t.val < b)
    {o : Fin 4 → ℕ} (ho : o = ![t.val / 4, 64 * (t.val % 4), 0, 0]) {inb : ∀ a, o a + S1x64x64x128.size a ≤ S2x256x64x128.size a}
    {hl : kM.view.LoadsAt (Rect.unit (s := S2x256x64x128) o S1x64x64x128.size inb).toLoadRect}
    {kk : Vec F S1x64x64x128 .f32 → Prog (TpuEff nD τ sig (Elt F) Λ₀ .tc) α}
    (h : P2 m K c b s j R ⊢ wpc c (kk (kT m c t)) Q) :
    P2 m K c b s j R ⊢ wpc c (.op (.load kM (Rect.unit (s := S2x256x64x128) o S1x64x64x128.size inb).toLoadRect hl) kk) Q := by
  subst ho
  have hF := Fam_look (PKV m c) rkv (a := 16) (b := b) (lo t)
  rw [st_done (by rw [rkv_lo]; exact hb), PKV_2, payKV_lo] at hF
  unfold kPay at hF
  refine step_load c (M := kM) (I := kset t) (q := fullShare) (f := m (k0L c)) ?_ ?_ (by exact h)
  · exact Finset.Subset.antisymm_iff.mp ((setOn_load cc0_scratch0 (tileR t)).trans (tileR_set t)) |>.1
  · unfold P2
    iintro ⟨H1, H2, H3, H4, H5, H7, H6⟩
    ihave H2 := hF $$ H2
    icases H2 with ⟨⟨⟨Hk, Hs⟩, Ha⟩, H2⟩
    isplitl [Hk]; · iexact Hk
    iintro Hk
    ihave H2 := H2 $$ [Hk Hs Ha]
    · isplitr [Ha]
      · isplitl [Hk]; · iexact Hk
        iexact Hs
      iexact Ha
    isplitl [H1]; · iexact H1
    isplitl [H2]; · iexact H2
    isplitl [H3]; · iexact H3
    isplitl [H4]; · iexact H4
    isplitl [H5]; · iexact H5
    isplitl [H7]; · iexact H7
    iexact H6

theorem P2_v {R : sProp 𝕄} {α : Type} {Q : α → sProp 𝕄} (t : Fin 8) (hb : 2 * t.val + 1 < b)
    {o : Fin 4 → ℕ} (ho : o = ![t.val / 4, 64 * (t.val % 4), 0, 0]) {inb : ∀ a, o a + S1x64x64x128.size a ≤ S2x256x64x128.size a}
    {hl : vM.view.LoadsAt (Rect.unit (s := S2x256x64x128) o S1x64x64x128.size inb).toLoadRect}
    {kk : Vec F S1x64x64x128 .f32 → Prog (TpuEff nD τ sig (Elt F) Λ₀ .tc) α}
    (h : P2 m K c b s j R ⊢ wpc c (kk (vT m c t)) Q) :
    P2 m K c b s j R ⊢ wpc c (.op (.load vM (Rect.unit (s := S2x256x64x128) o S1x64x64x128.size inb).toLoadRect hl) kk) Q := by
  subst ho
  have hF := Fam_look (PKV m c) rkv (a := 16) (b := b) (Ring.hi t)
  rw [st_done (by rw [rkv_hi]; exact hb), PKV_2, payKV_hi] at hF
  unfold vPay at hF
  refine step_load c (M := vM) (I := kset t) (q := fullShare) (f := m (v0L c)) ?_ ?_ (by exact h)
  · exact Finset.Subset.antisymm_iff.mp ((setOn_load cc0_scratch1 (tileR t)).trans (tileR_set t)) |>.1
  · unfold P2
    iintro ⟨H1, H2, H3, H4, H5, H7, H6⟩
    ihave H2 := hF $$ H2
    icases H2 with ⟨⟨⟨Hk, Hs⟩, Ha⟩, H2⟩
    isplitl [Hk]; · iexact Hk
    iintro Hk
    ihave H2 := H2 $$ [Hk Hs Ha]
    · isplitr [Ha]
      · isplitl [Hk]; · iexact Hk
        iexact Hs
      iexact Ha
    isplitl [H1]; · iexact H1
    isplitl [H2]; · iexact H2
    isplitl [H3]; · iexact H3
    isplitl [H4]; · iexact H4
    isplitl [H5]; · iexact H5
    isplitl [H7]; · iexact H7
    iexact H6

/-! ## The accumulator's tiles -/

/-- The four rows of tile `t`. -/
abbrev accR (o : Fin 3 → ℕ) (inb : ∀ a, o a + S4x16x512.size a ≤ S32x16x512.size a) : Rect S32x16x512 := Rect.unit (s := S32x16x512) o S4x16x512.size inb

theorem accR_sub {t : ℕ} {inb} : (accR ![4 * t, 0, 0] inb).set ⊆ Aset c (4 * t) := fun i hi => by
  have h := (Rect.mem_set_unit.mp hi (0 : Fin 3)).1
  simp only [Aset, Finset.mem_filter, Finset.mem_univ, _root_.true_and]
  exact Or.inl h

theorem P2_a {R : sProp 𝕄} {α : Type} {Q : α → sProp 𝕄} {t : ℕ} {inb} {hl : aM.view.LoadsAt (accR ![4 * t, 0, 0] inb).toLoadRect}
    {kk : Vec F S4x16x512 .f32 → Prog (TpuEff nD τ sig (Elt F) Λ₀ .tc) α}
    (h : ∀ v, P2 m K c b s (4 * t) R ⊢ wpc c (kk v) Q) :
    P2 m K c b s (4 * t) R ⊢ wpc c (.op (.load aM (accR ![4 * t, 0, 0] inb).toLoadRect hl) kk) Q := by
  refine step_load_any c (M := aM) (I := Aset c (4 * t)) (q := fullShare) ?_ ?_ h
  · rw [setOn_load cc0_scratch2]; exact accR_sub c
  · unfold P2 Acc
    iintro ⟨H1, H2, H3, H4, ⟨%f, %hf, Ha⟩, H7, H6⟩
    iexists f
    isplitl [Ha]; · iexact Ha
    iintro Ha
    isplitl [H1]; · iexact H1
    isplitl [H2]; · iexact H2
    isplitl [H3]; · iexact H3
    isplitl [H4]; · iexact H4
    isplitl [Ha]
    · iexists f
      isplitr; · ipureintro; exact hf
      iexact Ha
    isplitl [H7]; · iexact H7
    iexact H6

theorem tile_written (t : Fin 8) (inb) (f : (cc0_scratch2 : Ref sig .tc).ty.Contents (Elt F)) (hf : ∀ i : S32x16x512.Idx, (i 0).val < 4 * t.val → f i = accPart m c i)
    (i : S32x16x512.Idx) (hi : (i 0).val < 4 * (t.val + 1)) :
    (aM.access (accR ![4 * t.val, 0, 0] inb)).write (Elt F) f (tileV m c t) Finset.univ (show (aM.access (accR ![4 * t.val, 0, 0] inb)).ty.Idx from i) = accPart m c i := by
  by_cases hlt : (i 0).val < 4 * t.val
  · rw [View.write_of_not_mem]
    · exact hf i hlt
    · rw [setOn_store cc0_scratch2]
      intro hm
      exact absurd hlt (Nat.not_lt.mpr (Rect.mem_set_unit.mp hm (0 : Fin 3)).1)
  · obtain ⟨y, hy⟩ : ∃ y : S4x16x512.Idx, y = ix3 (⟨(i 0).val - 4 * t.val, by omega⟩ : Fin 4) (i 1) (i 2) := ⟨_, rfl⟩
    have e : (aM.access (accR ![4 * t.val, 0, 0] inb)).emb y = i := by
      subst hy
      refine funext fun a => Fin.ext ?_
      match a with
      | ⟨0, _⟩ => show 4 * t.val + 1 * ((i 0).val - 4 * t.val) = (i 0).val; omega
      | ⟨1, _⟩ => show 0 + 1 * (i 1).val = (i 1).val; omega
      | ⟨2, _⟩ => show 0 + 1 * (i 2).val = (i 2).val; omega
    conv_lhs => rw [← e]
    rw [View.write_emb_of_mem _ _ (Finset.mem_univ y)]
    show tileV m c t y = accPart m c i
    unfold accPart
    have h1 : (i 0).val / 4 = t.val := by omega
    have h2 : (i 0).val % 4 = (i 0).val - 4 * t.val := by omega
    rw [hy]
    congr 2
    · exact Fin.ext h1.symm
    · exact Fin.ext h2.symm

theorem P2_tile {R : sProp 𝕄} {α : Type} {Q : α → sProp 𝕄} (t : Fin 8) {inb}
    {w : FVec F S4x16x512 .f32} (hw : w = tileV m c t)
    {hx : (aM.access (accR ![4 * t.val, 0, 0] inb)).Stores Finset.univ} {hm}
    {kk : PUnit → Prog (TpuEff nD τ sig (Elt F) Λ₀ .tc) α}
    (h : P2 m K c b (t.val + 1) (4 * t.val) R ⊢ wpc c (kk ⟨⟩) Q) :
    P2 m K c b t.val (4 * t.val) R ⊢ wpc c (.op (.store aM (accR ![4 * t.val, 0, 0] inb) w Finset.univ hx hm) kk) Q := by
  subst hw
  have hstep : ∀ f, (aL c ↦[Aset c (4 * t.val)]{fullShare} f) ⊢ iprop(((aL c ↦[Aset c (4 * t.val)]{fullShare} ((aM.access (accR ![4 * t.val, 0, 0] inb)).write (Elt F) f (tileV m c t) Finset.univ)) -∗ wpc c (kk ⟨⟩) Q)
      -∗ wpc c (.op (.store aM (accR ![4 * t.val, 0, 0] inb) (tileV m c t) Finset.univ hx hm) kk) Q) := fun f =>
    wp_store (defs := defs₀ (F := F)) (Γ := []) (Q := Q) 𝒱₀ (c : Thread nD τ) none Set.univ (m := aM) (r := accR ![4 * t.val, 0, 0] inb) (w := tileV m c t) (Mk := Finset.univ) (hx := hx) (hm := hm) (k := kk)
      (S := Aset c (4 * t.val)) (f := f) (by rw [setOn_store cc0_scratch2]; exact accR_sub c)
  have hopen : Acc m c t.val (4 * t.val) ⊢ iprop(∃ f, ⌜∀ i : S32x16x512.Idx, (i 0).val < 4 * t.val → f i = accPart m c i⌝ ∗ (aL c ↦[Aset c (4 * t.val)]{fullShare} f)) := Entails.refl _
  have hacc : ∀ f : (cc0_scratch2 : Ref sig .tc).ty.Contents (Elt F), (∀ i : S32x16x512.Idx, (i 0).val < 4 * t.val → f i = accPart m c i) →
      (aL c ↦[Aset c (4 * t.val)]{fullShare} ((aM.access (accR ![4 * t.val, 0, 0] inb)).write (Elt F) f (tileV m c t) Finset.univ)) ⊢ Acc m c (t.val + 1) (4 * t.val) := fun f hf => by
    obtain ⟨g, hg⟩ : ∃ g : (cc0_scratch2 : Ref sig .tc).ty.Contents (Elt F), g = (aM.access (accR ![4 * t.val, 0, 0] inb)).write (Elt F) f (tileV m c t) Finset.univ := ⟨_, rfl⟩
    have hw : ∀ i : S32x16x512.Idx, (i 0).val < 4 * (t.val + 1) → g i = accPart m c i := fun i hi => by rw [hg]; exact tile_written m c t inb f hf i hi
    rw [← hg]
    unfold Acc
    iintro Ha
    iexists g
    isplitr; · ipureintro; exact hw
    iexact Ha
  unfold P2 at h ⊢
  iintro ⟨H1, H2, H3, H4, Ha, H7, H6⟩
  ihave Ha := hopen $$ Ha
  icases Ha with ⟨%f, %hf, Ha⟩
  iapply (hstep f) $$ Ha
  iintro Ha
  ihave Ha := (hacc f hf) $$ Ha
  iapply h
  isplitl [H1]; · iexact H1
  isplitl [H2]; · iexact H2
  isplitl [H3]; · iexact H3
  isplitl [H4]; · iexact H4
  isplitl [Ha]; · iexact Ha
  isplitl [H7]; · iexact H7
  iexact H6

/-! ## The waits on the local copies -/

theorem P2_waitK {R : sProp 𝕄} {α : Type} {kk : PUnit → Prog (TpuEff nD τ sig (Elt F) Λ₀ .tc) α} {Q : α → sProp 𝕄}
    (t : Fin 8) (hn : 2 * t.val = b) {sem : DmaSem sig} (hs : SemLoc.dma sem = csem (kv (lo t)))
    {sp sp' : Space} {s₁ s₂ : Shape} {ty ty' : EltTy} {κ' : Kind}
    {src : Memref sig .tc sp' s₂ ty'} {dst : Memref sig κ' sp s₁ ty} {hsrc : src.view.WordExact} {hdst : dst.view.WordExact} (hN : dst.view.dmaCredit = NK)
    (h : P2 m K c (b + 1) s j R ⊢ wpc c (kk ⟨⟩) Q) :
    P2 m K c b s j R ⊢ wpc c (.op (.waitDma2 sem src dst hsrc hdst) kk) Q := by
  have e1 : PKV m c (lo t) 1 ⊢ iprop(crd c (kv (lo t)) NK ∗ at0 c (kv (lo t))) := by rw [PKV_1]
  have e2 : iprop(bigSep ((Rd m).duties (kcell (c, kv (lo t))) 0 \ ∅) (fun d => (Rd m).payload (kcell (c, kv (lo t))) 0 d) ∗ at1 c (kv (lo t))) ⊢ PKV m c (lo t) 2 := by
    rw [PKV_2, rest_kv]
  exact step_wait m K c (PKV m c) rkv (lo t) (by rw [rkv_lo]; exact hn) (fun j hj => rkv_inj (by rw [hj, rkv_lo]; exact hn.symm))
    (by have := t.isLt; omega) (kv (lo t)) (expect_kv m c (lo t)) e1 e2 (fun _ => Nat.zero_lt_one) (fun _ => Nat.zero_lt_two) (fun _ => Nat.zero_lt_succ 2) hs hN h

theorem P2_waitV {R : sProp 𝕄} {α : Type} {kk : PUnit → Prog (TpuEff nD τ sig (Elt F) Λ₀ .tc) α} {Q : α → sProp 𝕄}
    (t : Fin 8) (hn : 2 * t.val + 1 = b) {sem : DmaSem sig} (hs : SemLoc.dma sem = csem (kv (Ring.hi t)))
    {sp sp' : Space} {s₁ s₂ : Shape} {ty ty' : EltTy} {κ' : Kind}
    {src : Memref sig .tc sp' s₂ ty'} {dst : Memref sig κ' sp s₁ ty} {hsrc : src.view.WordExact} {hdst : dst.view.WordExact} (hN : dst.view.dmaCredit = NK)
    (h : P2 m K c (b + 1) s j R ⊢ wpc c (kk ⟨⟩) Q) :
    P2 m K c b s j R ⊢ wpc c (.op (.waitDma2 sem src dst hsrc hdst) kk) Q := by
  have e1 : PKV m c (Ring.hi t) 1 ⊢ iprop(crd c (kv (Ring.hi t)) NK ∗ at0 c (kv (Ring.hi t))) := by rw [PKV_1]
  have e2 : iprop(bigSep ((Rd m).duties (kcell (c, kv (Ring.hi t))) 0 \ ∅) (fun d => (Rd m).payload (kcell (c, kv (Ring.hi t))) 0 d) ∗ at1 c (kv (Ring.hi t))) ⊢ PKV m c (Ring.hi t) 2 := by
    rw [PKV_2, rest_kv]
  exact step_wait m K c (PKV m c) rkv (Ring.hi t) (by rw [rkv_hi]; exact hn) (fun j hj => rkv_inj (by rw [hj, rkv_hi]; exact hn.symm))
    (by have := t.isLt; omega) (kv (Ring.hi t)) (expect_kv m c (Ring.hi t)) e1 e2 (fun _ => Nat.zero_lt_one) (fun _ => Nat.zero_lt_two) (fun _ => Nat.zero_lt_succ 2) hs hN h

end Loads

end Cert.Ring

end
-- ==== Proof.Gather.lean ====
/-
# The barrier wait, the sum and the gather

The wait on the barrier, the sum of the landed rows, the copies of the sum and the waits on every copy.
-/
module

public import proofs.«01_k».proof.Proof.Tiles

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Families regrouped -/

theorem join_erase {Φ Ψ Θ : Dev nD → sProp 𝕄} (h0 : Φ c ⊢ Θ c) (h : ∀ p, p ≠ c → iprop(Φ p ∗ Ψ p) ⊢ Θ p) :
    iprop(bigSep Finset.univ Φ ∗ bigSep (Finset.univ.erase c) Ψ) ⊢ bigSep Finset.univ Θ := by
  have e1 : bigSep Finset.univ Φ = iprop(Φ c ∗ bigSep (Finset.univ.erase c) Φ) := BI.bigSep_univ_split c
  have e2 : bigSep Finset.univ Θ = iprop(Θ c ∗ bigSep (Finset.univ.erase c) Θ) := BI.bigSep_univ_split c
  have e3 : iprop(bigSep (Finset.univ.erase c) Φ ∗ bigSep (Finset.univ.erase c) Ψ) ⊢ bigSep (Finset.univ.erase c) Θ :=
    (Entails.of_eq (BI.bigSep_sep _ Φ Ψ).symm).trans (BI.bigSep_mono fun p hp => h p (Finset.ne_of_mem_erase hp))
  rw [e1, e2]
  iintro ⟨⟨H0, H1⟩, H2⟩
  isplitl [H0]; · iapply h0; iexact H0
  iapply e3
  isplitl [H1]; · iexact H1
  iexact H2

theorem split_erase {Φ Ψ Θ : Dev nD → sProp 𝕄} (h0 : Θ c ⊢ Φ c) (h : ∀ p, p ≠ c → Θ p ⊢ iprop(Φ p ∗ Ψ p)) :
    bigSep Finset.univ Θ ⊢ iprop(bigSep Finset.univ Φ ∗ bigSep (Finset.univ.erase c) Ψ) := by
  have e1 : bigSep Finset.univ Φ = iprop(Φ c ∗ bigSep (Finset.univ.erase c) Φ) := BI.bigSep_univ_split c
  have e2 : bigSep Finset.univ Θ = iprop(Θ c ∗ bigSep (Finset.univ.erase c) Θ) := BI.bigSep_univ_split c
  have e3 : bigSep (Finset.univ.erase c) Θ ⊢ iprop(bigSep (Finset.univ.erase c) Φ ∗ bigSep (Finset.univ.erase c) Ψ) :=
    (BI.bigSep_mono fun p hp => h p (Finset.ne_of_mem_erase hp)).trans (Entails.of_eq (BI.bigSep_sep _ Φ Ψ))
  rw [e1, e2]
  iintro ⟨H0, H1⟩
  ihave H1 := e3 $$ H1
  icases H1 with ⟨H1, H2⟩
  isplitr [H2]
  · isplitl [H0]; · iapply h0; iexact H0
    iexact H1
  iexact H2

theorem rowsA (p : Dev nD) (f : (cc0_scratch2 : Ref sig .tc).ty.Contents (Elt F)) :
    (aL p ↦{fullShare} f : sProp 𝕄) = bigSep Finset.univ fun k => aL p ↦[rowSet k]{fullShare} f := by
  exact (congrArg (fun I => (aL p ↦[I]{fullShare} f : sProp 𝕄)) rowSet_biUnion.symm).trans (pointsTo_biUnion (ℓ := aL p) Finset.univ rowSet (fun _ _ _ _ h => rowSet_disjoint h))
theorem rowsG (p : Dev nD) (f : (cc0_scratch3 : Ref sig .tc).ty.Contents (Elt F)) :
    (gL p ↦{fullShare} f : sProp 𝕄) = bigSep Finset.univ fun k => gL p ↦[rowSet k]{fullShare} f := by
  exact (congrArg (fun I => (gL p ↦[I]{fullShare} f : sProp 𝕄)) rowSet_biUnion.symm).trans (pointsTo_biUnion (ℓ := gL p) Finset.univ rowSet (fun _ _ _ _ h => rowSet_disjoint h))

theorem off_pos {p : Dev nD} (h : p ≠ c) : 1 ≤ off c p := Nat.pos_of_ne_zero fun e => h (off_eq_zero.mp e)

/-! ## The barrier's wait -/

/-- What a copy of the scatter needs, but for the landing row. -/
def RsPre (p : Dev nD) : sProp 𝕄 :=
  if p = c then at0 c (xc 0 p) else iprop(tok c (xc 0 p) p ∗ tok p (xc 1 c) c ∗ at0 c (xc 0 p))
/-- What a copy of the gather needs, but for the rows. -/
def AsPre (p : Dev nD) : sProp 𝕄 :=
  if p = c then at0 c (xc 2 p) else iprop(tok c (xc 2 p) p ∗ tok p (xc 3 c) c ∗ at0 c (xc 2 p))

theorem FRs_intro : iprop(bigSep Finset.univ (RsPre (F := F) c) ∗ bigSep (Finset.univ.erase c) fun d => slotAny (F := F) d c) ⊢ FRs c 0 0 := by
  refine join_erase c ?_ fun p hp => ?_
  · rw [st_pre (Nat.zero_le _) (Nat.zero_le _)]
    exact Entails.of_eq ((if_pos rfl).trans (if_pos (c := c = c) rfl).symm)
  · rw [st_pre (Nat.zero_le _) (Nat.zero_le _), show PRs (F := F) c p 0 = iprop((tok c (xc 0 p) p ∗ tok p (xc 1 c) c ∗ at0 c (xc 0 p)) ∗ slotAny p c) from if_neg hp]
    unfold RsPre; rw [if_neg hp]

/-- What a device holds for the barrier's wait. -/
def BarPre : sProp 𝕄 := iprop((at0 c bar ∗ crd c bar 31) ∗ bigSep Finset.univ (RsPre (F := F) c) ∗ (∃ f, aL c ↦{fullShare} f) ∗ Stg m c)

theorem P1_barrier {R : sProp 𝕄} {α : Type} {kk : PUnit → Prog (TpuEff nD τ sig (Elt F) Λ₀ .tc) α} {Q : α → sProp 𝕄}
    (h : P2 m K c 0 0 0 iprop(at1 c bar ∗ R) ⊢ wpc c (kk ⟨⟩) Q) :
    P1 m K c 16 32 iprop(BarPre m c ∗ R) ⊢ wpc c (.op (.semWait barS (BitVec.toInt 31#32)) kk) Q := by
  have hw : ∀ Kt : PUnit → sProp 𝕄, wpE (defs₀ (F := F)) 𝒱₀ (c : Thread nD τ) none Set.univ (.semWait barS (BitVec.toInt 31#32)) Kt
      = waitSpec (c : Thread nD τ) Set.univ (csem bar) 31 Kt := fun Kt => wpE_semWait_eq 𝒱₀ (c : Thread nD τ) none Set.univ Kt
  have hF : iprop(bigSep Finset.univ (RsPre (F := F) c) ∗ bigSep ((Rd (F := F) m).duties (kcell (c, bar)) 0 \ ∅) (fun d => (Rd (F := F) m).payload (kcell (c, bar)) 0 d)) ⊢ FRs c 0 0 := by
    rw [rest_bar]; exact FRs_intro c
  have hA : (iprop(∃ f, aL c ↦{fullShare} f) : sProp 𝕄) ⊢ Acc m c 0 0 := by
    unfold Acc
    rw [show Aset c 0 = Finset.univ from Finset.filter_true_of_mem fun i _ => Or.inl (Nat.zero_le _)]
    iintro ⟨%f, Hf⟩
    iexists f
    isplitr; · ipureintro; exact fun i hi => absurd hi (Nat.not_lt_zero _)
    iexact Hf
  unfold P1 P2 Ow BarPre at *
  iintro ⟨#HR, HKV, -, ⟨%W, HO⟩, ⟨⟨Hat, Hc⟩, HRs, HA, HS⟩, HRest⟩
  ihave HI := (Rec_inv m K (c, bar)) $$ HR
  iapply (Rounds.wp_wait_rest_token 𝒱₀ ER (Rd m) (c : Thread nD τ) none (κ := K (c, bar)) (sm := csem bar)
      hw (Set.mem_univ _) () (O := O c 32 0 1) (W := W) (R := 0) (m := 0) (T := ∅) (by rw [Nat.zero_add]; exact (expect_bar m c).symm)) $$ [HI Hc HO Hat]
  · isplitl [HI]; · iexact HI
    isplitl [Hc]; · iexact Hc
    isplitl [HO]; · iexact HO
    isplitr
    · iapply (Rec_wait m K c bar 32 0 1 (fun h => absurd h (by decide)) (fun _ => by decide) (fun _ => by decide)); iexact HR
    · iexact Hat
  iintro ⟨HO, Hat, -, Hpay⟩
  ihave HF := hF $$ [HRs Hpay]
  · isplitl [HRs] <;> iassumption
  ihave HA := hA $$ HA
  iapply h
  isplitr; · iexact HR
  isplitl [HKV]; · iexact HKV
  isplitl [HO]; · iexists _; iexact HO
  isplitl [HF]; · iexact HF
  isplitl [HA]; · iexact HA
  isplitl [HS]; · iexact HS
  isplitl [Hat]; · iexact Hat
  iexact HRest

/-- A device's own row of its landing buffer, set to zero. -/
def own : sProp 𝕄 := gL c ↦[rowSet c]{fullShare} stageAll m c

theorem row_written_G (inb) (f : (cc0_scratch3 : Ref sig .tc).ty.Contents (Elt F)) :
    (gL c ↦[rowSet c]{fullShare} (gM.access (Rect.unit (s := S32x16x512) ![c.val, 0, 0] S1x16x512.size inb)).write (Elt F) f (k0_pay2 (F := F)) Finset.univ : sProp 𝕄) = own m c := by
  refine pointsTo_congr fun i hi => ?_
  rw [← rowR_set c] at hi
  obtain ⟨y, hy⟩ : ∃ y : S1x16x512.Idx, y = ix3 (0 : Fin 1) (i 1) (i 2) := ⟨_, rfl⟩
  have h0 : (i 0).val = c.val := by have := Rect.mem_set_unit.mp hi (0 : Fin 3); simp at this; omega
  have e : (gM.access (Rect.unit (s := S32x16x512) ![c.val, 0, 0] S1x16x512.size inb)).emb y = i := by
    subst hy
    refine funext fun a => Fin.ext ?_
    match a with
    | ⟨0, _⟩ => show c.val + 1 * 0 = (i 0).val; omega
    | ⟨1, _⟩ => show 0 + 1 * (i 1).val = (i 1).val; omega
    | ⟨2, _⟩ => show 0 + 1 * (i 2).val = (i 2).val; omega
  conv_lhs => rw [← e]
  rw [View.write_emb_of_mem _ _ (Finset.mem_univ y)]
  show k0_pay2 (F := F) y = stageAll m c i
  unfold stageAll
  rw [hy]
  exact (if_pos (Fin.ext h0)).symm

theorem P2_zero {b s j : ℕ} {R A : sProp 𝕄} {α : Type} {kk : PUnit → Prog (TpuEff nD τ sig (Elt F) Λ₀ .tc) α} {Q : α → sProp 𝕄}
    {o : Fin 3 → ℕ} (ho : o = ![c.val, 0, 0]) {inb : ∀ a, o a + S1x16x512.size a ≤ S32x16x512.size a}
    {hl : gM.view.LoadsAt (Rect.unit (s := S32x16x512) o S1x16x512.size inb).toLoadRect}
    {hx : (gM.access (Rect.unit (s := S32x16x512) o S1x16x512.size inb)).Stores Finset.univ} {hm}
    (h : P2 m K c b s j iprop(A ∗ own m c ∗ R) ⊢ wpc c (kk ⟨⟩) Q) :
    P2 m K c b s j iprop(A ∗ slotAny c c ∗ R) ⊢ wpc c (.op (.load gM (Rect.unit (s := S32x16x512) o S1x16x512.size inb).toLoadRect hl) fun _ =>
      .op (.store gM (Rect.unit (s := S32x16x512) o S1x16x512.size inb) (k0_pay2 (F := F)) Finset.univ hx hm) kk) Q := by
  subst ho
  refine step_load_any c (M := gM) (I := rowSet c) (q := fullShare) ?_ ?_ fun _ => ?_
  · rw [setOn_load cc0_scratch3]; exact (Finset.Subset.antisymm_iff.mp (rowR_set c)).1
  · unfold P2 slotAny
    iintro ⟨H1, H2, H3, H4, H5, H6, HA, ⟨%f, Hf⟩, H7⟩
    iexists f
    isplitl [Hf]; · iexact Hf
    iintro Hf
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [Hf]; · iexists f; iexact Hf
    iexact H7
  · have hstep : ∀ f, (gL c ↦[rowSet c]{fullShare} f) ⊢ iprop((own m c -∗ wpc c (kk ⟨⟩) Q)
        -∗ wpc c (.op (.store gM (Rect.unit (s := S32x16x512) ![c.val, 0, 0] S1x16x512.size inb) (k0_pay2 (F := F)) Finset.univ hx hm) kk) Q) := fun f => by
      have h0 := wp_store (defs := defs₀ (F := F)) (Γ := []) (Q := Q) 𝒱₀ (c : Thread nD τ) none Set.univ (m := gM) (r := Rect.unit (s := S32x16x512) ![c.val, 0, 0] S1x16x512.size inb)
        (w := k0_pay2 (F := F)) (Mk := Finset.univ) (hx := hx) (hm := hm) (k := kk) (S := rowSet c) (f := f)
        (by rw [setOn_store cc0_scratch3]; exact (Finset.Subset.antisymm_iff.mp (rowR_set c)).1)
      rw [← row_written_G m c inb f]
      exact h0
    unfold P2 at h ⊢
    unfold slotAny
    iintro ⟨H1, H2, H3, H4, H5, H6, HA, ⟨%f, Hf⟩, H7⟩
    iapply (hstep f) $$ Hf
    iintro Hf
    iapply h
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [Hf]; · iexact Hf
    iexact H7

/-! ## The waits on the landed rows -/

def P3 (b : ℕ) (R : sProp 𝕄) : sProp 𝕄 := iprop(Rec m K ∗ FRr m c b ∗ Ow c 32 32 1 ∗ R)
def P5 (b : ℕ) (R : sProp 𝕄) : sProp 𝕄 := iprop(Rec m K ∗ FAr m c b ∗ Ow c 32 32 32 ∗ R)
def P6 (b : ℕ) (R : sProp 𝕄) : sProp 𝕄 := iprop(Rec m K ∗ FRs c 32 b ∗ Ow c 32 32 32 ∗ R)
def P7 (b : ℕ) (R : sProp 𝕄) : sProp 𝕄 := iprop(Rec m K ∗ FAs m c 32 b ∗ Ow c 32 32 32 ∗ R)

section Waits
variable {b : ℕ}

theorem P3_wait {R : sProp 𝕄} {α : Type} {kk : PUnit → Prog (TpuEff nD τ sig (Elt F) Λ₀ .tc) α} {Q : α → sProp 𝕄}
    (h1 : 1 ≤ b) (hb : b < 32) {sem : DmaSem sig} (hs : SemLoc.dma sem = csem (xc 1 (pr c b)))
    {sp sp' : Space} {s₁ s₂ : Shape} {ty ty' : EltTy} {κ' : Kind}
    {src : Memref sig .tc sp' s₂ ty'} {dst : Memref sig κ' sp s₁ ty} {hsrc : src.view.WordExact} {hdst : dst.view.WordExact} (hN : dst.view.dmaCredit = N)
    (h : P3 m K c (b + 1) R ⊢ wpc c (kk ⟨⟩) Q) :
    P3 m K c b R ⊢ wpc c (.op (.waitDma2 sem src dst hsrc hdst) kk) Q := by
  have hne := pr_ne c b h1 hb
  have e2 : iprop(bigSep ((Rd m).duties (kcell (c, xc 1 (pr c b))) 0 \ ∅) (fun d => (Rd m).payload (kcell (c, xc 1 (pr c b))) 0 d) ∗ at1 c (xc 1 (pr c b))) ⊢ PRr m c (pr c b) 2 := by
    rw [rest_xc _ _ _ _ hne, show PRr m c (pr c b) 2 = iprop(rsPay m c (pr c b) ∗ at1 c (xc 1 (pr c b))) from if_neg hne]; exact Entails.refl _
  exact step_wait m K c (PRr m c) (off c) (pr c b) (off_pr c b hb) (fun j hj => off_inj (c := c) (by rw [hj, off_pr c b hb]))
    hb (xc 1 (pr c b)) (expect_xc m c 1 _ hne) (Entails.refl _) e2 (fun h => absurd h (by decide)) (fun h => absurd h (by decide)) (fun _ => (by decide : 2 < 3)) hs hN h

theorem P5_wait {R : sProp 𝕄} {α : Type} {kk : PUnit → Prog (TpuEff nD τ sig (Elt F) Λ₀ .tc) α} {Q : α → sProp 𝕄}
    (h1 : 1 ≤ b) (hb : b < 32) {sem : DmaSem sig} (hs : SemLoc.dma sem = csem (xc 3 (pr c b)))
    {sp sp' : Space} {s₁ s₂ : Shape} {ty ty' : EltTy} {κ' : Kind}
    {src : Memref sig .tc sp' s₂ ty'} {dst : Memref sig κ' sp s₁ ty} {hsrc : src.view.WordExact} {hdst : dst.view.WordExact} (hN : dst.view.dmaCredit = N)
    (h : P5 m K c (b + 1) R ⊢ wpc c (kk ⟨⟩) Q) :
    P5 m K c b R ⊢ wpc c (.op (.waitDma2 sem src dst hsrc hdst) kk) Q := by
  have hne := pr_ne c b h1 hb
  have e2 : iprop(bigSep ((Rd m).duties (kcell (c, xc 3 (pr c b))) 0 \ ∅) (fun d => (Rd m).payload (kcell (c, xc 3 (pr c b))) 0 d) ∗ at1 c (xc 3 (pr c b))) ⊢ PAr m c (pr c b) 2 := by
    rw [rest_xc _ _ _ _ hne, show PAr m c (pr c b) 2 = iprop(agrPay m c (pr c b) ∗ at1 c (xc 3 (pr c b))) from if_neg hne]; exact Entails.refl _
  exact step_wait m K c (PAr m c) (off c) (pr c b) (off_pr c b hb) (fun j hj => off_inj (c := c) (by rw [hj, off_pr c b hb]))
    hb (xc 3 (pr c b)) (expect_xc m c 3 _ hne) (Entails.refl _) e2 (fun h => absurd h (by decide)) (fun h => absurd h (by decide)) (fun h => absurd h (by decide)) hs hN h

theorem P7_wait {R : sProp 𝕄} {α : Type} {kk : PUnit → Prog (TpuEff nD τ sig (Elt F) Λ₀ .tc) α} {Q : α → sProp 𝕄}
    (h1 : 1 ≤ b) (hb : b < 32) {sem : DmaSem sig} (hs : SemLoc.dma sem = csem (xc 2 (pr c b)))
    {sp sp' : Space} {s₁ s₂ : Shape} {ty ty' : EltTy} {κ' : Kind}
    {src : Memref sig .tc sp' s₂ ty'} {dst : Memref sig κ' sp s₁ ty} {hsrc : src.view.WordExact} {hdst : dst.view.WordExact} (hN : dst.view.dmaCredit = N)
    (h : P7 m K c (b + 1) R ⊢ wpc c (kk ⟨⟩) Q) :
    P7 m K c b R ⊢ wpc c (.op (.waitDma2 sem src dst hsrc hdst) kk) Q := by
  have hne := pr_ne c b h1 hb
  have e2 : iprop(bigSep ((Rd m).duties (kcell (c, xc 2 (pr c b))) 0 \ ∅) (fun d => (Rd m).payload (kcell (c, xc 2 (pr c b))) 0 d) ∗ at1 c (xc 2 (pr c b))) ⊢ PAs m c (pr c b) 2 := by
    rw [rest_xc _ _ _ _ hne, show PAs m c (pr c b) 2 = iprop(agsPay m c (pr c b) ∗ at1 c (xc 2 (pr c b))) from if_neg hne]; exact Entails.refl _
  exact step_wait m K c (PAs m c) (off c) (pr c b) (off_pr c b hb) (fun j hj => off_inj (c := c) (by rw [hj, off_pr c b hb]))
    hb (xc 2 (pr c b)) (expect_xc m c 2 _ hne) (Entails.refl _) e2 (fun h => absurd h (by decide)) (fun h => absurd h (by decide)) (fun h => absurd h (by decide)) hs hN h

/-- The guarded wait on the copy of row `b`. -/
theorem P6_wait {R : sProp 𝕄} {α β : Type} {rest : Prog (TpuEff nD τ sig (Elt F) Λ₀ .tc) β} {kk : β → Prog (TpuEff nD τ sig (Elt F) Λ₀ .tc) α} {Q : α → sProp 𝕄}
    (hb : b < 32) {cnd : BitVec 1} (hc : cnd = 1#1 ↔ c.val ≠ b) {sem : DmaSem sig} (hs : SemLoc.dma sem = csem (xc 0 (⟨b, hb⟩ : Dev nD)))
    {sp sp' : Space} {s₁ s₂ : Shape} {ty ty' : EltTy} {κ' : Kind}
    {src : cnd = 1#1 → Memref sig .tc sp' s₂ ty'} {dst : Memref sig κ' sp s₁ ty} {hsrc : ∀ e, (src e).view.WordExact} {hdst : cnd = 1#1 → dst.view.WordExact} (hN : dst.view.dmaCredit = N)
    (h : P6 m K c (b + 1) R ⊢ wpc c (Prog.bind rest kk) Q) :
    P6 m K c b R ⊢ wpc c (Prog.bind (if e : cnd = 1#1 then .op (.waitDma2 sem (src e) dst (hsrc e) (hdst e)) fun _ => rest else rest) kk) Q := by
  by_cases e : cnd = 1#1
  · rw [dif_pos e]
    show P6 m K c b R ⊢ wpc c (.op _ fun _ => Prog.bind rest kk) Q
    have hne : (⟨b, hb⟩ : Dev nD) ≠ c := fun h => hc.mp e (congrArg Fin.val h).symm
    have e1 : PRs (F := F) c ⟨b, hb⟩ 1 ⊢ iprop(crd c (xc 0 (⟨b, hb⟩ : Dev nD)) N ∗ at0 c (xc 0 (⟨b, hb⟩ : Dev nD))) := by
      rw [show PRs (F := F) c ⟨b, hb⟩ 1 = iprop(crd c (xc 0 (⟨b, hb⟩ : Dev nD)) N ∗ at0 c (xc 0 (⟨b, hb⟩ : Dev nD))) from if_neg hne]
    have e2 : iprop(bigSep ((Rd m).duties (kcell (c, xc 0 (⟨b, hb⟩ : Dev nD))) 0 \ ∅) (fun d => (Rd m).payload (kcell (c, xc 0 (⟨b, hb⟩ : Dev nD))) 0 d) ∗ at1 c (xc 0 (⟨b, hb⟩ : Dev nD))) ⊢ PRs c ⟨b, hb⟩ 2 := by
      rw [rest_xc _ _ _ _ hne, show PRs (F := F) c ⟨b, hb⟩ 2 = at1 c (xc 0 (⟨b, hb⟩ : Dev nD)) from if_neg hne]
      iintro ⟨-, H⟩; iexact H
    exact step_wait m K c (PRs c) (fun p : Dev nD => p.val) ⟨b, hb⟩ rfl (fun j hj => Fin.ext hj)
      hb (xc 0 (⟨b, hb⟩ : Dev nD)) (expect_xc m c 0 _ hne) e1 e2 (fun h => absurd h (by decide)) (fun h => absurd h (by decide)) (fun h => absurd h (by decide)) hs hN h
  · rw [dif_neg e]
    have hj : c.val = b := by by_contra hn; exact e (hc.mpr hn)
    subst hj
    refine BIBase.Entails.trans ?_ h
    have hF := Fam_end (PRs (F := F) c) (fun p : Dev nD => p.val) (a := 32) (b := c.val) c rfl (fun j hj => Fin.ext hj) c.isLt
    rw [show PRs (F := F) c c 2 = at0 c (xc 0 c) from if_pos rfl, show PRs (F := F) c c 1 = at0 c (xc 0 c) from if_pos rfl] at hF
    unfold P6
    iintro ⟨H1, HF, H2, H3⟩
    ihave HF := hF $$ HF
    icases HF with ⟨Hat, HF⟩
    ihave HF := HF $$ Hat
    isplitl [H1]; · iexact H1
    isplitl [HF]; · iexact HF
    isplitl [H2]; · iexact H2
    iexact H3

end Waits

/-! ## The copies of the sum -/

def P4 (a : ℕ) (R : sProp 𝕄) : sProp 𝕄 := iprop(Rec m K ∗ FAs m c a 1 ∗ Ow c 32 32 a ∗ R)

theorem P4_send {R : sProp 𝕄} {α : Type} {kk : PUnit → Prog (TpuEff nD τ sig (Elt F) Λ₀ .tc) α} {Q : α → sProp 𝕄}
    {a n : ℕ} (h1 : 1 ≤ a) (ha : a < 32) {hlt : n < nD} (hn : n = (c.val + a) % 32)
    {sS sR : SemLoc sig} (hsS : sS = csem (xc 2 (pr c a))) (hsR : sR = csem (xc 3 c))
    {o : Fin 3 → ℕ} (ho : o = ![c.val, 0, 0])
    {inb inb'} {hsc : (rowM aM o inb').view.ref.isScScratch = false}
    {hsrc : (rowM aM o inb).view.WordExact} {hdst : (rowM aM o inb').view.WordExact}
    {hsem : DmaTarget.Typed .vmem sR (.remote (p := (c : Thread nD τ).2) (Dev.tc (⟨n, hlt⟩ : Dev nD) : Thread nD τ) (rowM aM o inb') sS hsc)}
    (h : P4 m K c (a + 1) R ⊢ wpc c (kk ⟨⟩) Q) :
    P4 m K c a R ⊢ wpc c (.op (.enqueueDma (rowM aM o inb) (.remote (Dev.tc (⟨n, hlt⟩ : Dev nD) : Thread nD τ) (rowM aM o inb') sS hsc) sR hsrc hdst hsem) kk) Q := by
  obtain ⟨p, hp⟩ : ∃ p : Dev nD, p = pr c a := ⟨_, rfl⟩
  have e : (⟨n, hlt⟩ : Dev nD) = p := by rw [hp]; exact Fin.ext hn
  rw [← hp] at hsS
  generalize hd : (⟨n, hlt⟩ : Dev nD) = d at hsem ⊢
  obtain rfl : d = p := hd.symm.trans e
  subst hsS hsR ho
  have hne : d ≠ c := by rw [hp]; exact pr_ne c a h1 ha
  have hF := Fam_start (PAs m c) (off c) (a := a) (b := 1) d (by rw [hp, off_pr c a ha])
    (fun j hj => off_inj (c := c) (by rw [hj, hp, off_pr c a ha])) h1
  rw [show PAs m c d 0 = iprop((tok c (xc 2 d) d ∗ tok d (xc 3 c) c ∗ at0 c (xc 2 d)) ∗ (aL d ↦[rowSet c]{fullShare} accPart m d) ∗ agsPay m c d) from rfl,
    show PAs m c d 1 = iprop(crd c (xc 2 d) N ∗ at0 c (xc 2 d)) from rfl] at hF
  have hO : O c 32 32 a = O c 32 32 (a + 1) + tallyAt (kcell (d, xc 3 c)) () N := by rw [hp]; exact O_ag c 32 32 a ha
  have hstep : ∀ W, iprop(cellInv ER (Rd m) (K (c, xc 2 d)) (kcell (c, xc 2 d)) ∗ cellInv ER (Rd m) (K (d, xc 3 c)) (kcell (d, xc 3 c))
        ∗ agsPay m c d ∗ (aL d ↦[rowSet c]{fullShare} accPart m d)
        ∗ owes (c : Thread nD τ) (O c 32 32 a) W ∗ tok c (xc 2 d) d ∗ reached ER (kcell (c, xc 2 d)) 0 ∗ tok d (xc 3 c) c ∗ reached ER (kcell (d, xc 3 c)) 0)
      ⊢ iprop(((crd c (xc 2 d) N ∗ owes (c : Thread nD τ) (O c 32 32 (a + 1)) W) -∗ wpc c (kk ⟨⟩) Q)
          -∗ wpc c (.op (.enqueueDma (rowM aM ![c.val, 0, 0] inb) (.remote (Dev.tc d : Thread nD τ) (rowM aM ![c.val, 0, 0] inb') (csem (xc 2 d)) hsc) (csem (xc 3 c)) hsrc hdst hsem) kk) Q) := fun W => by
    have h0 := Rounds.wp_send_pointsTo (defs := defs₀ (F := F)) (Q := Q) (k := kk) (src := rowM aM ![c.val, 0, 0] inb) (dst := rowM aM ![c.val, 0, 0] inb') (hsc := hsc)
      𝒱₀ ER (Rd m) (c : Thread nD τ) none (c' := (d : Thread nD τ)) (κ₁ := K (c, xc 2 d)) (κ₂ := K (d, xc 3 c)) (sS := csem (xc 2 d)) (sem := csem (xc 3 c)) (r₁ := 0) (r₂ := 0) (d₁ := d) (d₂ := c)
      (q := pieceP d) (fs := accFin m) (fd := accPart m d) (hsrc := hsrc) (hdst := hdst) (hsem := hsem) (Es := Set.univ) (Γ := [])
      (by rw [duties_kcell]; show d ∈ (if d = c then ∅ else {d} : Finset (Dev nD)); rw [if_neg hne]; exact Finset.mem_singleton_self d)
      (by rw [duties_kcell]; show c ∈ (if c = d then ∅ else {c} : Finset (Dev nD)); rw [if_neg hne.symm]; exact Finset.mem_singleton_self c)
      () () N rfl (amount_kcell m c (xc 2 d) d) (amount_kcell m d (xc 3 c) c) (O c 32 32 (a + 1)) hO (W := W)
      (by rw [payload_kcell, rowA_set]; exact Entails.refl _)
      (by rw [payload_kcell, rowA_set]; exact Entails.of_eq (ag_landed m c d _))
    rw [rowA_set] at h0
    exact h0
  unfold P4 Ow at h ⊢
  iintro ⟨#HR, HF, ⟨%W, HO⟩, HRest⟩
  ihave HI := (Rec_inv m K (c, xc 2 d)) $$ HR
  ihave Hr := (Rec_reached m K (c, xc 2 d)) $$ HR
  ihave HI' := (Rec_inv m K (d, xc 3 c)) $$ HR
  ihave Hr' := (Rec_reached m K (d, xc 3 c)) $$ HR
  ihave HF := hF $$ HF
  icases HF with ⟨⟨⟨Ht, Ht', Hat⟩, Hd, Hs⟩, HF⟩
  iapply (hstep W) $$ [HI HI' Hs Hd HO Ht Hr Ht' Hr']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  ihave HF := HF $$ [Hc Hat]
  · isplitl [Hc]; · iexact Hc
    iexact Hat
  iapply h
  isplitr; · iexact HR
  isplitl [HF]; · iexact HF
  isplitl [HO]; · iexists W; iexact HO
  iexact HRest

end Cert.Ring

end
-- ==== Proof.Reduce.lean ====
/-
# The sum and the turns between the phases

The landed rows summed into the device's own row, and how what a device holds is regrouped from one phase to the next.
-/
module

public import proofs.«01_k».proof.Proof.Gather

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The sum -/

/-- A device's own row of its accumulator, holding its part of the product. -/
def rowA (p : Dev nD) : sProp 𝕄 := aL p ↦[rowSet c]{fullShare} accPart m p
/-- The landing buffer after the scatter. -/
def gAll : sProp 𝕄 := gL c ↦{fullShare} stageAll m c
/-- Row `c` of every other device's accumulator. -/
def Rem : sProp 𝕄 := bigSep (Finset.univ.erase c) fun p => rowA m c p
/-- The semaphores of group `j` after their waits. -/
def At (j : Fin 4) : sProp 𝕄 := bigSep Finset.univ fun p : Dev nD => if p = c then at0 (F := F) c (xc j p) else at1 c (xc j p)

theorem st2 (p : Dev nD) {a : ℕ} : st (off c p) a 32 = 2 := st_done (off_lt c p)

theorem FRr_end : FRr m c 32 ⊢ iprop(At c 1 ∗ bigSep (Finset.univ.erase c) fun p => rsPay m c p) := by
  refine split_erase c ?_ fun p hp => ?_
  · rw [st2]; exact Entails.of_eq ((if_pos rfl).trans (if_pos (c := c = c) rfl).symm)
  · rw [st2, if_neg hp]; exact (Entails.of_eq (if_neg hp)).trans sep_comm.1
theorem FAs_end : FAs m c 32 32 ⊢ iprop(At c 2 ∗ bigSep (Finset.univ.erase c) fun p => agsPay m c p) := by
  refine split_erase c ?_ fun p hp => ?_
  · rw [st2]; exact Entails.of_eq ((if_pos rfl).trans (if_pos (c := c = c) rfl).symm)
  · rw [st2, if_neg hp]; exact (Entails.of_eq (if_neg hp)).trans sep_comm.1
theorem FAr_end : FAr m c 32 ⊢ iprop(At c 3 ∗ bigSep (Finset.univ.erase c) fun p => agrPay m c p) := by
  refine split_erase c ?_ fun p hp => ?_
  · rw [st2]; exact Entails.of_eq ((if_pos rfl).trans (if_pos (c := c = c) rfl).symm)
  · rw [st2, if_neg hp]; exact (Entails.of_eq (if_neg hp)).trans sep_comm.1
theorem FRs_end : FRs (F := F) c 32 32 ⊢ At c 0 := by
  refine BI.bigSep_mono fun p _ => ?_
  rw [st_done p.isLt]; exact Entails.refl _

theorem stage_join : iprop(own m c ∗ bigSep (Finset.univ.erase c) fun p => rsPay m c p) ⊢ iprop(gAll m c ∗ Rem m c) := by
  have e : bigSep (Finset.univ.erase c) (fun p => rsPay m c p) = iprop(bigSep (Finset.univ.erase c) (fun p => gL c ↦[rowSet p]{fullShare} stageAll m c) ∗ Rem m c) :=
    BI.bigSep_sep _ _ _
  have e2 : gAll m c = iprop(own m c ∗ bigSep (Finset.univ.erase c) (fun p => gL c ↦[rowSet p]{fullShare} stageAll m c)) :=
    (rowsG c (stageAll m c)).trans (BI.bigSep_univ_split c)
  rw [e, e2]
  exact sep_assoc.2

theorem piecesP {ℓ : Loc nD τ sig} (I : Finset (Idx ℓ)) (f : Buf (Elt F) ℓ) :
    (ℓ ↦[I]{fullShare} f : sProp 𝕄) = bigSep Finset.univ fun p : Dev nD => ℓ ↦[I]{pieceP p} f :=
  pointsTo_piecesOf I f pos32 fullShare

theorem pieces_A : (aL c ↦[rowSet c]{fullShare} accFin m : sProp 𝕄) = iprop(agsPay m c c ∗ bigSep (Finset.univ.erase c) fun p => agsPay m c p) := by
  rw [piecesP, BI.bigSep_univ_split c]; rfl

theorem FAs_intro : iprop(bigSep Finset.univ (AsPre (F := F) c) ∗ Rem m c ∗ bigSep (Finset.univ.erase c) fun p => agsPay m c p) ⊢ FAs m c 1 1 := by
  have e : iprop(Rem m c ∗ bigSep (Finset.univ.erase c) fun p => agsPay m c p) = bigSep (Finset.univ.erase c) fun p => iprop(rowA m c p ∗ agsPay m c p) :=
    (BI.bigSep_sep _ _ _).symm
  rw [e]
  refine join_erase c ?_ fun p hp => ?_
  · rw [off_self]; exact Entails.of_eq ((if_pos rfl).trans (if_pos (c := c = c) rfl).symm)
  · rw [st_pre (off_pos c hp) (off_pos c hp)]; unfold AsPre; rw [if_neg hp]; exact Entails.refl _

theorem acc_join : iprop((agsPay m c c ∗ bigSep (Finset.univ.erase c) fun p => agsPay m c p) ∗ bigSep (Finset.univ.erase c) fun p => agrPay m c p) ⊢ (aL c ↦{fullShare} accFin m : sProp 𝕄) := by
  rw [← pieces_A]
  exact Entails.of_eq ((rowsA c (accFin m)).trans (BI.bigSep_univ_split c)).symm

/-- Around the sum: the device's own row holding `X`. -/
def PR (X : (cc0_scratch2 : Ref sig .tc).ty.Contents (Elt F)) (R : sProp 𝕄) : sProp 𝕄 :=
  iprop((aL c ↦[rowSet c]{fullShare} X) ∗ gAll m c ∗ Rec m K ∗ Ow c 32 32 1 ∗ R)

theorem row_written_A (inb) (f : (cc0_scratch2 : Ref sig .tc).ty.Contents (Elt F)) :
    (aL c ↦[rowSet c]{fullShare} (aM.access (Rect.unit (s := S32x16x512) ![c.val, 0, 0] S1x16x512.size inb)).write (Elt F) f (red m c) Finset.univ : sProp 𝕄)
      = (aL c ↦[rowSet c]{fullShare} accFin m) := by
  refine pointsTo_congr fun i hi => ?_
  rw [← rowR_set c] at hi
  obtain ⟨y, hy⟩ : ∃ y : S1x16x512.Idx, y = ix3 (0 : Fin 1) (i 1) (i 2) := ⟨_, rfl⟩
  have h0 : (i 0).val = c.val := by have := Rect.mem_set_unit.mp hi (0 : Fin 3); simp at this; omega
  have e : (aM.access (Rect.unit (s := S32x16x512) ![c.val, 0, 0] S1x16x512.size inb)).emb y = i := by
    subst hy
    refine funext fun a => Fin.ext ?_
    match a with
    | ⟨0, _⟩ => show c.val + 1 * 0 = (i 0).val; omega
    | ⟨1, _⟩ => show 0 + 1 * (i 1).val = (i 1).val; omega
    | ⟨2, _⟩ => show 0 + 1 * (i 2).val = (i 2).val; omega
  conv_lhs => rw [← e]
  rw [View.write_emb_of_mem _ _ (Finset.mem_univ y)]
  show red m c y = accFin m i
  unfold accFin
  rw [hy]
  exact congrArg (fun d : Dev nD => red m d (ix3 (0 : Fin 1) (i 1) (i 2))) (Fin.ext h0.symm : c = (show Dev nD from i 0))

theorem PR_sum {R : sProp 𝕄} {α : Type} {kk : PUnit → Prog (TpuEff nD τ sig (Elt F) Λ₀ .tc) α} {Q : α → sProp 𝕄}
    {o : Fin 3 → ℕ} (ho : o = ![c.val, 0, 0]) {inb inb₁ inb₂ : ∀ a, o a + S1x16x512.size a ≤ S32x16x512.size a}
    {o' : Fin 3 → ℕ} (ho' : o' = fun _ => 0) {inb' : ∀ a, o' a + S32x16x512.size a ≤ S32x16x512.size a}
    {hl : aM.view.LoadsAt (Rect.unit (s := S32x16x512) o S1x16x512.size inb).toLoadRect}
    {hl' : gM.view.LoadsAt (Rect.unit (s := S32x16x512) o' S32x16x512.size inb').toLoadRect}
    {hl'' : aM.view.LoadsAt (Rect.unit (s := S32x16x512) o S1x16x512.size inb₁).toLoadRect}
    {hx : (aM.access (Rect.unit (s := S32x16x512) o S1x16x512.size inb₂)).Stores Finset.univ} {hm}
    (h : PR m K c (accFin m) R ⊢ wpc c (kk ⟨⟩) Q) :
    PR m K c (accPart m c) R ⊢ wpc c (.op (.load aM (Rect.unit (s := S32x16x512) o S1x16x512.size inb).toLoadRect hl) fun v =>
      .op (.load gM (Rect.unit (s := S32x16x512) o' S32x16x512.size inb').toLoadRect hl') fun w =>
      .op (.load aM (Rect.unit (s := S32x16x512) o S1x16x512.size inb₁).toLoadRect hl'') fun _ =>
      .op (.store aM (Rect.unit (s := S32x16x512) o S1x16x512.size inb₂) (k0_pay81 v w) Finset.univ hx hm) kk) Q := by
  subst ho
  have hsub : ∀ i, (Memref.view aM).setOn (Rect.unit (s := S32x16x512) ![c.val, 0, 0] S1x16x512.size i).toLoadRect.set ⊆ rowSet c := fun i => by
    rw [setOn_load cc0_scratch2]; exact (Finset.Subset.antisymm_iff.mp (rowR_set c)).1
  have hlend : PR m K c (accPart m c) R ⊢ iprop((aL c ↦[rowSet c]{fullShare} accPart m c) ∗ ((aL c ↦[rowSet c]{fullShare} accPart m c) -∗ PR m K c (accPart m c) R)) := by
    unfold PR
    iintro ⟨H1, H2⟩
    isplitl [H1]; · iexact H1
    iintro H1
    isplitl [H1]; · iexact H1
    iexact H2
  refine step_load c (M := aM) (I := rowSet c) (q := fullShare) (f := accPart m c) (hsub _) hlend ?_
  refine step_load c (M := gM) (I := Finset.univ) (q := fullShare) (f := stageAll m c) (Finset.subset_univ _) ?_ ?_
  · unfold PR gAll
    iintro ⟨H1, H2, H3⟩
    isplitl [H2]; · iexact H2
    iintro H2
    isplitl [H1]; · iexact H1
    isplitl [H2]; · iexact H2
    iexact H3
  have e : gM.view.readAt (Elt F) (Rect.unit (s := S32x16x512) o' S32x16x512.size inb').toLoadRect (stageAll m c) = stageAll m c := Memref.readAt_unit_zero (Elt F) cc0_scratch3 ho' inb' _
  rw [e]
  refine step_load c (M := aM) (I := rowSet c) (q := fullShare) (f := accPart m c) (hsub _) hlend ?_
  have hstep : ∀ f, (aL c ↦[rowSet c]{fullShare} f) ⊢ iprop(((aL c ↦[rowSet c]{fullShare} accFin m) -∗ wpc c (kk ⟨⟩) Q)
      -∗ wpc c (.op (.store aM (Rect.unit (s := S32x16x512) ![c.val, 0, 0] S1x16x512.size inb₂) (red m c) Finset.univ hx hm) kk) Q) := fun f => by
    have h0 := wp_store (defs := defs₀ (F := F)) (Γ := []) (Q := Q) 𝒱₀ (c : Thread nD τ) none Set.univ (m := aM) (r := Rect.unit (s := S32x16x512) ![c.val, 0, 0] S1x16x512.size inb₂)
      (w := red m c) (Mk := Finset.univ) (hx := hx) (hm := hm) (k := kk) (S := rowSet c) (f := f)
      (by rw [setOn_store cc0_scratch2]; exact (Finset.Subset.antisymm_iff.mp (rowR_set c)).1)
    rw [← row_written_A m c inb₂ f]
    exact h0
  show PR m K c (accPart m c) R ⊢ wpc c (.op (.store aM (Rect.unit (s := S32x16x512) ![c.val, 0, 0] S1x16x512.size inb₂) (red m c) Finset.univ hx hm) kk) Q
  unfold PR at h ⊢
  iintro ⟨H1, H2⟩
  iapply (hstep (accPart m c)) $$ H1
  iintro H1
  iapply h
  isplitl [H1]; · iexact H1
  iexact H2

/-! ## From one phase to the next -/

/-- What a device holds from the barrier's wait on for the later phases. -/
def Late : sProp 𝕄 := iprop(FRr m c 1 ∗ bigSep Finset.univ (AsPre (F := F) c) ∗ FAr m c 1 ∗ (∃ f, oL c ↦{fullShare} f))
/-- What no later phase changes but the last store. -/
def Tail : sProp 𝕄 := iprop(Stg m c ∗ KV m c 16 16 ∗ at1 c bar ∗ (∃ f, oL c ↦{fullShare} f))

theorem Aset_end : Aset c 32 = rowSet c := by
  ext i
  have : (i 0).val < 32 := (i 0).isLt
  simp only [Aset, rowSet, Finset.mem_filter, Finset.mem_univ, _root_.true_and]
  omega

theorem Acc_end : Acc m c 8 32 ⊢ rowA m c c := by
  unfold Acc rowA
  rw [Aset_end]
  iintro ⟨%f, %hf, H⟩
  have e : (aL c ↦[rowSet c]{fullShare} f : sProp 𝕄) = (aL c ↦[rowSet c]{fullShare} accPart m c) :=
    pointsTo_congr fun i _ => hf i (by have : (i 0).val < 32 := (i 0).isLt; omega)
  iapply (Entails.of_eq e)
  iexact H

theorem turn23 : P2 m K c 16 8 32 iprop(at1 c bar ∗ own m c ∗ Late m c)
    ⊢ P3 m K c 1 iprop(own m c ∗ rowA m c c ∗ FRs c 32 0 ∗ bigSep Finset.univ (AsPre (F := F) c) ∗ FAr m c 1 ∗ Tail m c) := by
  have hA := Acc_end m c
  unfold P2 P3 Late Tail
  iintro ⟨H1, H2, H3, H4, H5, H6, H7, H8, H9, H10, H11, H12⟩
  ihave H5 := hA $$ H5
  isplitl [H1]; · iexact H1
  isplitl [H9]; · iexact H9
  isplitl [H3]; · iexact H3
  isplitl [H8]; · iexact H8
  isplitl [H5]; · iexact H5
  isplitl [H4]; · iexact H4
  isplitl [H10]; · iexact H10
  isplitl [H11]; · iexact H11
  isplitl [H6]; · iexact H6
  isplitl [H2]; · iexact H2
  isplitl [H7]; · iexact H7
  iexact H12

theorem turn3R {T : sProp 𝕄} : P3 m K c 32 iprop(own m c ∗ rowA m c c ∗ T) ⊢ PR m K c (accPart m c) iprop(Rem m c ∗ At c 1 ∗ T) := by
  have h1 := FRr_end m c
  have h2 := stage_join m c
  have h3 : rowA m c c ⊢ (aL c ↦[rowSet c]{fullShare} accPart m c : sProp 𝕄) := Entails.refl _
  unfold P3 PR
  iintro ⟨H1, H2, H3, H4, H5, H6⟩
  ihave H2 := h1 $$ H2
  icases H2 with ⟨HA, H2⟩
  ihave H2 := h2 $$ [H4 H2]
  · isplitl [H4] <;> iassumption
  icases H2 with ⟨HG, HR⟩
  isplitl [H5]; · iapply h3; iexact H5
  isplitl [HG]; · iexact HG
  isplitl [H1]; · iexact H1
  isplitl [H3]; · iexact H3
  isplitl [HR]; · iexact HR
  isplitl [HA]; · iexact HA
  iexact H6

theorem turnR4 : PR m K c (accFin m) iprop(Rem m c ∗ At c 1 ∗ FRs c 32 0 ∗ bigSep Finset.univ (AsPre (F := F) c) ∗ FAr m c 1 ∗ Tail m c)
    ⊢ P4 m K c 1 iprop(agsPay m c c ∗ gAll m c ∗ At c 1 ∗ FRs c 32 0 ∗ FAr m c 1 ∗ Tail m c) := by
  have h1 := FAs_intro m c
  have h2 := Entails.of_eq (pieces_A m c)
  unfold PR P4
  iintro ⟨H1, HG, HR, HO, HRem, HA, HF, HP, HAr, HT⟩
  ihave H1 := h2 $$ H1
  icases H1 with ⟨Hc, H1⟩
  ihave HFs := h1 $$ [HP HRem H1]
  · isplitl [HP]; · iexact HP
    isplitl [HRem]; · iexact HRem
    iexact H1
  isplitl [HR]; · iexact HR
  isplitl [HFs]; · iexact HFs
  isplitl [HO]; · iexact HO
  isplitl [Hc]; · iexact Hc
  isplitl [HG]; · iexact HG
  isplitl [HA]; · iexact HA
  isplitl [HF]; · iexact HF
  isplitl [HAr]; · iexact HAr
  iexact HT

theorem turn45 : P4 m K c 32 iprop(agsPay m c c ∗ gAll m c ∗ At c 1 ∗ FRs c 32 0 ∗ FAr m c 1 ∗ Tail m c)
    ⊢ P5 m K c 1 iprop(FRs c 32 0 ∗ FAs m c 32 1 ∗ agsPay m c c ∗ gAll m c ∗ At c 1 ∗ Tail m c) := by
  unfold P4 P5
  iintro ⟨H1, H2, H3, H4, H5, H6, H7, H8, H9⟩
  isplitl [H1]; · iexact H1
  isplitl [H8]; · iexact H8
  isplitl [H3]; · iexact H3
  isplitl [H7]; · iexact H7
  isplitl [H2]; · iexact H2
  isplitl [H4]; · iexact H4
  isplitl [H5]; · iexact H5
  isplitl [H6]; · iexact H6
  iexact H9

theorem turn56 {T : sProp 𝕄} : P5 m K c 32 iprop(FRs c 32 0 ∗ FAs m c 32 1 ∗ T) ⊢ P6 m K c 0 iprop(FAs m c 32 1 ∗ FAr m c 32 ∗ T) := by
  unfold P5 P6
  iintro ⟨H1, H2, H3, H4, H5, H6⟩
  isplitl [H1]; · iexact H1
  isplitl [H4]; · iexact H4
  isplitl [H3]; · iexact H3
  isplitl [H5]; · iexact H5
  isplitl [H2]; · iexact H2
  iexact H6

theorem turn67 {T : sProp 𝕄} : P6 m K c 32 iprop(FAs m c 32 1 ∗ T) ⊢ P7 m K c 1 iprop(At c 0 ∗ T) := by
  have h := FRs_end (F := F) c
  unfold P6 P7
  iintro ⟨H1, H2, H3, H4, H5⟩
  isplitl [H1]; · iexact H1
  isplitl [H4]; · iexact H4
  isplitl [H3]; · iexact H3
  isplitl [H2]; · iapply h; iexact H2
  iexact H5

/-- After every wait: the accumulator whole. -/
def P8 : sProp 𝕄 := iprop((aL c ↦{fullShare} accFin m) ∗ Rec m K ∗ Ow c 32 32 32 ∗ gAll m c ∗ At c 0 ∗ At c 1 ∗ At c 2 ∗ At c 3 ∗ Tail m c)
/-- The end of the body. -/
def P9 : sProp 𝕄 := iprop((aL c ↦{fullShare} accFin m) ∗ Rec m K ∗ Ow c 32 32 32 ∗ gAll m c ∗ At c 0 ∗ At c 1 ∗ At c 2 ∗ At c 3
  ∗ Stg m c ∗ KV m c 16 16 ∗ at1 c bar ∗ (oL c ↦{fullShare} outV m))

theorem turn78 : P7 m K c 32 iprop(At c 0 ∗ FAr m c 32 ∗ agsPay m c c ∗ gAll m c ∗ At c 1 ∗ Tail m c) ⊢ P8 m K c := by
  have h1 := FAs_end m c
  have h2 := FAr_end m c
  have h3 := acc_join m c
  unfold P7 P8
  iintro ⟨HR, HAs, HO, H0, HAr, Hc, HG, HA, HT⟩
  ihave HAs := h1 $$ HAs
  ihave HAr := h2 $$ HAr
  icases HAs with ⟨H2, HAs⟩
  icases HAr with ⟨H3, HAr⟩
  ihave Hacc := h3 $$ [Hc HAs HAr]
  · isplitr [HAr]
    · isplitl [Hc]; · iexact Hc
      iexact HAs
    iexact HAr
  isplitl [Hacc]; · iexact Hacc
  isplitl [HR]; · iexact HR
  isplitl [HO]; · iexact HO
  isplitl [HG]; · iexact HG
  isplitl [H0]; · iexact H0
  isplitl [HA]; · iexact HA
  isplitl [H2]; · iexact H2
  isplitl [H3]; · iexact H3
  iexact HT

theorem P8_out {α : Type} {kk : PUnit → Prog (TpuEff nD τ sig (Elt F) Λ₀ .tc) α} {Q : α → sProp 𝕄}
    {o : Fin 3 → ℕ} (ho : o = fun _ => 0) {inb : ∀ a, o a + S32x16x512.size a ≤ S32x16x512.size a}
    {o' : Fin 3 → ℕ} (ho' : o' = fun _ => 0) {inb' : ∀ a, o' a + S2x256x512.size a ≤ S2x256x512.size a}
    {hl : aM.view.LoadsAt (Rect.unit (s := S32x16x512) o S32x16x512.size inb).toLoadRect}
    {hl' : oM.view.LoadsAt (Rect.unit (s := S2x256x512) o' S2x256x512.size inb').toLoadRect}
    {hx : (oM.access (Rect.unit (s := S2x256x512) o' S2x256x512.size inb')).Stores Finset.univ} {hm}
    (h : P9 m K c ⊢ wpc c (kk ⟨⟩) Q) :
    P8 m K c ⊢ wpc c (.op (.load aM (Rect.unit (s := S32x16x512) o S32x16x512.size inb).toLoadRect hl) fun v =>
      .op (.load oM (Rect.unit (s := S2x256x512) o' S2x256x512.size inb').toLoadRect hl') fun _ =>
      .op (.store oM (Rect.unit (s := S2x256x512) o' S2x256x512.size inb') (k0_pay1 v) Finset.univ hx hm) kk) Q := by
  refine step_load c (M := aM) (I := Finset.univ) (q := fullShare) (f := accFin m) (Finset.subset_univ _) ?_ ?_
  · unfold P8
    iintro ⟨H1, H2⟩
    isplitl [H1]; · iexact H1
    iintro H1
    isplitl [H1]; · iexact H1
    iexact H2
  have e : aM.view.readAt (Elt F) (Rect.unit (s := S32x16x512) o S32x16x512.size inb).toLoadRect (accFin m) = accFin m := Memref.readAt_unit_zero (Elt F) cc0_scratch2 ho inb _
  rw [e]
  refine step_load_any c (M := oM) (I := Finset.univ) (q := fullShare) (Finset.subset_univ _) ?_ fun _ => ?_
  · unfold P8 Tail
    iintro ⟨H1, H2, H3, H4, H5, H6, H7, H8, H9, H10, H11, ⟨%f, Ho⟩⟩
    iexists f
    isplitl [Ho]; · iexact Ho
    iintro Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists f
    iexact Ho
  have hstep : ∀ f, (oL c ↦{fullShare} f) ⊢ iprop(((oL c ↦{fullShare} outV m) -∗ wpc c (kk ⟨⟩) Q)
      -∗ wpc c (.op (.store oM (Rect.unit (s := S2x256x512) o' S2x256x512.size inb') (k0_pay1 (accFin m)) Finset.univ hx hm) kk) Q) := fun f => by
    have h0 := wp_store (defs := defs₀ (F := F)) (Γ := []) (Q := Q) 𝒱₀ (c : Thread nD τ) none Set.univ (m := oM) (r := Rect.unit (s := S2x256x512) o' S2x256x512.size inb')
      (w := k0_pay1 (accFin m)) (Mk := Finset.univ) (hx := hx) (hm := hm) (k := kk) (S := Finset.univ) (f := f) (Finset.subset_univ _)
    have ew : (oM.access (Rect.unit (s := S2x256x512) o' S2x256x512.size inb')).write (Elt F) f (k0_pay1 (accFin m)) Finset.univ = outV m := Memref.write_access_unit_zero_univ (Elt F) cc0_stg3_0 ho' inb' f _
    rw [ew] at h0
    exact h0
  unfold P9 at h
  unfold P8 Tail
  iintro ⟨H1, H2, H3, H4, H5, H6, H7, H8, H9, H10, H11, ⟨%f, Ho⟩⟩
  iapply (hstep f) $$ Ho
  iintro Ho
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Ho

end Cert.Ring

end
-- ==== Proof.Ghost.lean ====
/-
# The launch's resources

The tokens, the positions and the credits a device starts with.
-/
module

public import proofs.«01_k».proof.Proof.Reduce

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

open Idealize.SL.BI (bigSep_map bigSep_elim)

/-! ## The launch's ghost state -/

/-- The semaphores the kernel brings itself: all of the protocol's but the barrier's. -/
def osem (x : Fin 16 ⊕ (Fin 4 × Dev nD)) : SemLoc sig := csem (.inr x)

theorem ownSemFacts : Pipeline.OwnSemFacts cfg0.spec osem := by decide +kernel

/-- What a device owes at launch. -/
def O₀ (c : Dev nD) : CellTallies nD τ sig Unit := O c 1 0 1

def ringCells : Finset (GSem nD τ sig) := Finset.univ.map ⟨kcell, kcell_injective⟩

/-- Every duty token: of every semaphore, by every payer's name. -/
def tokOf (x : (Dev nD × CK) × Dev nD) : GSem nD τ sig × ℕ × Dev nD := (kcell x.1, 0, x.2)
theorem tokOf_injective : Function.Injective tokOf := by
  rintro ⟨ck, d⟩ ⟨ck', d'⟩ h
  have h1 : ck = ck' := kcell_injective (congrArg (fun x : GSem nD τ sig × ℕ × Dev nD => x.1) h)
  have h2 : d = d' := congrArg (fun x : GSem nD τ sig × ℕ × Dev nD => x.2.2) h
  rw [h1, h2]
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- The duty tokens of device `c`'s own semaphores. -/
def toks : sProp 𝕄 := bigSep Finset.univ fun x : CK => bigSep Finset.univ fun d => tok c x d
/-- The duty tokens device `c` pays with. -/
def payToks : sProp 𝕄 :=
  iprop((bigSep Finset.univ fun p : Dev nD => tok p bar c) ∗ (bigSep Finset.univ fun t => tok c (kv t) c)
    ∗ (bigSep Finset.univ fun p : Dev nD => tok c (xc 0 p) p) ∗ (bigSep Finset.univ fun p : Dev nD => tok p (xc 1 c) c)
    ∗ (bigSep Finset.univ fun p : Dev nD => tok c (xc 2 p) p) ∗ (bigSep Finset.univ fun p : Dev nD => tok p (xc 3 c) c))

def G : sProp 𝕄 :=
  iprop((bigSep Finset.univ fun x : CK => roundState ER (Rd m) (kcell (c, x)) 0)
    ∗ (bigSep Finset.univ fun x : CK => iprop(atPos ER (kcell (c, x)) 0 ∅ 0 ∗ reached ER (kcell (c, x)) 0)) ∗ toks c)

def invs (K : Dev nD × CK → ℕ) : sProp 𝕄 :=
  iprop((bigSep Finset.univ fun ck : Dev nD × CK => cellInv ER (Rd m) (K ck) (kcell ck)) ∗ bigSep Finset.univ fun ck : Dev nD × CK => reached ER (kcell ck) 0)
instance invs_persistent (K : Dev nD × CK → ℕ) : BI.Persistent (invs m K) := by unfold invs; infer_instance

def linear : sProp 𝕄 := iprop((bigSep Finset.univ fun x : CK => at0 (F := F) c x) ∗ payToks c)
def G' : sProp 𝕄 := iprop(∃ K, invs m K ∗ linear c)

/-- A conjunction over the protocol's semaphores, by kind. -/
theorem bigSep_CK (Φ : CK → sProp 𝕄) : bigSep Finset.univ Φ
    = iprop(Φ bar ∗ (bigSep Finset.univ fun t => Φ (kv t)) ∗ (bigSep Finset.univ fun p => Φ (xc 0 p)) ∗ (bigSep Finset.univ fun p => Φ (xc 1 p))
      ∗ (bigSep Finset.univ fun p => Φ (xc 2 p)) ∗ bigSep Finset.univ fun p => Φ (xc 3 p)) := by
  rw [BI.bigSep_univ_sum, BI.bigSep_univ_of_subsingleton (), BI.bigSep_univ_sum, BI.bigSep_univ_prod, bigSep_univ_eq_bigSepL (I := Fin 4) [0, 1, 2, 3] (by decide) (by decide)]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CK => Φ (kcell (c, x)) := by
    unfold ringCells; rw [bigSep_map, BI.bigSep_univ_prod]; rfl
  have hT : bigSep ringToks (fun x => (dutyTok ER x.1 x.2.1 x.2.2 : sProp 𝕄)) = bigSep Finset.univ fun c : Dev nD => toks c := by
    unfold ringToks toks; rw [bigSep_map, BI.bigSep_univ_prod, BI.bigSep_univ_prod]; rfl
  have hG : bigSep Finset.univ (G m) = iprop((bigSep Finset.univ fun c : Dev nD => bigSep Finset.univ fun x : CK => roundState ER (Rd (F := F) m) (kcell (c, x)) 0)
      ∗ ((bigSep Finset.univ fun c : Dev nD => bigSep Finset.univ fun x : CK => atPos ER (kcell (c, x)) 0 ∅ 0)
        ∗ bigSep Finset.univ fun c : Dev nD => bigSep Finset.univ fun x : CK => reached ER (kcell (c, x)) 0) ∗ bigSep Finset.univ fun c : Dev nD => toks (F := F) c) := by
    unfold G; simp only [bigSep_sep']
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (Entails.of_eq hG.symm)
  isplitl [Hst']; · iexact Hst'
  isplitl [Hat' Hr']
  · isplitl [Hat'] <;> iassumption
  iexact Htok'

theorem unscopedSems0_eq : (unscopedSems0 c : sProp 𝕄) = semVal (kcell (c, bar)) 0 := by
  unfold unscopedSems0; rw [bigSep_eq_bigSepL_of_eq [SemLoc.reg barS] (by decide +kernel) (by decide)]; rfl

theorem sems0_eq : iprop(Pipeline.ownSems0 (Ix := Unit) (Name := ℕ) (U := UU) (Lvl := ℕ) (Val := Elt F) (τ := τ) osem c ∗ unscopedSems0 c)
    = (bigSep Finset.univ fun x : CK => semVal (kcell (c, x)) 0 : sProp 𝕄) := by
  rw [unscopedSems0_eq, BI.bigSep_univ_sum, BI.bigSep_univ_of_subsingleton ()]
  exact sep_comm.antisymm sep_comm

theorem core_alloc : iprop(Pipeline.ownSems0 (Ix := Unit) (Name := ℕ) (U := UU) (Lvl := ℕ) (Val := Elt F) (τ := τ) osem c ∗ unscopedSems0 c ∗ G m c)
    ⊢ |={Set.univ}=> iprop((bigSep Finset.univ fun x : CK => iprop(∃ κ : ℕ, cellInv ER (Rd m) κ (kcell (c, x))))
        ∗ (bigSep Finset.univ fun x : CK => iprop(atPos ER (kcell (c, x)) 0 ∅ 0 ∗ reached ER (kcell (c, x)) 0)) ∗ toks c) := by
  have hinv : iprop((bigSep Finset.univ fun x : CK => semVal (kcell (c, x)) 0) ∗ bigSep Finset.univ fun x : CK => roundState ER (Rd m) (kcell (c, x)) 0)
      ⊢ (|={Set.univ}=> bigSep Finset.univ fun x : CK => iprop(∃ κ : ℕ, cellInv ER (Rd m) κ (kcell (c, x))) : sProp 𝕄) := by
    rw [← bigSep_sep']
    exact (bigSep_mono fun x _ => (Rounds.body_intro ER (Rd m) (kcell (c, x))).trans inv_alloc).trans (bigSep_fupd _ _)
  unfold G
  iintro ⟨Hos, Hus, Hst, Hat, Htok⟩
  ihave Hv := (Entails.of_eq (sems0_eq (F := F) c)) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- Each device hands every other the tokens of the duties that one pays. -/
theorem toks_around : (bigSep Finset.univ fun c : Dev nD => (toks c : sProp 𝕄)) ⊢ bigSep Finset.univ fun c : Dev nD => payToks c := by
  have h (c : Dev nD) : (toks c : sProp 𝕄) ⊢ iprop((bigSep Finset.univ fun p : Dev nD => tok c bar p) ∗ (bigSep Finset.univ fun t => tok c (kv t) c)
      ∗ (bigSep Finset.univ fun p : Dev nD => tok c (xc 0 p) p) ∗ (bigSep Finset.univ fun p : Dev nD => tok c (xc 1 p) p)
      ∗ (bigSep Finset.univ fun p : Dev nD => tok c (xc 2 p) p) ∗ (bigSep Finset.univ fun p : Dev nD => tok c (xc 3 p) p)) := by
    unfold toks; rw [bigSep_CK]
    refine sep_mono_right (sep_mono ?_ (sep_mono ?_ (sep_mono ?_ (sep_mono ?_ ?_)))) <;> exact bigSep_mono fun p _ => bigSep_elim (Finset.mem_univ _)
  refine (bigSep_mono fun c _ => h c).trans ?_
  unfold payToks
  simp only [bigSep_sep']
  refine sep_mono (Entails.of_eq (bigSep_univ_comm (fun c p : Dev nD => tok (F := F) c bar p))) (sep_mono_right (sep_mono_right (sep_mono (Entails.of_eq (bigSep_univ_comm (fun c p : Dev nD => tok (F := F) c (xc 1 p) p)))
    (sep_mono_right (Entails.of_eq (bigSep_univ_comm (fun c p : Dev nD => tok (F := F) c (xc 3 p) p)))))))

theorem bigSep_with_persistent {I : Type} [DecidableEq I] {S : Finset I} {R : sProp (MT nD τ sig Unit (Elt F) ℕ UU ℕ)} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (Rd m) κ (kcell (c, x))))
        ∗ (bigSep Finset.univ fun x : CK => iprop(atPos ER (kcell (c, x)) 0 ∅ 0 ∗ reached ER (kcell (c, x)) 0)) ∗ toks c) : sProp 𝕄)
      ⊢ bigSep Finset.univ (G' m) := by
  rw [bigSep_sep', bigSep_sep', ← BI.bigSep_univ_prod (fun ck : Dev nD × CK => iprop(∃ κ : ℕ, cellInv ER (Rd (F := F) m) κ (kcell ck))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← BI.bigSep_univ_prod (fun ck : Dev nD × CK => (reached ER (kcell ck) 0 : sProp 𝕄))]
  have hl : iprop((bigSep Finset.univ fun c : Dev nD => bigSep Finset.univ fun x : CK => at0 (F := F) c x) ∗ bigSep Finset.univ fun c : Dev nD => payToks (F := F) c)
      ⊢ bigSep Finset.univ fun c : Dev nD => linear (F := F) c := by
    unfold linear; rw [bigSep_sep']
  have hG (K : Dev nD × CK → ℕ) (c : Dev nD) : iprop(invs m K ∗ linear c) ⊢ G' m c := by
    unfold G'; iintro H; iexists K; iexact H
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := invs m K) fun c _ => hG K c)
  isplitr
  · unfold invs; isplitl; · iexact HI
    iexact HR
  · iapply hl
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_at (P : Dev nD → Prop) [DecidablePred P] (c : Dev nD) (x y : CK) (n : ℕ) :
    (∑ p : Dev nD, if P p then (0 : CellTallies nD τ sig Unit) else tallyAt (kcell (p, y)) () n) (kcell (c, x)) () = if x = y ∧ ¬ P c then n else 0 := by
  have hne {p : Dev nD} (h : ¬ (c, x) = (p, y)) : (if P p then (0 : CellTallies nD τ sig Unit) else tallyAt (kcell (p, y)) () n) (kcell (c, x)) () = 0 := by
    split
    · rfl
    · rw [tallyAt_apply, if_neg fun h' => h (kcell_injective h'.1)]
  rw [Finset.sum_apply, Finsupp.finset_sum_apply, Finset.sum_eq_single c (fun p _ hp => hne fun h => hp (congrArg Prod.fst h).symm) (fun h => absurd (Finset.mem_univ c) h)]
  by_cases hx : x = y
  · subst hx
    by_cases hP : P c
    · rw [if_pos hP, if_neg (fun h : x = x ∧ ¬ P c => h.2 hP)]; rfl
    · rw [if_neg hP, if_pos (⟨rfl, hP⟩ : x = x ∧ ¬ P c), tallyAt_apply, if_pos ⟨rfl, rfl⟩]
  · rw [if_neg (fun h : x = y ∧ ¬ P c => hx h.1)]
    exact hne (p := c) fun h => hx (congrArg Prod.snd h)

theorem xc_inj {j j' : Fin 4} {p d : Dev nD} (h : xc j p = xc j' d) : j = j' ∧ p = d := by
  have := Sum.inr.inj (Sum.inr.inj h)
  exact ⟨congrArg Prod.fst this, congrArg Prod.snd this⟩

theorem owed_at (d c : Dev nD) (x : CK) : O₀ d (kcell (c, x)) ()
    = (if x = bar ∧ d ≠ c then 1 else 0) + (if x = xc 1 d ∧ d ≠ c then N else 0) + (if x = xc 3 d ∧ d ≠ c then N else 0) := by
  have h1 : (¬ off d c < 1) = (d ≠ c) := propext ⟨fun h e => h (by rw [e, off_self]; exact Nat.one_pos), fun h e => h (off_eq_zero.mp (Nat.lt_one_iff.mp e)).symm⟩
  have h2 : (¬ (c = d ∨ c.val < 0)) = (d ≠ c) := propext ⟨fun h e => h (.inl e.symm), fun h e => e.elim (fun e => h e.symm) (Nat.not_lt_zero _)⟩
  unfold O₀ O
  rw [Pi.add_apply, Finsupp.add_apply, Pi.add_apply, Finsupp.add_apply, sum_at, sum_at, sum_at]
  simp only [h1, h2]

theorem launch_at (x : CK) (n : ℕ) (h : (∑ d, O₀ d (kcell (c, x)) ()) = n) :
    tallyOn (kcell (c, x)) (launchCredit (Pipeline.owing O₀) 0 (kcell (c, x))) = (tallyAt (kcell (c, x)) () n : CellTallies nD τ sig Unit) := by
  unfold tallyAt; refine congrArg _ (Finsupp.ext fun u => ?_); cases u
  rw [Pipeline.launchCredit_owing, Finsupp.single_eq_same, h]

theorem owed_bar : (∑ d, O₀ d (kcell (c, bar)) ()) = 31 := by
  have h (d : Dev nD) : O₀ d (kcell (c, bar)) () = if d = c then 0 else 1 := by
    rw [owed_at, if_neg (c := bar = xc 1 d ∧ _) (fun h => nomatch h.1), if_neg (c := bar = xc 3 d ∧ _) (fun h => nomatch h.1), Nat.add_zero]
    by_cases e : d = c
    · rw [if_neg (fun h => h.2 e), if_pos e]
    · rw [if_pos ⟨rfl, e⟩, if_neg e]
  rw [Finset.sum_congr rfl fun d _ => h d, ← Finset.add_sum_erase _ _ (Finset.mem_univ c), if_pos rfl,
    Finset.sum_congr rfl fun d hd => if_neg (Finset.ne_of_mem_erase hd), Finset.sum_const, Finset.card_erase_of_mem (Finset.mem_univ c), Finset.card_univ, Fintype.card_fin]
  rfl
theorem owed_x1 (p : Dev nD) (hp : p ≠ c) : (∑ d, O₀ d (kcell (c, xc 1 p)) ()) = N := by
  have h (d : Dev nD) : O₀ d (kcell (c, xc 1 p)) () = if p = d then N else 0 := by
    rw [owed_at, if_neg (c := xc 1 p = bar ∧ _) (fun h => nomatch h.1), if_neg (c := xc 1 p = xc 3 d ∧ _) (fun h => absurd (xc_inj h.1).1 (by decide)), Nat.zero_add, Nat.add_zero]
    by_cases e : p = d
    · subst e; rw [if_pos ⟨rfl, hp⟩, if_pos rfl]
    · rw [if_neg (fun h => e (xc_inj h.1).2), if_neg e]
  rw [Finset.sum_congr rfl fun d _ => h d, Finset.sum_ite_eq, if_pos (Finset.mem_univ p)]
theorem owed_x3 (p : Dev nD) (hp : p ≠ c) : (∑ d, O₀ d (kcell (c, xc 3 p)) ()) = N := by
  have h (d : Dev nD) : O₀ d (kcell (c, xc 3 p)) () = if p = d then N else 0 := by
    rw [owed_at, if_neg (c := xc 3 p = bar ∧ _) (fun h => nomatch h.1), if_neg (c := xc 3 p = xc 1 d ∧ _) (fun h => absurd (xc_inj h.1).1 (by decide)), Nat.add_zero, Nat.zero_add]
    by_cases e : p = d
    · subst e; rw [if_pos ⟨rfl, hp⟩, if_pos rfl]
    · rw [if_neg (fun h => e (xc_inj h.1).2), if_neg e]
  rw [Finset.sum_congr rfl fun d _ => h d, Finset.sum_ite_eq, if_pos (Finset.mem_univ p)]

theorem creds : (Pipeline.launchCred O₀ c : sProp 𝕄) ⊢ iprop(crd c bar 31 ∗ (bigSep (Finset.univ.erase c) fun p => crd c (xc 1 p) N)
    ∗ bigSep (Finset.univ.erase c) fun p => crd c (xc 3 p) N) := by
  have hsub (Φ : SemLoc sig → sProp 𝕄) : bigSep Finset.univ Φ ⊢ bigSep Finset.univ fun x : CK => Φ (csem x) := by
    refine (BI.bigSep_subset (Finset.subset_univ (Finset.univ.map ⟨csem, csem_injective⟩))).trans ?_
    rw [bigSep_map]; exact Entails.refl _
  unfold Pipeline.launchCred
  refine (hsub _).trans ?_
  rw [bigSep_CK]
  have hc (x : CK) (n : ℕ) (h : (∑ d, O₀ d (kcell (c, x)) ()) = n) :
      (cred (tallyOn (kcell (c, x)) (launchCredit (Pipeline.owing O₀) 0 (kcell (c, x)))) : sProp 𝕄) ⊢ crd c x n :=
    Entails.of_eq (congrArg (fun T => (cred T : sProp 𝕄)) (launch_at c x n h))
  have hx (j : Fin 4) (h : ∀ p, p ≠ c → (∑ d, O₀ d (kcell (c, xc j p)) ()) = N) :
      (bigSep Finset.univ fun p : Dev nD => (cred (tallyOn (kcell (c, xc j p)) (launchCredit (Pipeline.owing O₀) 0 (kcell (c, xc j p)))) : sProp 𝕄))
        ⊢ bigSep (Finset.univ.erase c) fun p => crd (F := F) c (xc j p) N :=
    (BI.bigSep_subset (Finset.erase_subset c Finset.univ)).trans (bigSep_mono fun p hp => hc (xc j p) N (h p (Finset.ne_of_mem_erase hp)))
  have hb := hc bar 31 (owed_bar c)
  have h1 := hx 1 (owed_x1 c)
  have h3 := hx 3 (owed_x3 c)
  iintro ⟨HB, -, -, H1, -, H3⟩
  isplitl [HB]; · iapply hb; iexact HB
  isplitl [H1]; · iapply h1; iexact H1
  iapply h3; iexact H3

end Cert.Ring

end
-- ==== Proof.Entry.lean ====
/-
# Into the body and out of it

What the launch gives a device, regrouped as the body starts with it, and what the body leaves.
-/
module

public import proofs.«01_k».proof.Proof.Ghost

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

open Idealize.SL.BI (bigSep_map bigSep_elim)

/-! ## Buffers cut into tiles and rows -/

theorem tiles_eq (ℓ : Loc nD τ sig) {S : Type} [Fintype S] [DecidableEq S] (I : S → Finset (Idx ℓ)) (hU : Finset.univ.biUnion I = Finset.univ)
    (hd : ∀ s s', s ≠ s' → Disjoint (I s) (I s')) (f : Buf (Elt F) ℓ) :
    (ℓ ↦{fullShare} f : sProp 𝕄) = bigSep Finset.univ fun s => ℓ ↦[I s]{fullShare} f :=
  (congrArg (fun J => (ℓ ↦[J]{fullShare} f : sProp 𝕄)) hU.symm).trans (pointsTo_biUnion (ℓ := ℓ) Finset.univ I (fun _ _ _ _ h => hd _ _ h))

theorem tiles_any (ℓ : Loc nD τ sig) {S : Type} [Fintype S] [DecidableEq S] (I : S → Finset (Idx ℓ)) (hU : Finset.univ.biUnion I = Finset.univ)
    (hd : ∀ s s', s ≠ s' → Disjoint (I s) (I s')) :
    iprop(∃ f : Buf (Elt F) ℓ, ℓ ↦{fullShare} f) ⊢ (bigSep Finset.univ fun s => iprop(∃ f : Buf (Elt F) ℓ, ℓ ↦[I s]{fullShare} f) : sProp 𝕄) := by
  have h (f : Buf (Elt F) ℓ) : (bigSep Finset.univ fun s => ℓ ↦[I s]{fullShare} f) ⊢ (bigSep Finset.univ fun s => iprop(∃ f : Buf (Elt F) ℓ, ℓ ↦[I s]{fullShare} f) : sProp 𝕄) :=
    bigSep_mono fun s _ => show (ℓ ↦[I s]{fullShare} f : sProp 𝕄) ⊢ iprop(∃ f : Buf (Elt F) ℓ, ℓ ↦[I s]{fullShare} f) from by iintro H; iexists f; iexact H
  iintro ⟨%f, H⟩
  iapply (h f)
  iapply (Entails.of_eq (tiles_eq ℓ I hU hd f))
  iexact H

/-- The sixteen local copies: eight of keys, eight of values. -/
theorem bigSep16 (Φ : Fin 16 → sProp 𝕄) : bigSep Finset.univ Φ = iprop((bigSep Finset.univ fun t => Φ (lo t)) ∗ bigSep Finset.univ fun t => Φ (Ring.hi t)) := by
  rw [BI.bigSep_univ_equiv (finSumFinEquiv : Fin 8 ⊕ Fin 8 ≃ Fin (8 + 8)) Φ, BI.bigSep_univ_sum]
  rfl

theorem kPre_intro : iprop((∃ f, kL c ↦{fullShare} f) ∗ (k0L c ↦{fullShare} m (k0L c))) ⊢ bigSep Finset.univ (kPre m c) := by
  unfold kPre
  rw [bigSep_sep', ← tiles_eq (k0L c) kset kset_biUnion (fun _ _ h => kset_disjoint h)]
  exact sep_mono_left (tiles_any (kL c) kset kset_biUnion fun _ _ h => kset_disjoint h)
theorem vPre_intro : iprop((∃ f, vL c ↦{fullShare} f) ∗ (v0L c ↦{fullShare} m (v0L c))) ⊢ bigSep Finset.univ (vPre m c) := by
  unfold vPre
  rw [bigSep_sep', ← tiles_eq (v0L c) kset kset_biUnion (fun _ _ h => kset_disjoint h)]
  exact sep_mono_left (tiles_any (vL c) kset kset_biUnion fun _ _ h => kset_disjoint h)
theorem kPay_elim : bigSep Finset.univ (kPay m c) ⊢ iprop((kL c ↦{fullShare} m (k0L c)) ∗ (k0L c ↦{fullShare} m (k0L c))) := by
  unfold kPay
  rw [bigSep_sep', ← tiles_eq (k0L c) kset kset_biUnion (fun _ _ h => kset_disjoint h)]
  exact sep_mono_left (Entails.of_eq (tiles_eq (kL c) kset kset_biUnion (fun _ _ h => kset_disjoint h) (m (k0L c))).symm)
theorem vPay_elim : bigSep Finset.univ (vPay m c) ⊢ iprop((vL c ↦{fullShare} m (v0L c)) ∗ (v0L c ↦{fullShare} m (v0L c))) := by
  unfold vPay
  rw [bigSep_sep', ← tiles_eq (v0L c) kset kset_biUnion (fun _ _ h => kset_disjoint h)]
  exact sep_mono_left (Entails.of_eq (tiles_eq (vL c) kset kset_biUnion (fun _ _ h => kset_disjoint h) (m (v0L c))).symm)

/-! ## What the body starts with -/

theorem KV_intro : iprop(((∃ f, kL c ↦{fullShare} f) ∗ (k0L c ↦{fullShare} m (k0L c))) ∗ ((∃ f, vL c ↦{fullShare} f) ∗ (v0L c ↦{fullShare} m (v0L c)))
    ∗ (bigSep Finset.univ fun t => tok c (kv t) c) ∗ bigSep Finset.univ fun t => at0 c (kv t)) ⊢ KV m c 0 0 := by
  have h : bigSep Finset.univ (kvPre m c) = iprop(bigSep Finset.univ (kPre m c) ∗ bigSep Finset.univ (vPre m c)) := by
    rw [bigSep16, bigSep_congr fun t _ => kvPre_lo m c t, bigSep_congr fun t _ => kvPre_hi m c t]
  have h2 : KV m c 0 0 = iprop(bigSep Finset.univ (kvPre m c) ∗ (bigSep Finset.univ fun t => tok c (kv t) c) ∗ bigSep Finset.univ fun t => at0 c (kv t)) := by
    unfold KV Fam
    rw [bigSep_congr fun t _ => (congrArg (PKV m c t) (st_pre (Nat.zero_le _) (Nat.zero_le _))).trans (PKV_0 m c t), bigSep_sep', bigSep_sep']
  rw [h2, h]
  have h3 := kPre_intro m c
  have h4 := vPre_intro m c
  iintro ⟨H1, H2, H3⟩
  isplitl [H1 H2]
  · isplitl [H1]; · iapply h3; iexact H1
    iapply h4; iexact H2
  iexact H3

theorem split_all (Φ : Dev nD → sProp 𝕄) : bigSep Finset.univ Φ = iprop(Φ c ∗ bigSep (Finset.univ.erase c) Φ) := BI.bigSep_univ_split c

theorem sig_intro : iprop((∃ f, gL c ↦{fullShare} f) ∗ bigSep Finset.univ fun p : Dev nD => tok p bar c) ⊢ iprop(slotAny c c ∗ Fam (PSig (F := F) c) (off c) 1 1) := by
  have h1 : iprop(∃ f, gL c ↦{fullShare} f) ⊢ (bigSep Finset.univ fun p => slotAny (F := F) c p) :=
    tiles_any (gL c) rowSet rowSet_biUnion fun _ _ h => rowSet_disjoint h
  have h2 : iprop((bigSep (Finset.univ.erase c) fun p => slotAny (F := F) c p) ∗ bigSep (Finset.univ.erase c) fun p : Dev nD => tok (F := F) p bar c)
      ⊢ Fam (PSig (F := F) c) (off c) 1 1 := by
    unfold Fam
    rw [← bigSep_sep', split_all c (fun p => PSig c p (st (off c p) 1 1)), st_done (by rw [off_self]; exact Nat.one_pos), show PSig (F := F) c c 2 = iprop(emp) from rfl]
    refine BIBase.Entails.trans (bigSep_mono fun p hp => ?_) emp_sep_intro
    rw [st_pre (off_pos c (Finset.ne_of_mem_erase hp)) (off_pos c (Finset.ne_of_mem_erase hp)), PSig_0]
    exact Entails.refl _
  rw [split_all c] at h1
  have h3 : (bigSep Finset.univ fun p : Dev nD => tok (F := F) p bar c) ⊢ bigSep (Finset.univ.erase c) fun p : Dev nD => tok (F := F) p bar c :=
    BI.bigSep_subset (Finset.erase_subset c Finset.univ)
  iintro ⟨H1, H2⟩
  ihave H1 := h1 $$ H1
  icases H1 with ⟨H0, H1⟩
  ihave H2 := h3 $$ H2
  isplitl [H0]; · iexact H0
  iapply h2
  isplitl [H1] <;> iassumption

theorem pre_intro (j j' : Fin 4) : iprop((bigSep Finset.univ fun p : Dev nD => tok (F := F) c (xc j p) p) ∗ (bigSep Finset.univ fun p : Dev nD => tok p (xc j' c) c)
    ∗ bigSep Finset.univ fun p => at0 c (xc j p))
    ⊢ bigSep Finset.univ fun p => if p = c then at0 (F := F) c (xc j p) else iprop(tok c (xc j p) p ∗ tok p (xc j' c) c ∗ at0 c (xc j p)) := by
  rw [← bigSep_sep', ← bigSep_sep']
  refine bigSep_mono fun p _ => ?_
  by_cases h : p = c
  · rw [if_pos h]
    have e : iprop(tok (F := F) c (xc j p) p ∗ tok p (xc j' c) c ∗ at0 c (xc j p)) ⊢ at0 c (xc j p) := by iintro ⟨-, -, H⟩; iexact H
    exact e
  · rw [if_neg h]; exact Entails.refl _

theorem FRr_intro : iprop((bigSep Finset.univ fun p => at0 (F := F) c (xc 1 p)) ∗ bigSep (Finset.univ.erase c) fun p => crd c (xc 1 p) N) ⊢ FRr m c 1 := by
  refine join_erase c ?_ fun p hp => ?_
  · rw [st_done (by rw [off_self]; exact Nat.one_pos)]
    exact Entails.of_eq (if_pos (c := c = c) rfl).symm
  · rw [st_flight (off_lt c p) (off_pos c hp)]; exact sep_comm
theorem FAr_intro : iprop((bigSep Finset.univ fun p => at0 (F := F) c (xc 3 p)) ∗ bigSep (Finset.univ.erase c) fun p => crd c (xc 3 p) N) ⊢ FAr m c 1 := by
  refine join_erase c ?_ fun p hp => ?_
  · rw [st_done (by rw [off_self]; exact Nat.one_pos)]
    exact Entails.of_eq (if_pos (c := c = c) rfl).symm
  · rw [st_flight (off_lt c p) (off_pos c hp)]; exact sep_comm

/-- What a device starts the region with, but for the buffers the region lends it. -/
def start : sProp 𝕄 := iprop(G' m c ∗ (crd c bar 31 ∗ (bigSep (Finset.univ.erase c) fun p => crd c (xc 1 p) N) ∗ bigSep (Finset.univ.erase c) fun p => crd c (xc 3 p) N)
  ∗ levAts L lv ∗ (k0L c ↦{fullShare} m (k0L c)) ∗ (v0L c ↦{fullShare} m (v0L c)))
/-- The scratch buffers, whatever they hold. -/
def scr : sProp 𝕄 := iprop((∃ f : Buf (Elt F) (kL c), kL c ↦{fullShare} f) ∗ (∃ f : Buf (Elt F) (vL c), vL c ↦{fullShare} f) ∗ (∃ f : Buf (Elt F) (aL c), aL c ↦{fullShare} f) ∗ (∃ f : Buf (Elt F) (gL c), gL c ↦{fullShare} f))
/-- What a device ends the region with. -/
def fin : sProp 𝕄 := iprop(scr c ∗ (bigSep Finset.univ fun x : CK => semVal (kcell (c, x)) 0) ∗ (k0L c ↦{fullShare} m (k0L c)) ∗ (v0L c ↦{fullShare} m (v0L c)))

theorem enter : iprop(start m c ∗ scr c ∗ Ow c 1 0 1 ∗ Stg m c ∗ (∃ f, oL c ↦{fullShare} f))
    ⊢ iprop(∃ K, P1 m K c 0 1 iprop(BarPre m c ∗ slotAny c c ∗ Late m c)) := by
  have h1 := KV_intro m c
  have h2 := sig_intro (F := F) c
  have h3 : _ ⊢ bigSep Finset.univ (RsPre (F := F) c) := pre_intro c 0 1
  have h4 : _ ⊢ bigSep Finset.univ (AsPre (F := F) c) := pre_intro c 2 3
  have h5 := FRr_intro m c
  have h6 := FAr_intro m c
  have h7 := Entails.of_eq (bigSep_CK (F := F) (fun x : CK => at0 c x))
  unfold start G' linear payToks scr invs
  iintro ⟨⟨⟨%K, ⟨⟨HI, HR⟩, Hat, HT0, HTk, HT1, HT2, HT3, HT4⟩⟩, ⟨HcB, Hc1, Hc3⟩, HL, Hk0, Hv0⟩, ⟨Hk, Hv, Ha, Hg⟩, HO, HS, Ho⟩
  ihave Hat := h7 $$ Hat
  icases Hat with ⟨HaB, HaK, Ha0, Ha1, Ha2, Ha3⟩
  ihave HKV := h1 $$ [Hk Hk0 Hv Hv0 HTk HaK]
  · isplitl [Hk Hk0]
    · isplitl [Hk]; · iexact Hk
      iexact Hk0
    isplitl [Hv Hv0]
    · isplitl [Hv]; · iexact Hv
      iexact Hv0
    isplitl [HTk] <;> iassumption
  ihave HG := h2 $$ [Hg HT0]
  · isplitl [Hg]; · iexact Hg
    iexact HT0
  icases HG with ⟨Hg, HSig⟩
  ihave HRs := h3 $$ [HT1 HT2 Ha0]
  · isplitl [HT1]; · iexact HT1
    isplitl [HT2] <;> iassumption
  ihave HAs := h4 $$ [HT3 HT4 Ha2]
  · isplitl [HT3]; · iexact HT3
    isplitl [HT4] <;> iassumption
  ihave HRr := h5 $$ [Ha1 Hc1]
  · isplitl [Ha1] <;> iassumption
  ihave HAr := h6 $$ [Ha3 Hc3]
  · isplitl [Ha3] <;> iassumption
  iexists K
  unfold P1 Rec BarPre Late
  isplitl [HI HR HL]
  · isplitl [HI]; · iexact HI
    isplitl [HR]; · iexact HR
    iexact HL
  isplitl [HKV]; · iexact HKV
  isplitl [HSig]; · iexact HSig
  isplitl [HO]; · iexact HO
  isplitl [HaB HcB HRs Ha HS]
  · isplitl [HaB HcB]
    · isplitl [HaB]; · iexact HaB
      iexact HcB
    isplitl [HRs]; · iexact HRs
    isplitl [Ha]; · iexact Ha
    iexact HS
  isplitl [Hg]; · iexact Hg
  isplitl [HRr]; · iexact HRr
  isplitl [HAs]; · iexact HAs
  isplitl [HAr]; · iexact HAr
  iexact Ho

/-! ## What the body ends with -/

theorem close1 (x : CK) : iprop(Rec m K ∗ at1 c x) ⊢ |={Set.univ}=> semVal (kcell (c, x)) 0 :=
  (sep_mono_left (Rec_inv m K (c, x))).trans (Rounds.cell_close ER (Rd m) (Set.mem_univ _) (fun h => h) (R := 0 + 1) (duties_later m _))
theorem close0 (j : Fin 4) : iprop(Rec m K ∗ at0 c (xc j c)) ⊢ |={Set.univ}=> semVal (kcell (c, xc j c)) 0 :=
  (sep_mono_left (Rec_inv m K (c, xc j c))).trans (Rounds.cell_close ER (Rd m) (Set.mem_univ _) (fun h => h) (R := 0) fun r _ => by
    rcases Nat.eq_zero_or_pos r with rfl | h
    · rw [duties_kcell]; exact if_pos rfl
    · exact duties_later m _ r h)
theorem closeAt (j : Fin 4) : iprop(Rec m K ∗ At c j) ⊢ |={Set.univ}=> bigSep Finset.univ fun p => semVal (kcell (c, xc j p)) 0 := by
  unfold At
  refine (bigSep_with_persistent (R := Rec m K) (Ψ := fun p => iprop(|={Set.univ}=> semVal (kcell (c, xc j p)) 0)) fun p _ => ?_).trans (bigSep_fupd _ _)
  by_cases h : p = c
  · subst h; rw [if_pos rfl]; exact close0 m K p j
  · rw [if_neg h]; exact close1 m K c (xc j p)
theorem closeKV : iprop(Rec m K ∗ bigSep Finset.univ fun t => at1 c (kv t)) ⊢ |={Set.univ}=> bigSep Finset.univ fun t => semVal (kcell (c, kv t)) 0 :=
  (bigSep_with_persistent (R := Rec m K) (Ψ := fun t => iprop(|={Set.univ}=> semVal (kcell (c, kv t)) 0)) fun t _ => close1 m K c (kv t)).trans (bigSep_fupd _ _)

theorem KV_elim : KV m c 16 16 ⊢ iprop(((kL c ↦{fullShare} m (k0L c)) ∗ (k0L c ↦{fullShare} m (k0L c))) ∗ ((vL c ↦{fullShare} m (v0L c)) ∗ (v0L c ↦{fullShare} m (v0L c)))
    ∗ bigSep Finset.univ fun t => at1 c (kv t)) := by
  have hr (t : Fin 16) : rkv t < 16 := by unfold rkv; have := t.isLt; split <;> omega
  have h2 : KV m c 16 16 = iprop((bigSep Finset.univ fun t => payOf m c c (some (kv t))) ∗ bigSep Finset.univ fun t => at1 c (kv t)) := by
    unfold KV Fam
    rw [bigSep_congr fun t _ => (congrArg (PKV m c t) (st_done (hr t))).trans (PKV_2 m c t), bigSep_sep']
  have h : (bigSep Finset.univ fun t => payOf m c c (some (kv t))) = iprop(bigSep Finset.univ (kPay m c) ∗ bigSep Finset.univ (vPay m c)) := by
    rw [bigSep16, bigSep_congr fun t _ => payKV_lo m c c t, bigSep_congr fun t _ => payKV_hi m c c t]
  rw [h2, h]
  have h3 := kPay_elim m c
  have h4 := vPay_elim m c
  iintro ⟨⟨H1, H2⟩, H3⟩
  isplitl [H1]; · iapply h3; iexact H1
  isplitl [H2]; · iapply h4; iexact H2
  iexact H3

theorem leave : P9 m K c ⊢ |={Set.univ}=> iprop(fin m c ∗ Ow c 32 32 32 ∗ Stg m c ∗ (oL c ↦{fullShare} outV m)) := by
  have h1 := KV_elim m c
  have h2 := closeAt m K c 0
  have h3 := closeAt m K c 1
  have h4 := closeAt m K c 2
  have h5 := closeAt m K c 3
  have h6 := closeKV m K c
  have h7 := close1 m K c bar
  have h8 := Entails.of_eq (bigSep_CK (F := F) (fun x : CK => semVal (kcell (c, x)) 0)).symm
  unfold P9 gAll fin scr
  iintro ⟨Ha, #HR, HO, Hg, H0, H1, H2, H3, HS, HKV, HB, Ho⟩
  ihave HKV := h1 $$ HKV
  icases HKV with ⟨⟨Hk, Hk0⟩, ⟨Hv, Hv0⟩, HK⟩
  imod h2 $$ [H0] with H0
  · isplitr; · iexact HR
    iexact H0
  imod h3 $$ [H1] with H1
  · isplitr; · iexact HR
    iexact H1
  imod h4 $$ [H2] with H2
  · isplitr; · iexact HR
    iexact H2
  imod h5 $$ [H3] with H3
  · isplitr; · iexact HR
    iexact H3
  imod h6 $$ [HK] with HK
  · isplitr; · iexact HR
    iexact HK
  imod h7 $$ [HB] with HB
  · isplitr; · iexact HR
    iexact HB
  imodintro
  isplitl [Ha Hg Hk Hk0 Hv Hv0 H0 H1 H2 H3 HK HB]
  · isplitl [Ha Hg Hk Hv]
    · isplitl [Hk]; · iexists (m (k0L c)); iexact Hk
      isplitl [Hv]; · iexists (m (v0L c)); iexact Hv
      isplitl [Ha]; · iexists (accFin m); iexact Ha
      iexists (stageAll m c); iexact Hg
    isplitl [H0 H1 H2 H3 HK HB]
    · iapply h8
      isplitl [HB]; · iexact HB
      isplitl [HK]; · iexact HK
      isplitl [H0]; · iexact H0
      isplitl [H1]; · iexact H1
      isplitl [H2]; · iexact H2
      iexact H3
    isplitl [Hk0] <;> iassumption
  isplitl [HO]; · iexact HO
  isplitl [HS]; · iexact HS
  iexact Ho

end Cert.Ring

end
-- ==== Proof.Walk.lean ====
/-
# A part of the body
-/
module

public import proofs.«01_k».proof.Proof.Reduce

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A part of the body on the launch's buffers and semaphores. -/
abbrev onM {β : Type _} (f : (arg0 : Memref sig .tc .vmem S2x256x512 .f32) → arg0.IsWhole → (arg1 : Memref sig .tc .vmem S512x256 .f32) → arg1.IsWhole
    → (arg2 : Memref sig .tc .hbm S2x256x64x128 .f32) → arg2.IsWhole → (arg3 : Memref sig .tc .hbm S2x256x64x128 .f32) → arg3.IsWhole
    → (arg4 : Memref sig .tc .vmem S256x512 .f32) → arg4.IsWhole → (arg5 : Memref sig .tc .vmem S2x256x512 .f32) → arg5.IsWhole
    → (arg6 : Memref sig .tc .vmem S2x256x64x128 .f32) → arg6.IsWhole → (arg7 : Memref sig .tc .vmem S2x256x64x128 .f32) → arg7.IsWhole
    → (arg8 : Memref sig .tc .vmem S32x16x512 .f32) → arg8.IsWhole → (arg9 : Memref sig .tc .vmem S32x16x512 .f32) → arg9.IsWhole
    → DmaSems sig S16 → DmaSems sig S32 → DmaSems sig S32 → DmaSems sig S32 → DmaSems sig S32 → β) : β :=
  f xM (Memref.isWhole_whole _) wM (Memref.isWhole_whole _) kA (Memref.isWhole_whole _) vA (Memref.isWhole_whole _) pM (Memref.isWhole_whole _) oM (Memref.isWhole_whole _)
    kM (Memref.isWhole_whole _) vM (Memref.isWhole_whole _) aM (Memref.isWhole_whole _) gM (Memref.isWhole_whole _) cc0_scratch4 cc0_scratch5 cc0_scratch6 cc0_scratch7 cc0_scratch8

theorem off66 (b : ℕ) (h1 : 1 ≤ b) (hb : b < 32) : k0_off66 c (BitVec.ofNat 32 b) = ![(pr c b).val] := by
  obtain ⟨r, rfl⟩ : ∃ r, b = 1 + r := ⟨b - 1, by omega⟩
  have h := k0_off66_eq c ⟨r, by omega⟩
  rw [h, show (pr c (1 + r)).val = (c.val + r + 1) % 32 from by show (c.val + (1 + r)) % 32 = _; congr 1; omega]

/-- The guard of the statements about row `b`. -/
def guardB (b : ℕ) (d : Dev nD) : BitVec 1 :=
  Scalar.cmpi .ne (Scalar.extui (Scalar.cmpi .ne (devW d) (BitVec.ofNat 32 b)) : BitVec 32) 0#32
theorem guard_all : ∀ d : Dev nD, ∀ b : Fin 32, guardB b.val d = 1#1 ↔ d.val ≠ b.val := by decide +kernel
theorem guard_iff (b : ℕ) (hb : b < 32) : guardB b c = 1#1 ↔ c.val ≠ b := guard_all c ⟨b, hb⟩

/-- The device's own number. -/
theorem wp_dev {S : sProp 𝕄} {α : Type} {kk : Dev nD → Prog (TpuEff nD τ sig (Elt F) Λ₀ .tc) α} {Q : α → sProp 𝕄}
    (h : S ⊢ wpc c (kk c) Q) : S ⊢ wpc c (.op .deviceId kk) Q := by
  rw [wpc, wp_deviceId]; exact h

section
variable {R : sProp (MT nD τ sig Unit (Elt F) ℕ UU ℕ)} {α : Type} {kk : PUnit → Prog (TpuEff nD τ sig (Elt F) Λ₀ .tc) α} {Q : α → sProp (MT nD τ sig Unit (Elt F) ℕ UU ℕ)}
  (b : ℕ) (h1 : 1 ≤ b) (hb : b < 32) {inb : ∀ a, k0_off66 c (BitVec.ofNat 32 b) a + S1.size a ≤ S32.size a}
  {sp' : Space} {s₂ : Shape} {ty' : EltTy} {src : Memref sig .tc sp' s₂ ty'} {o : Fin 3 → ℕ} {inb' : ∀ a, o a + S1x16x512.size a ≤ S32x16x512.size a} {hsrc : src.view.WordExact}

include h1 hb in
/-- The wait on the row landing from `b` devices on. -/
theorem go3 {hdst : (rowM gM o inb').view.WordExact} (h : P3 m K c (b + 1) R ⊢ wpc c (kk ⟨⟩) Q) :
    P3 m K c b R ⊢ wpc c (.op (.waitDma2 ((cc0_scratch6.slice (Rect.unit (s := S32) (k0_off66 c (BitVec.ofNat 32 b)) S1.size inb)).squeeze S_ squeezes_S1_S_).sem src (rowM gM o inb') hsrc hdst) kk) Q :=
  P3_wait m K c h1 hb (sem_x1 _ _ (off66 c b h1 hb)) (cr_g ..) h
include h1 hb in
/-- The wait on the sum landing from `b` devices on. -/
theorem go5 {hdst : (rowM aM o inb').view.WordExact} (h : P5 m K c (b + 1) R ⊢ wpc c (kk ⟨⟩) Q) :
    P5 m K c b R ⊢ wpc c (.op (.waitDma2 ((cc0_scratch8.slice (Rect.unit (s := S32) (k0_off66 c (BitVec.ofNat 32 b)) S1.size inb)).squeeze S_ squeezes_S1_S_).sem src (rowM aM o inb') hsrc hdst) kk) Q :=
  P5_wait m K c h1 hb (sem_x3 _ _ (off66 c b h1 hb)) (cr_a ..) h
include h1 hb in
/-- The wait on the sum's copy to the device `b` on having been read. -/
theorem go7 {hdst : (rowM aM o inb').view.WordExact} (h : P7 m K c (b + 1) R ⊢ wpc c (kk ⟨⟩) Q) :
    P7 m K c b R ⊢ wpc c (.op (.waitDma2 ((cc0_scratch7.slice (Rect.unit (s := S32) (k0_off66 c (BitVec.ofNat 32 b)) S1.size inb)).squeeze S_ squeezes_S1_S_).sem src (rowM aM o inb') hsrc hdst) kk) Q :=
  P7_wait m K c h1 hb (sem_x2 _ _ (off66 c b h1 hb)) (cr_a ..) h
end

/-- The copy of the sum to the device `a` on. -/
theorem go4 {R : sProp 𝕄} {α : Type} {kk : PUnit → Prog (TpuEff nD τ sig (Elt F) Λ₀ .tc) α} {Q : α → sProp 𝕄}
    (a : ℕ) (h1 : 1 ≤ a) (ha : a < 32) {n : ℕ} {hlt : n < nD} (hn : n = (c.val + a) % 32) {inb inb' inbS inbR}
    {hsc : (rowM aM (k0_off69 c) inb').view.ref.isScScratch = false}
    {hsrc : (rowM aM (k0_off69 c) inb).view.WordExact} {hdst : (rowM aM (k0_off69 c) inb').view.WordExact} {hsem}
    (h : P4 m K c (a + 1) R ⊢ wpc c (kk ⟨⟩) Q) :
    P4 m K c a R ⊢ wpc c (.op (.enqueueDma (rowM aM (k0_off69 c) inb) (.remote (p := (c : Thread nD τ).2) (Dev.tc (⟨n, hlt⟩ : Dev nD) : Thread nD τ) (rowM aM (k0_off69 c) inb')
        (.dma ((cc0_scratch7.slice (Rect.unit (s := S32) (k0_off66 c (BitVec.ofNat 32 a)) S1.size inbS)).squeeze S_ squeezes_S1_S_).sem) hsc)
      (.dma ((cc0_scratch8.slice (Rect.unit (s := S32) (k0_off68 c) S1.size inbR)).squeeze S_ squeezes_S1_S_).sem) hsrc hdst hsem) kk) Q :=
  P4_send m K c h1 ha hn (sem_x2 _ _ (off66 c a h1 ha)) (sem_x3 _ _ (k0_off68_eq c)) (k0_off69_eq c) h

end Cert.Ring

end
-- ==== Proof.WalkStart.lean ====
/-
# The copies in, the barrier and the queries

What each printed part of the body does to what the device holds.
-/
module

public import proofs.«01_k».proof.Proof.Walk

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

section
variable {R : sProp (MT nD τ sig Unit (Elt F) ℕ UU ℕ)} {α : Type} {Q : α → sProp (MT nD τ sig Unit (Elt F) ℕ UU ℕ)}

theorem part1 {kk : (Σ' (d0 : Dev nD), BitVec 32) → Prog (TpuEff nD τ sig (Elt F) Λ₀ .tc) α}
    (h : P1 m K c 3 1 R ⊢ wpc c (kk ⟨c, devW c⟩) Q) :
    P1 m K c 0 1 R ⊢ wpc c (Prog.bind (onM (k0_part1 (F := F))) kk) Q := by
  rw [k0_part1_eq_skeleton]; unfold onM k0_part1_skel
  simp only [Prog.lift, Prog.bind_op, Prog.bind_ret, Prog.pure_eq_ret, semSignalWord, semWaitWord]
  refine wp_dev c ?_
  refine P1_copyK m K c 0 rfl rfl (sem_kv _ (lo 0) rfl) ?_
  refine P1_copyV m K c 0 rfl rfl (sem_kv _ (Ring.hi 0) rfl) ?_
  refine P1_copyK m K c 1 rfl rfl (sem_kv _ (lo 1) rfl) ?_
  exact h

theorem part2 {kk : PUnit → Prog (TpuEff nD τ sig (Elt F) Λ₀ .tc) α}
    (h : P1 m K c 7 1 R ⊢ wpc c (kk ⟨⟩) Q) :
    P1 m K c 3 1 R ⊢ wpc c (Prog.bind (onM (k0_part2 (F := F))) kk) Q := by
  rw [k0_part2_eq_skeleton]; unfold onM k0_part2_skel
  simp only [Prog.lift, Prog.bind_op, Prog.bind_ret, Prog.pure_eq_ret, semSignalWord, semWaitWord]
  refine P1_copyV m K c 1 rfl rfl (sem_kv _ (Ring.hi 1) rfl) ?_
  refine P1_copyK m K c 2 rfl rfl (sem_kv _ (lo 2) rfl) ?_
  refine P1_copyV m K c 2 rfl rfl (sem_kv _ (Ring.hi 2) rfl) ?_
  refine P1_copyK m K c 3 rfl rfl (sem_kv _ (lo 3) rfl) ?_
  exact h

theorem part3 {kk : PUnit → Prog (TpuEff nD τ sig (Elt F) Λ₀ .tc) α}
    (h : P1 m K c 10 1 R ⊢ wpc c (kk ⟨⟩) Q) :
    P1 m K c 7 1 R ⊢ wpc c (Prog.bind (onM (k0_part3 (F := F))) kk) Q := by
  rw [k0_part3_eq_skeleton]; unfold onM k0_part3_skel
  simp only [Prog.lift, Prog.bind_op, Prog.bind_ret, Prog.pure_eq_ret, semSignalWord, semWaitWord]
  refine P1_copyV m K c 3 rfl rfl (sem_kv _ (Ring.hi 3) rfl) ?_
  refine P1_copyK m K c 4 rfl rfl (sem_kv _ (lo 4) rfl) ?_
  refine P1_copyV m K c 4 rfl rfl (sem_kv _ (Ring.hi 4) rfl) ?_
  exact h

theorem part4 {kk : PUnit → Prog (TpuEff nD τ sig (Elt F) Λ₀ .tc) α}
    (h : P1 m K c 14 1 R ⊢ wpc c (kk ⟨⟩) Q) :
    P1 m K c 10 1 R ⊢ wpc c (Prog.bind (onM (k0_part4 (F := F))) kk) Q := by
  rw [k0_part4_eq_skeleton]; unfold onM k0_part4_skel
  simp only [Prog.lift, Prog.bind_op, Prog.bind_ret, Prog.pure_eq_ret, semSignalWord, semWaitWord]
  refine P1_copyK m K c 5 rfl rfl (sem_kv _ (lo 5) rfl) ?_
  refine P1_copyV m K c 5 rfl rfl (sem_kv _ (Ring.hi 5) rfl) ?_
  refine P1_copyK m K c 6 rfl rfl (sem_kv _ (lo 6) rfl) ?_
  refine P1_copyV m K c 6 rfl rfl (sem_kv _ (Ring.hi 6) rfl) ?_
  exact h

theorem part5 {v2 : BitVec 32} {kk : (Σ' (v99 : Sems sig S_), BitVec 32) → Prog (TpuEff nD τ sig (Elt F) Λ₀ .tc) α}
    (h : ∀ v114, P1 m K c 16 4 R ⊢ wpc c (kk ⟨(SemArray.scalar (sig.barrier 0 rfl) : Sems sig S_), v114⟩) Q) :
    P1 m K c 14 1 R ⊢ wpc c (Prog.bind (onM (k0_part5 (F := F)) c v2) kk) Q := by
  rw [k0_part5_eq_skeleton]; unfold onM k0_part5_skel
  simp only [Prog.lift, Prog.bind_op, Prog.bind_ret, Prog.pure_eq_ret, semSignalWord, semWaitWord]
  refine P1_copyK m K c 7 rfl rfl (sem_kv _ (lo 7) rfl) ?_
  refine P1_copyV m K c 7 rfl rfl (sem_kv _ (Ring.hi 7) rfl) ?_
  refine P1_signal m K c (i := 1) (k0_dev1_eq c) (by decide) (by decide) ?_
  refine P1_signal m K c (i := 2) (k0_dev2_eq c) (by decide) (by decide) ?_
  refine P1_signal m K c (i := 3) (k0_dev3_eq c) (by decide) (by decide) ?_
  exact h _

theorem part6 {v2 : BitVec 32} {v114 : BitVec 32} {kk : BitVec 32 → Prog (TpuEff nD τ sig (Elt F) Λ₀ .tc) α}
    (h : ∀ v138, P1 m K c 16 10 R ⊢ wpc c (kk v138) Q) :
    P1 m K c 16 4 R ⊢ wpc c (Prog.bind (onM (k0_part6 (F := F)) c v2 (SemArray.scalar (sig.barrier 0 rfl) : Sems sig S_) v114) kk) Q := by
  rw [k0_part6_eq_skeleton]; unfold onM k0_part6_skel
  simp only [Prog.lift, Prog.bind_op, Prog.bind_ret, Prog.pure_eq_ret, semSignalWord, semWaitWord]
  refine P1_signal m K c (i := 4) (k0_dev4_eq c) (by decide) (by decide) ?_
  refine P1_signal m K c (i := 5) (k0_dev5_eq c) (by decide) (by decide) ?_
  refine P1_signal m K c (i := 6) (k0_dev6_eq c) (by decide) (by decide) ?_
  refine P1_signal m K c (i := 7) (k0_dev7_eq c) (by decide) (by decide) ?_
  refine P1_signal m K c (i := 8) (k0_dev8_eq c) (by decide) (by decide) ?_
  refine P1_signal m K c (i := 9) (k0_dev9_eq c) (by decide) (by decide) ?_
  exact h _

theorem part7 {v2 : BitVec 32} {v138 : BitVec 32} {kk : BitVec 32 → Prog (TpuEff nD τ sig (Elt F) Λ₀ .tc) α}
    (h : ∀ v162, P1 m K c 16 16 R ⊢ wpc c (kk v162) Q) :
    P1 m K c 16 10 R ⊢ wpc c (Prog.bind (onM (k0_part7 (F := F)) c v2 (SemArray.scalar (sig.barrier 0 rfl) : Sems sig S_) v138) kk) Q := by
  rw [k0_part7_eq_skeleton]; unfold onM k0_part7_skel
  simp only [Prog.lift, Prog.bind_op, Prog.bind_ret, Prog.pure_eq_ret, semSignalWord, semWaitWord]
  refine P1_signal m K c (i := 10) (k0_dev10_eq c) (by decide) (by decide) ?_
  refine P1_signal m K c (i := 11) (k0_dev11_eq c) (by decide) (by decide) ?_
  refine P1_signal m K c (i := 12) (k0_dev12_eq c) (by decide) (by decide) ?_
  refine P1_signal m K c (i := 13) (k0_dev13_eq c) (by decide) (by decide) ?_
  refine P1_signal m K c (i := 14) (k0_dev14_eq c) (by decide) (by decide) ?_
  refine P1_signal m K c (i := 15) (k0_dev15_eq c) (by decide) (by decide) ?_
  exact h _

theorem part8 {v2 : BitVec 32} {v162 : BitVec 32} {kk : BitVec 32 → Prog (TpuEff nD τ sig (Elt F) Λ₀ .tc) α}
    (h : ∀ v186, P1 m K c 16 22 R ⊢ wpc c (kk v186) Q) :
    P1 m K c 16 16 R ⊢ wpc c (Prog.bind (onM (k0_part8 (F := F)) c v2 (SemArray.scalar (sig.barrier 0 rfl) : Sems sig S_) v162) kk) Q := by
  rw [k0_part8_eq_skeleton]; unfold onM k0_part8_skel
  simp only [Prog.lift, Prog.bind_op, Prog.bind_ret, Prog.pure_eq_ret, semSignalWord, semWaitWord]
  refine P1_signal m K c (i := 16) (k0_dev16_eq c) (by decide) (by decide) ?_
  refine P1_signal m K c (i := 17) (k0_dev17_eq c) (by decide) (by decide) ?_
  refine P1_signal m K c (i := 18) (k0_dev18_eq c) (by decide) (by decide) ?_
  refine P1_signal m K c (i := 19) (k0_dev19_eq c) (by decide) (by decide) ?_
  refine P1_signal m K c (i := 20) (k0_dev20_eq c) (by decide) (by decide) ?_
  refine P1_signal m K c (i := 21) (k0_dev21_eq c) (by decide) (by decide) ?_
  exact h _

theorem part9 {v2 : BitVec 32} {v186 : BitVec 32} {kk : BitVec 32 → Prog (TpuEff nD τ sig (Elt F) Λ₀ .tc) α}
    (h : ∀ v210, P1 m K c 16 28 R ⊢ wpc c (kk v210) Q) :
    P1 m K c 16 22 R ⊢ wpc c (Prog.bind (onM (k0_part9 (F := F)) c v2 (SemArray.scalar (sig.barrier 0 rfl) : Sems sig S_) v186) kk) Q := by
  rw [k0_part9_eq_skeleton]; unfold onM k0_part9_skel
  simp only [Prog.lift, Prog.bind_op, Prog.bind_ret, Prog.pure_eq_ret, semSignalWord, semWaitWord]
  refine P1_signal m K c (i := 22) (k0_dev22_eq c) (by decide) (by decide) ?_
  refine P1_signal m K c (i := 23) (k0_dev23_eq c) (by decide) (by decide) ?_
  refine P1_signal m K c (i := 24) (k0_dev24_eq c) (by decide) (by decide) ?_
  refine P1_signal m K c (i := 25) (k0_dev25_eq c) (by decide) (by decide) ?_
  refine P1_signal m K c (i := 26) (k0_dev26_eq c) (by decide) (by decide) ?_
  refine P1_signal m K c (i := 27) (k0_dev27_eq c) (by decide) (by decide) ?_
  exact h _

theorem part10 {v2 : BitVec 32} {v210 : BitVec 32} {kk : (Σ' (v231 : FVec F S512x512 .f32) (v234 : FVec F S512x64 .f32), Vec F S512x64 .f32) → Prog (TpuEff nD τ sig (Elt F) Λ₀ .tc) α}
    (h : P2 m K c 0 0 0 iprop(at1 c bar ∗ own m c ∗ R) ⊢ wpc c (kk ⟨k0_pay3 (xV m c), k0_pay4 (xV m c) (wCol m c 0), (wCol m c 1)⟩) Q) :
    P1 m K c 16 28 iprop(BarPre m c ∗ slotAny c c ∗ R) ⊢ wpc c (Prog.bind (onM (k0_part10 (F := F)) c v2 (SemArray.scalar (sig.barrier 0 rfl) : Sems sig S_) v210) kk) Q := by
  rw [k0_part10_eq_skeleton]; unfold onM k0_part10_skel
  simp only [Prog.lift, Prog.bind_op, Prog.bind_ret, Prog.pure_eq_ret, semSignalWord, semWaitWord]
  refine P1_signal m K c (i := 28) (k0_dev28_eq c) (by decide) (by decide) ?_
  refine P1_signal m K c (i := 29) (k0_dev29_eq c) (by decide) (by decide) ?_
  refine P1_signal m K c (i := 30) (k0_dev30_eq c) (by decide) (by decide) ?_
  refine P1_signal m K c (i := 31) (k0_dev31_eq c) (by decide) (by decide) ?_
  refine P1_barrier m K c ?_
  refine P2_zero m K c (k0_off1_eq c) ?_
  refine P2_x m K c (by decide) ?_
  refine P2_w m K c 0 rfl ?_
  refine P2_w m K c 1 rfl ?_
  exact h

theorem part11 {v2 : BitVec 32} {v231 : FVec F S512x512 .f32} {v235 : Vec F S512x64 .f32} {kk : (Σ' (v237 : FVec F S512x64 .f32) (v240 : FVec F S512x64 .f32) (v243 : FVec F S512x64 .f32), FVec F S128x4 .f32) → Prog (TpuEff nD τ sig (Elt F) Λ₀ .tc) α}
    (h : P2 m K c 2 0 0 R ⊢ wpc c (kk ⟨k0_pay5 v231 v235, k0_pay6 v231 (wCol m c 2), k0_pay7 v231 (wCol m c 3), k0_pay8 (F := F) v2⟩) Q) :
    P2 m K c 0 0 0 R ⊢ wpc c (Prog.bind (onM (k0_part11 (F := F)) v2 v231 v235) kk) Q := by
  rw [k0_part11_eq_skeleton]; unfold onM k0_part11_skel
  simp only [Prog.lift, Prog.bind_op, Prog.bind_ret, Prog.pure_eq_ret, semSignalWord, semWaitWord]
  refine P2_w m K c 2 rfl ?_
  refine P2_w m K c 3 rfl ?_
  refine P2_waitK m K c 0 rfl (sem_kv _ (lo 0) rfl) (cr_k ..) ?_
  refine P2_waitV m K c 0 rfl (sem_kv _ (Ring.hi 0) rfl) (cr_v ..) ?_
  exact h

end

end Cert.Ring

end
-- ==== Proof.WalkTiles.lean ====
/-
# The tiles and their copies

What each printed part of the body does to what the device holds.
-/
module

public import proofs.«01_k».proof.Proof.Walk

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! Each copy to a device is guarded by a word that says the device is another one. -/

theorem cond_1 : k0_cond1 c = 1#1 ↔ c.val ≠ 0 := guard_iff c 0 (by decide)
theorem cond_2 : k0_cond2 c = 1#1 ↔ c.val ≠ 1 := guard_iff c 1 (by decide)
theorem cond_3 : k0_cond3 c = 1#1 ↔ c.val ≠ 2 := guard_iff c 2 (by decide)
theorem cond_4 : k0_cond4 c = 1#1 ↔ c.val ≠ 3 := guard_iff c 3 (by decide)
theorem cond_5 : k0_cond5 c = 1#1 ↔ c.val ≠ 4 := guard_iff c 4 (by decide)
theorem cond_6 : k0_cond6 c = 1#1 ↔ c.val ≠ 5 := guard_iff c 5 (by decide)
theorem cond_7 : k0_cond7 c = 1#1 ↔ c.val ≠ 6 := guard_iff c 6 (by decide)
theorem cond_8 : k0_cond8 c = 1#1 ↔ c.val ≠ 7 := guard_iff c 7 (by decide)
theorem cond_9 : k0_cond9 c = 1#1 ↔ c.val ≠ 8 := guard_iff c 8 (by decide)
theorem cond_10 : k0_cond10 c = 1#1 ↔ c.val ≠ 9 := guard_iff c 9 (by decide)
theorem cond_11 : k0_cond11 c = 1#1 ↔ c.val ≠ 10 := guard_iff c 10 (by decide)
theorem cond_12 : k0_cond12 c = 1#1 ↔ c.val ≠ 11 := guard_iff c 11 (by decide)
theorem cond_13 : k0_cond13 c = 1#1 ↔ c.val ≠ 12 := guard_iff c 12 (by decide)
theorem cond_14 : k0_cond14 c = 1#1 ↔ c.val ≠ 13 := guard_iff c 13 (by decide)
theorem cond_15 : k0_cond15 c = 1#1 ↔ c.val ≠ 14 := guard_iff c 14 (by decide)
theorem cond_16 : k0_cond16 c = 1#1 ↔ c.val ≠ 15 := guard_iff c 15 (by decide)
theorem cond_17 : k0_cond17 c = 1#1 ↔ c.val ≠ 16 := guard_iff c 16 (by decide)
theorem cond_18 : k0_cond18 c = 1#1 ↔ c.val ≠ 17 := guard_iff c 17 (by decide)
theorem cond_19 : k0_cond19 c = 1#1 ↔ c.val ≠ 18 := guard_iff c 18 (by decide)
theorem cond_20 : k0_cond20 c = 1#1 ↔ c.val ≠ 19 := guard_iff c 19 (by decide)
theorem cond_21 : k0_cond21 c = 1#1 ↔ c.val ≠ 20 := guard_iff c 20 (by decide)
theorem cond_22 : k0_cond22 c = 1#1 ↔ c.val ≠ 21 := guard_iff c 21 (by decide)
theorem cond_23 : k0_cond23 c = 1#1 ↔ c.val ≠ 22 := guard_iff c 22 (by decide)
theorem cond_24 : k0_cond24 c = 1#1 ↔ c.val ≠ 23 := guard_iff c 23 (by decide)
theorem cond_25 : k0_cond25 c = 1#1 ↔ c.val ≠ 24 := guard_iff c 24 (by decide)
theorem cond_26 : k0_cond26 c = 1#1 ↔ c.val ≠ 25 := guard_iff c 25 (by decide)
theorem cond_27 : k0_cond27 c = 1#1 ↔ c.val ≠ 26 := guard_iff c 26 (by decide)
theorem cond_28 : k0_cond28 c = 1#1 ↔ c.val ≠ 27 := guard_iff c 27 (by decide)
theorem cond_29 : k0_cond29 c = 1#1 ↔ c.val ≠ 28 := guard_iff c 28 (by decide)
theorem cond_30 : k0_cond30 c = 1#1 ↔ c.val ≠ 29 := guard_iff c 29 (by decide)
theorem cond_31 : k0_cond31 c = 1#1 ↔ c.val ≠ 30 := guard_iff c 30 (by decide)
theorem cond_32 : k0_cond32 c = 1#1 ↔ c.val ≠ 31 := guard_iff c 31 (by decide)

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32

section
variable {R : sProp (MT nD τ sig Unit (Elt F) ℕ UU ℕ)} {α : Type} {Q : α → sProp (MT nD τ sig Unit (Elt F) ℕ UU ℕ)}

theorem part12 {v234 : FVec F S512x64 .f32} {v237 : FVec F S512x64 .f32} {v251 : FVec F S128x4 .f32} {kk : (Σ' (v268 : FVec F S4x64x64 .f32) (v273 : FVec F S4x64x64 .f32) (v291 : FVec F S64x64 .f32) (v296 : FVec F S64x64 .f32), FVec F S64x64 .f32) → Prog (TpuEff nD τ sig (Elt F) Λ₀ .tc) α}
    (h : P2 m K c 2 0 0 R ⊢ wpc c (kk ⟨k0_pay9 v251 (kT m c 0), k0_pay10 v251 (vT m c 0), k0_pay11 v234 v251 (kT m c 0) (vT m c 0), k0_pay12 v251 (vT m c 0), k0_pay13 v237 v251 (kT m c 0)⟩) Q) :
    P2 m K c 2 0 0 R ⊢ wpc c (Prog.bind (onM (k0_part12 (F := F)) v234 v237 v251) kk) Q := by
  rw [k0_part12_eq_skeleton]; unfold onM k0_part12_skel
  simp only [Prog.lift, Prog.bind_op, Prog.bind_ret, Prog.pure_eq_ret, semSignalWord, semWaitWord]
  refine P2_k m K c 0 (by decide) rfl ?_
  refine P2_v m K c 0 (by decide) rfl ?_
  exact h

theorem part13 {v240 : FVec F S512x64 .f32} {v243 : FVec F S512x64 .f32} {v268 : FVec F S4x64x64 .f32} {v273 : FVec F S4x64x64 .f32} {v291 : FVec F S64x64 .f32} {v296 : FVec F S64x64 .f32} {v308 : FVec F S64x64 .f32} {kk : (Σ' (v350 : FVec F S4x16x512 .f32), Vec F S4x16x512 .f32) → Prog (TpuEff nD τ sig (Elt F) Λ₀ .tc) α}
    (h : ∀ v351, P2 m K c 2 0 0 R ⊢ wpc c (kk ⟨k0_pay14 v240 v243 v268 v273 v291 v296 v308 (pV m c), v351⟩) Q) :
    P2 m K c 2 0 0 R ⊢ wpc c (Prog.bind (onM (k0_part13 (F := F)) v240 v243 v268 v273 v291 v296 v308) kk) Q := by
  rw [k0_part13_eq_skeleton]; unfold onM k0_part13_skel
  simp only [Prog.lift, Prog.bind_op, Prog.bind_ret, Prog.pure_eq_ret, semSignalWord, semWaitWord]
  refine P2_p m K c (by decide) ?_
  refine P2_a m K c (t := 0) fun v351 => ?_
  exact h v351

theorem part14 {v2 : BitVec 32} {v350 : FVec F S4x16x512 .f32} {v351 : Vec F S4x16x512 .f32} {kk : PUnit → Prog (TpuEff nD τ sig (Elt F) Λ₀ .tc) α} (hw : k0_pay15 v350 = tileV m c 0)
    (h : P2 m K c 4 1 4 R ⊢ wpc c (kk ⟨⟩) Q) :
    P2 m K c 2 0 0 R ⊢ wpc c (Prog.bind (onM (k0_part14 (F := F)) c v2 v350 v351) kk) Q := by
  rw [k0_part14_eq_skeleton]; unfold onM k0_part14_skel
  simp (config := {zeta := false}) only [Prog.lift, Prog.bind_op, Prog.bind_ret, Prog.pure_eq_ret]
  refine P2_tile m K c 0 hw ?_
  extract_lets
  refine P2_rs m K c (j := 0) (cnd := k0_cond1 c) (by decide) (by decide) (cond_1 c) rfl (k0_off2_eq c) (k0_off3_eq c) rfl k0_dev32_eq ?_
  refine P2_rs m K c (j := 1) (cnd := k0_cond2 c) (by decide) (by decide) (cond_2 c) rfl (k0_off4_eq c) (k0_off5_eq c) rfl k0_dev33_eq ?_
  refine P2_rs m K c (j := 2) (cnd := k0_cond3 c) (by decide) (by decide) (cond_3 c) rfl (k0_off6_eq c) (k0_off7_eq c) rfl k0_dev34_eq ?_
  refine P2_rs m K c (j := 3) (cnd := k0_cond4 c) (by decide) (by decide) (cond_4 c) rfl (k0_off8_eq c) (k0_off9_eq c) rfl k0_dev35_eq ?_
  refine P2_waitK m K c 1 rfl (sem_kv _ (lo 1) rfl) (cr_k ..) ?_
  refine P2_waitV m K c 1 rfl (sem_kv _ (Ring.hi 1) rfl) (cr_v ..) ?_
  exact h

theorem part15 {v234 : FVec F S512x64 .f32} {v237 : FVec F S512x64 .f32} {v251 : FVec F S128x4 .f32} {kk : (Σ' (v382 : FVec F S4x64x64 .f32) (v387 : FVec F S4x64x64 .f32) (v405 : FVec F S64x64 .f32) (v410 : FVec F S64x64 .f32) (v418 : FVec F S64x64 .f32), FVec F S64 .f32) → Prog (TpuEff nD τ sig (Elt F) Λ₀ .tc) α}
    (h : P2 m K c 4 1 4 R ⊢ wpc c (kk ⟨k0_pay16 v251 (kT m c 1), k0_pay17 v251 (vT m c 1), k0_pay18 v234 v251 (kT m c 1) (vT m c 1), k0_pay19 v251 (vT m c 1), k0_pay20 v237 v251 (kT m c 1), k0_pay21 v237 v251 (kT m c 1)⟩) Q) :
    P2 m K c 4 1 4 R ⊢ wpc c (Prog.bind (onM (k0_part15 (F := F)) v234 v237 v251) kk) Q := by
  rw [k0_part15_eq_skeleton]; unfold onM k0_part15_skel
  simp only [Prog.lift, Prog.bind_op, Prog.bind_ret, Prog.pure_eq_ret, semSignalWord, semWaitWord]
  refine P2_k m K c 1 (by decide) rfl ?_
  refine P2_v m K c 1 (by decide) rfl ?_
  exact h

theorem part16 {v240 : FVec F S512x64 .f32} {v243 : FVec F S512x64 .f32} {v382 : FVec F S4x64x64 .f32} {v387 : FVec F S4x64x64 .f32} {v405 : FVec F S64x64 .f32} {v410 : FVec F S64x64 .f32} {v418 : FVec F S64x64 .f32} {v419 : FVec F S64 .f32} {kk : (FVec F S4x16x512 .f32) → Prog (TpuEff nD τ sig (Elt F) Λ₀ .tc) α}
    (h : P2 m K c 4 1 4 R ⊢ wpc c (kk (k0_pay22 v240 v243 v382 v387 v405 v410 v418 v419 (pV m c))) Q) :
    P2 m K c 4 1 4 R ⊢ wpc c (Prog.bind (onM (k0_part16 (F := F)) v240 v243 v382 v387 v405 v410 v418 v419) kk) Q := by
  rw [k0_part16_eq_skeleton]; unfold onM k0_part16_skel
  simp only [Prog.lift, Prog.bind_op, Prog.bind_ret, Prog.pure_eq_ret, semSignalWord, semWaitWord]
  refine P2_p m K c (by decide) ?_
  exact h

theorem part17 {v2 : BitVec 32} {v464 : FVec F S4x16x512 .f32} {kk : PUnit → Prog (TpuEff nD τ sig (Elt F) Λ₀ .tc) α} (hw : k0_pay23 v464 = tileV m c 1)
    (h : P2 m K c 5 2 8 R ⊢ wpc c (kk ⟨⟩) Q) :
    P2 m K c 4 1 4 R ⊢ wpc c (Prog.bind (onM (k0_part17 (F := F)) c v2 v464) kk) Q := by
  rw [k0_part17_eq_skeleton]; unfold onM k0_part17_skel
  simp (config := {zeta := false}) only [Prog.lift, Prog.bind_op, Prog.bind_ret, Prog.pure_eq_ret]
  refine P2_a m K c (t := 1) fun v465 => ?_
  refine P2_tile m K c 1 hw ?_
  extract_lets
  refine P2_rs m K c (j := 4) (cnd := k0_cond5 c) (by decide) (by decide) (cond_5 c) rfl (k0_off10_eq c) (k0_off11_eq c) rfl k0_dev36_eq ?_
  refine P2_rs m K c (j := 5) (cnd := k0_cond6 c) (by decide) (by decide) (cond_6 c) rfl (k0_off12_eq c) (k0_off13_eq c) rfl k0_dev37_eq ?_
  refine P2_rs m K c (j := 6) (cnd := k0_cond7 c) (by decide) (by decide) (cond_7 c) rfl (k0_off14_eq c) (k0_off15_eq c) rfl k0_dev38_eq ?_
  refine P2_rs m K c (j := 7) (cnd := k0_cond8 c) (by decide) (by decide) (cond_8 c) rfl (k0_off16_eq c) (k0_off17_eq c) rfl k0_dev39_eq ?_
  refine P2_waitK m K c 2 rfl (sem_kv _ (lo 2) rfl) (cr_k ..) ?_
  exact h

theorem part18 {v234 : FVec F S512x64 .f32} {v237 : FVec F S512x64 .f32} {v251 : FVec F S128x4 .f32} {kk : (Σ' (v496 : FVec F S4x64x64 .f32) (v501 : FVec F S4x64x64 .f32) (v519 : FVec F S64x64 .f32) (v524 : FVec F S64x64 .f32), FVec F S64x64 .f32) → Prog (TpuEff nD τ sig (Elt F) Λ₀ .tc) α}
    (h : P2 m K c 6 2 8 R ⊢ wpc c (kk ⟨k0_pay24 v251 (kT m c 2), k0_pay25 v251 (vT m c 2), k0_pay26 v234 v251 (kT m c 2) (vT m c 2), k0_pay27 v251 (vT m c 2), k0_pay28 v237 v251 (kT m c 2)⟩) Q) :
    P2 m K c 5 2 8 R ⊢ wpc c (Prog.bind (onM (k0_part18 (F := F)) v234 v237 v251) kk) Q := by
  rw [k0_part18_eq_skeleton]; unfold onM k0_part18_skel
  simp only [Prog.lift, Prog.bind_op, Prog.bind_ret, Prog.pure_eq_ret, semSignalWord, semWaitWord]
  refine P2_waitV m K c 2 rfl (sem_kv _ (Ring.hi 2) rfl) (cr_v ..) ?_
  refine P2_k m K c 2 (by decide) rfl ?_
  refine P2_v m K c 2 (by decide) rfl ?_
  exact h

theorem part19 {v240 : FVec F S512x64 .f32} {v243 : FVec F S512x64 .f32} {v496 : FVec F S4x64x64 .f32} {v501 : FVec F S4x64x64 .f32} {v519 : FVec F S64x64 .f32} {v524 : FVec F S64x64 .f32} {v531 : FVec F S64x64 .f32} {kk : (Σ' (v574 : FVec F S64x256 .f32) (v576 : FVec F S256x512 .f32), FVec F S64x512 .f32) → Prog (TpuEff nD τ sig (Elt F) Λ₀ .tc) α}
    (h : P2 m K c 6 2 8 R ⊢ wpc c (kk ⟨k0_pay29 v240 v243 v496 v501 v519 v524 v531, k0_pay30 (pV m c), (constant S64x512 .f32 0x00000000#32)⟩) Q) :
    P2 m K c 6 2 8 R ⊢ wpc c (Prog.bind (onM (k0_part19 (F := F)) v240 v243 v496 v501 v519 v524 v531) kk) Q := by
  rw [k0_part19_eq_skeleton]; unfold onM k0_part19_skel
  simp only [Prog.lift, Prog.bind_op, Prog.bind_ret, Prog.pure_eq_ret, semSignalWord, semWaitWord]
  refine P2_p m K c (by decide) ?_
  exact h

theorem part20 {v2 : BitVec 32} {v574 : FVec F S64x256 .f32} {v576 : FVec F S256x512 .f32} {cst_453 : FVec F S64x512 .f32} {kk : PUnit → Prog (TpuEff nD τ sig (Elt F) Λ₀ .tc) α} (hw : k0_pay31 v574 v576 cst_453 = tileV m c 2)
    (h : P2 m K c 7 3 12 R ⊢ wpc c (kk ⟨⟩) Q) :
    P2 m K c 6 2 8 R ⊢ wpc c (Prog.bind (onM (k0_part20 (F := F)) c v2 v574 v576 cst_453) kk) Q := by
  rw [k0_part20_eq_skeleton]; unfold onM k0_part20_skel
  simp (config := {zeta := false}) only [Prog.lift, Prog.bind_op, Prog.bind_ret, Prog.pure_eq_ret]
  refine P2_a m K c (t := 2) fun v579 => ?_
  refine P2_tile m K c 2 hw ?_
  extract_lets
  refine P2_rs m K c (j := 8) (cnd := k0_cond9 c) (by decide) (by decide) (cond_9 c) rfl (k0_off18_eq c) (k0_off19_eq c) rfl k0_dev40_eq ?_
  refine P2_rs m K c (j := 9) (cnd := k0_cond10 c) (by decide) (by decide) (cond_10 c) rfl (k0_off20_eq c) (k0_off21_eq c) rfl k0_dev41_eq ?_
  refine P2_rs m K c (j := 10) (cnd := k0_cond11 c) (by decide) (by decide) (cond_11 c) rfl (k0_off22_eq c) (k0_off23_eq c) rfl k0_dev42_eq ?_
  refine P2_rs m K c (j := 11) (cnd := k0_cond12 c) (by decide) (by decide) (cond_12 c) rfl (k0_off24_eq c) (k0_off25_eq c) rfl k0_dev43_eq ?_
  refine P2_waitK m K c 3 rfl (sem_kv _ (lo 3) rfl) (cr_k ..) ?_
  exact h

theorem part21 {v234 : FVec F S512x64 .f32} {v237 : FVec F S512x64 .f32} {v251 : FVec F S128x4 .f32} {kk : (Σ' (v610 : FVec F S4x64x64 .f32) (v615 : FVec F S4x64x64 .f32) (v633 : FVec F S64x64 .f32) (v638 : FVec F S64x64 .f32) (v641 : FVec F S64x64 .f32), FVec F S64 .f32) → Prog (TpuEff nD τ sig (Elt F) Λ₀ .tc) α}
    (h : P2 m K c 8 3 12 R ⊢ wpc c (kk ⟨k0_pay32 v251 (kT m c 3), k0_pay33 v251 (vT m c 3), k0_pay34 v234 v251 (kT m c 3) (vT m c 3), k0_pay35 v251 (vT m c 3), k0_pay36 v237 v251 (kT m c 3), k0_pay37 v237 v251 (kT m c 3)⟩) Q) :
    P2 m K c 7 3 12 R ⊢ wpc c (Prog.bind (onM (k0_part21 (F := F)) v234 v237 v251) kk) Q := by
  rw [k0_part21_eq_skeleton]; unfold onM k0_part21_skel
  simp only [Prog.lift, Prog.bind_op, Prog.bind_ret, Prog.pure_eq_ret, semSignalWord, semWaitWord]
  refine P2_waitV m K c 3 rfl (sem_kv _ (Ring.hi 3) rfl) (cr_v ..) ?_
  refine P2_k m K c 3 (by decide) rfl ?_
  refine P2_v m K c 3 (by decide) rfl ?_
  exact h

theorem part22 {v240 : FVec F S512x64 .f32} {v243 : FVec F S512x64 .f32} {v610 : FVec F S4x64x64 .f32} {v615 : FVec F S4x64x64 .f32} {v633 : FVec F S64x64 .f32} {v638 : FVec F S64x64 .f32} {v641 : FVec F S64x64 .f32} {v642 : FVec F S64 .f32} {kk : (FVec F S64x256 .f32) → Prog (TpuEff nD τ sig (Elt F) Λ₀ .tc) α}
    (h : P2 m K c 8 3 12 R ⊢ wpc c (kk (k0_pay38 v240 v243 v610 v615 v633 v638 v641 v642)) Q) :
    P2 m K c 8 3 12 R ⊢ wpc c (Prog.bind (onM (k0_part22 (F := F)) v240 v243 v610 v615 v633 v638 v641 v642) kk) Q := by
  rw [k0_part22_eq_skeleton]; unfold onM k0_part22_skel
  simp only [Prog.lift, Prog.bind_op, Prog.bind_ret, Prog.pure_eq_ret, semSignalWord, semWaitWord]
  exact h

theorem part23 {v2 : BitVec 32} {v688 : FVec F S64x256 .f32} {kk : PUnit → Prog (TpuEff nD τ sig (Elt F) Λ₀ .tc) α} (hw : k0_pay39 v688 (pV m c) = tileV m c 3)
    (h : P2 m K c 9 4 16 R ⊢ wpc c (kk ⟨⟩) Q) :
    P2 m K c 8 3 12 R ⊢ wpc c (Prog.bind (onM (k0_part23 (F := F)) c v2 v688) kk) Q := by
  rw [k0_part23_eq_skeleton]; unfold onM k0_part23_skel
  simp (config := {zeta := false}) only [Prog.lift, Prog.bind_op, Prog.bind_ret, Prog.pure_eq_ret]
  refine P2_p m K c (by decide) ?_
  refine P2_a m K c (t := 3) fun v693 => ?_
  refine P2_tile m K c 3 hw ?_
  extract_lets
  refine P2_rs m K c (j := 12) (cnd := k0_cond13 c) (by decide) (by decide) (cond_13 c) rfl (k0_off26_eq c) (k0_off27_eq c) rfl k0_dev44_eq ?_
  refine P2_rs m K c (j := 13) (cnd := k0_cond14 c) (by decide) (by decide) (cond_14 c) rfl (k0_off28_eq c) (k0_off29_eq c) rfl k0_dev45_eq ?_
  refine P2_rs m K c (j := 14) (cnd := k0_cond15 c) (by decide) (by decide) (cond_15 c) rfl (k0_off30_eq c) (k0_off31_eq c) rfl k0_dev46_eq ?_
  refine P2_rs m K c (j := 15) (cnd := k0_cond16 c) (by decide) (by decide) (cond_16 c) rfl (k0_off32_eq c) (k0_off33_eq c) rfl k0_dev47_eq ?_
  refine P2_waitK m K c 4 rfl (sem_kv _ (lo 4) rfl) (cr_k ..) ?_
  exact h

theorem part24 {v234 : FVec F S512x64 .f32} {v237 : FVec F S512x64 .f32} {v251 : FVec F S128x4 .f32} {kk : (Σ' (v724 : FVec F S4x64x64 .f32) (v729 : FVec F S4x64x64 .f32) (v747 : FVec F S64x64 .f32) (v752 : FVec F S64x64 .f32) (v753 : FVec F S64x64 .f32), FVec F S64x64 .f32) → Prog (TpuEff nD τ sig (Elt F) Λ₀ .tc) α}
    (h : P2 m K c 10 4 16 R ⊢ wpc c (kk ⟨k0_pay40 v251 (kT m c 4), k0_pay41 v251 (vT m c 4), k0_pay42 v234 v251 (kT m c 4) (vT m c 4), k0_pay43 v251 (vT m c 4), k0_pay44 v237 v251 (kT m c 4), k0_pay45 (F := F)⟩) Q) :
    P2 m K c 9 4 16 R ⊢ wpc c (Prog.bind (onM (k0_part24 (F := F)) v234 v237 v251) kk) Q := by
  rw [k0_part24_eq_skeleton]; unfold onM k0_part24_skel
  simp only [Prog.lift, Prog.bind_op, Prog.bind_ret, Prog.pure_eq_ret, semSignalWord, semWaitWord]
  refine P2_waitV m K c 4 rfl (sem_kv _ (Ring.hi 4) rfl) (cr_v ..) ?_
  refine P2_k m K c 4 (by decide) rfl ?_
  refine P2_v m K c 4 (by decide) rfl ?_
  exact h

theorem part25 {v240 : FVec F S512x64 .f32} {v243 : FVec F S512x64 .f32} {v724 : FVec F S4x64x64 .f32} {v729 : FVec F S4x64x64 .f32} {v752 : FVec F S64x64 .f32} {v753 : FVec F S64x64 .f32} {v754 : FVec F S64x64 .f32} {kk : (Σ' (v765 : FVec F S64x64 .f32) (v783 : FVec F S64x64 .f32), FVec F S64x64 .f32) → Prog (TpuEff nD τ sig (Elt F) Λ₀ .tc) α}
    (h : P2 m K c 10 4 16 R ⊢ wpc c (kk ⟨k0_pay46 v752 v753 v754, k0_pay47 v240 v724 v729, k0_pay48 v243 v724 v729⟩) Q) :
    P2 m K c 10 4 16 R ⊢ wpc c (Prog.bind (onM (k0_part25 (F := F)) v240 v243 v724 v729 v752 v753 v754) kk) Q := by
  rw [k0_part25_eq_skeleton]; unfold onM k0_part25_skel
  simp only [Prog.lift, Prog.bind_op, Prog.bind_ret, Prog.pure_eq_ret, semSignalWord, semWaitWord]
  exact h

theorem part26 {v2 : BitVec 32} {v747 : FVec F S64x64 .f32} {v765 : FVec F S64x64 .f32} {v783 : FVec F S64x64 .f32} {v801 : FVec F S64x64 .f32} {kk : PUnit → Prog (TpuEff nD τ sig (Elt F) Λ₀ .tc) α} (hw : k0_pay49 v747 v765 v783 v801 (pV m c) = tileV m c 4)
    (h : P2 m K c 11 5 20 R ⊢ wpc c (kk ⟨⟩) Q) :
    P2 m K c 10 4 16 R ⊢ wpc c (Prog.bind (onM (k0_part26 (F := F)) c v2 v747 v765 v783 v801) kk) Q := by
  rw [k0_part26_eq_skeleton]; unfold onM k0_part26_skel
  simp (config := {zeta := false}) only [Prog.lift, Prog.bind_op, Prog.bind_ret, Prog.pure_eq_ret]
  refine P2_p m K c (by decide) ?_
  refine P2_a m K c (t := 4) fun v807 => ?_
  refine P2_tile m K c 4 hw ?_
  extract_lets
  refine P2_rs m K c (j := 16) (cnd := k0_cond17 c) (by decide) (by decide) (cond_17 c) rfl (k0_off34_eq c) (k0_off35_eq c) rfl k0_dev48_eq ?_
  refine P2_rs m K c (j := 17) (cnd := k0_cond18 c) (by decide) (by decide) (cond_18 c) rfl (k0_off36_eq c) (k0_off37_eq c) rfl k0_dev49_eq ?_
  refine P2_rs m K c (j := 18) (cnd := k0_cond19 c) (by decide) (by decide) (cond_19 c) rfl (k0_off38_eq c) (k0_off39_eq c) rfl k0_dev50_eq ?_
  refine P2_rs m K c (j := 19) (cnd := k0_cond20 c) (by decide) (by decide) (cond_20 c) rfl (k0_off40_eq c) (k0_off41_eq c) rfl k0_dev51_eq ?_
  refine P2_waitK m K c 5 rfl (sem_kv _ (lo 5) rfl) (cr_k ..) ?_
  exact h

theorem part27 {v234 : FVec F S512x64 .f32} {v237 : FVec F S512x64 .f32} {v251 : FVec F S128x4 .f32} {kk : (Σ' (v838 : FVec F S4x64x64 .f32) (v843 : FVec F S4x64x64 .f32) (v861 : FVec F S64x64 .f32) (v862 : FVec F S64x64 .f32) (v864 : FVec F S64x64 .f32) (v866 : FVec F S64x64 .f32), FVec F S64x64 .f32) → Prog (TpuEff nD τ sig (Elt F) Λ₀ .tc) α}
    (h : P2 m K c 12 5 20 R ⊢ wpc c (kk ⟨k0_pay50 v251 (kT m c 5), k0_pay51 v251 (vT m c 5), k0_pay52 v234 v251 (kT m c 5) (vT m c 5), k0_pay53 v237, k0_pay54 v251 (kT m c 5), k0_pay55 v251 (vT m c 5), (constant S64x64 .f32 0x00000000#32)⟩) Q) :
    P2 m K c 11 5 20 R ⊢ wpc c (Prog.bind (onM (k0_part27 (F := F)) v234 v237 v251) kk) Q := by
  rw [k0_part27_eq_skeleton]; unfold onM k0_part27_skel
  simp only [Prog.lift, Prog.bind_op, Prog.bind_ret, Prog.pure_eq_ret, semSignalWord, semWaitWord]
  refine P2_waitV m K c 5 rfl (sem_kv _ (Ring.hi 5) rfl) (cr_v ..) ?_
  refine P2_k m K c 5 (by decide) rfl ?_
  refine P2_v m K c 5 (by decide) rfl ?_
  exact h

theorem part28 {v240 : FVec F S512x64 .f32} {v243 : FVec F S512x64 .f32} {v838 : FVec F S4x64x64 .f32} {v843 : FVec F S4x64x64 .f32} {v862 : FVec F S64x64 .f32} {v864 : FVec F S64x64 .f32} {v866 : FVec F S64x64 .f32} {cst_618 : FVec F S64x64 .f32} {kk : (Σ' (v879 : FVec F S64x64 .f32) (v897 : FVec F S64x64 .f32) (v902 : FVec F S64x64 .f32) (v910 : FVec F S64x64 .f32), FVec F S64x64 .f32) → Prog (TpuEff nD τ sig (Elt F) Λ₀ .tc) α}
    (h : P2 m K c 12 5 20 R ⊢ wpc c (kk ⟨k0_pay56 v862 v864 v866 cst_618, k0_pay57 v240 v838 v843, k0_pay58 v843, k0_pay59 v243 v838, k0_pay60 v243 v838⟩) Q) :
    P2 m K c 12 5 20 R ⊢ wpc c (Prog.bind (onM (k0_part28 (F := F)) v240 v243 v838 v843 v862 v864 v866 cst_618) kk) Q := by
  rw [k0_part28_eq_skeleton]; unfold onM k0_part28_skel
  simp only [Prog.lift, Prog.bind_op, Prog.bind_ret, Prog.pure_eq_ret, semSignalWord, semWaitWord]
  exact h

theorem part29 {v2 : BitVec 32} {v861 : FVec F S64x64 .f32} {v879 : FVec F S64x64 .f32} {v897 : FVec F S64x64 .f32} {v902 : FVec F S64x64 .f32} {v910 : FVec F S64x64 .f32} {v913 : FVec F S64x64 .f32} {kk : PUnit → Prog (TpuEff nD τ sig (Elt F) Λ₀ .tc) α} (hw : k0_pay61 v861 v879 v897 v902 v910 v913 (pV m c) = tileV m c 5)
    (h : P2 m K c 13 6 24 R ⊢ wpc c (kk ⟨⟩) Q) :
    P2 m K c 12 5 20 R ⊢ wpc c (Prog.bind (onM (k0_part29 (F := F)) c v2 v861 v879 v897 v902 v910 v913) kk) Q := by
  rw [k0_part29_eq_skeleton]; unfold onM k0_part29_skel
  simp (config := {zeta := false}) only [Prog.lift, Prog.bind_op, Prog.bind_ret, Prog.pure_eq_ret]
  refine P2_p m K c (by decide) ?_
  refine P2_a m K c (t := 5) fun v921 => ?_
  refine P2_tile m K c 5 hw ?_
  extract_lets
  refine P2_rs m K c (j := 20) (cnd := k0_cond21 c) (by decide) (by decide) (cond_21 c) rfl (k0_off42_eq c) (k0_off43_eq c) rfl k0_dev52_eq ?_
  refine P2_rs m K c (j := 21) (cnd := k0_cond22 c) (by decide) (by decide) (cond_22 c) rfl (k0_off44_eq c) (k0_off45_eq c) rfl k0_dev53_eq ?_
  refine P2_rs m K c (j := 22) (cnd := k0_cond23 c) (by decide) (by decide) (cond_23 c) rfl (k0_off46_eq c) (k0_off47_eq c) rfl k0_dev54_eq ?_
  refine P2_rs m K c (j := 23) (cnd := k0_cond24 c) (by decide) (by decide) (cond_24 c) rfl (k0_off48_eq c) (k0_off49_eq c) rfl k0_dev55_eq ?_
  refine P2_waitK m K c 6 rfl (sem_kv _ (lo 6) rfl) (cr_k ..) ?_
  exact h

theorem part30 {v234 : FVec F S512x64 .f32} {v237 : FVec F S512x64 .f32} {v251 : FVec F S128x4 .f32} {kk : (Σ' (v952 : FVec F S4x64x64 .f32) (v957 : FVec F S4x64x64 .f32) (v975 : FVec F S64x64 .f32) (v976 : FVec F S64x64 .f32), FVec F S64x64 .f32) → Prog (TpuEff nD τ sig (Elt F) Λ₀ .tc) α}
    (h : P2 m K c 14 6 24 R ⊢ wpc c (kk ⟨k0_pay62 v251 (kT m c 6), k0_pay63 v251 (vT m c 6), k0_pay64 v234 v251 (kT m c 6) (vT m c 6), k0_pay65 v237, k0_pay66 v251 (kT m c 6)⟩) Q) :
    P2 m K c 13 6 24 R ⊢ wpc c (Prog.bind (onM (k0_part30 (F := F)) v234 v237 v251) kk) Q := by
  rw [k0_part30_eq_skeleton]; unfold onM k0_part30_skel
  simp only [Prog.lift, Prog.bind_op, Prog.bind_ret, Prog.pure_eq_ret, semSignalWord, semWaitWord]
  refine P2_waitV m K c 6 rfl (sem_kv _ (Ring.hi 6) rfl) (cr_v ..) ?_
  refine P2_k m K c 6 (by decide) rfl ?_
  refine P2_v m K c 6 (by decide) rfl ?_
  exact h

theorem part31 {v240 : FVec F S512x64 .f32} {v243 : FVec F S512x64 .f32} {v952 : FVec F S4x64x64 .f32} {v957 : FVec F S4x64x64 .f32} {v976 : FVec F S64x64 .f32} {v978 : FVec F S64x64 .f32} {kk : (Σ' (v993 : FVec F S64x64 .f32) (v1011 : FVec F S64x64 .f32) (v1016 : FVec F S64x64 .f32), FVec F S64x64 .f32) → Prog (TpuEff nD τ sig (Elt F) Λ₀ .tc) α}
    (h : P2 m K c 14 6 24 R ⊢ wpc c (kk ⟨k0_pay67 v957 v976 v978, k0_pay68 v240 v952 v957, k0_pay69 v957, k0_pay70 v243 v952⟩) Q) :
    P2 m K c 14 6 24 R ⊢ wpc c (Prog.bind (onM (k0_part31 (F := F)) v240 v243 v952 v957 v976 v978) kk) Q := by
  rw [k0_part31_eq_skeleton]; unfold onM k0_part31_skel
  simp only [Prog.lift, Prog.bind_op, Prog.bind_ret, Prog.pure_eq_ret, semSignalWord, semWaitWord]
  exact h

theorem part32 {v2 : BitVec 32} {v975 : FVec F S64x64 .f32} {v993 : FVec F S64x64 .f32} {v1011 : FVec F S64x64 .f32} {v1016 : FVec F S64x64 .f32} {v1024 : FVec F S64x64 .f32} {kk : PUnit → Prog (TpuEff nD τ sig (Elt F) Λ₀ .tc) α} (hw : k0_pay71 v975 v993 v1011 v1016 v1024 (pV m c) = tileV m c 6)
    (h : P2 m K c 14 7 28 R ⊢ wpc c (kk ⟨⟩) Q) :
    P2 m K c 14 6 24 R ⊢ wpc c (Prog.bind (onM (k0_part32 (F := F)) c v2 v975 v993 v1011 v1016 v1024) kk) Q := by
  rw [k0_part32_eq_skeleton]; unfold onM k0_part32_skel
  simp (config := {zeta := false}) only [Prog.lift, Prog.bind_op, Prog.bind_ret, Prog.pure_eq_ret]
  refine P2_p m K c (by decide) ?_
  refine P2_a m K c (t := 6) fun v1035 => ?_
  refine P2_tile m K c 6 hw ?_
  extract_lets
  refine P2_rs m K c (j := 24) (cnd := k0_cond25 c) (by decide) (by decide) (cond_25 c) rfl (k0_off50_eq c) (k0_off51_eq c) rfl k0_dev56_eq ?_
  refine P2_rs m K c (j := 25) (cnd := k0_cond26 c) (by decide) (by decide) (cond_26 c) rfl (k0_off52_eq c) (k0_off53_eq c) rfl k0_dev57_eq ?_
  refine P2_rs m K c (j := 26) (cnd := k0_cond27 c) (by decide) (by decide) (cond_27 c) rfl (k0_off54_eq c) (k0_off55_eq c) rfl k0_dev58_eq ?_
  refine P2_rs m K c (j := 27) (cnd := k0_cond28 c) (by decide) (by decide) (cond_28 c) rfl (k0_off56_eq c) (k0_off57_eq c) rfl k0_dev59_eq ?_
  exact h

theorem part33 {v234 : FVec F S512x64 .f32} {v251 : FVec F S128x4 .f32} {kk : (Σ' (v1066 : FVec F S4x64x64 .f32) (v1071 : FVec F S4x64x64 .f32), FVec F S64x64 .f32) → Prog (TpuEff nD τ sig (Elt F) Λ₀ .tc) α}
    (h : P2 m K c 16 7 28 R ⊢ wpc c (kk ⟨k0_pay72 v251 (kT m c 7), k0_pay73 v251 (vT m c 7), k0_pay74 v234 v251 (kT m c 7) (vT m c 7)⟩) Q) :
    P2 m K c 14 7 28 R ⊢ wpc c (Prog.bind (onM (k0_part33 (F := F)) v234 v251) kk) Q := by
  rw [k0_part33_eq_skeleton]; unfold onM k0_part33_skel
  simp only [Prog.lift, Prog.bind_op, Prog.bind_ret, Prog.pure_eq_ret, semSignalWord, semWaitWord]
  refine P2_waitK m K c 7 rfl (sem_kv _ (lo 7) rfl) (cr_k ..) ?_
  refine P2_waitV m K c 7 rfl (sem_kv _ (Ring.hi 7) rfl) (cr_v ..) ?_
  refine P2_k m K c 7 (by decide) rfl ?_
  refine P2_v m K c 7 (by decide) rfl ?_
  exact h

theorem part34 {v237 : FVec F S512x64 .f32} {v240 : FVec F S512x64 .f32} {v243 : FVec F S512x64 .f32} {v1066 : FVec F S4x64x64 .f32} {v1071 : FVec F S4x64x64 .f32} {kk : (Σ' (v1107 : FVec F S64x64 .f32) (v1125 : FVec F S64x64 .f32) (v1130 : FVec F S64x64 .f32) (v1133 : FVec F S64x64 .f32), FVec F S64x64 .f32) → Prog (TpuEff nD τ sig (Elt F) Λ₀ .tc) α}
    (h : P2 m K c 16 7 28 R ⊢ wpc c (kk ⟨k0_pay75 v237 v1066 v1071, k0_pay76 v240 v1066 v1071, k0_pay77 v1071, k0_pay78 v243 v1066, k0_pay79 v243 v1066⟩) Q) :
    P2 m K c 16 7 28 R ⊢ wpc c (Prog.bind (onM (k0_part34 (F := F)) v237 v240 v243 v1066 v1071) kk) Q := by
  rw [k0_part34_eq_skeleton]; unfold onM k0_part34_skel
  simp only [Prog.lift, Prog.bind_op, Prog.bind_ret, Prog.pure_eq_ret, semSignalWord, semWaitWord]
  exact h

theorem part35 {v2 : BitVec 32} {v1089 : FVec F S64x64 .f32} {v1107 : FVec F S64x64 .f32} {v1125 : FVec F S64x64 .f32} {v1130 : FVec F S64x64 .f32} {v1133 : FVec F S64x64 .f32} {v1136 : FVec F S64x64 .f32} {kk : PUnit → Prog (TpuEff nD τ sig (Elt F) Λ₀ .tc) α} (hw : k0_pay80 v1089 v1107 v1125 v1130 v1133 v1136 (pV m c) = tileV m c 7)
    (h : P2 m K c 16 8 32 R ⊢ wpc c (kk ⟨⟩) Q) :
    P2 m K c 16 7 28 R ⊢ wpc c (Prog.bind (onM (k0_part35 (F := F)) c v2 v1089 v1107 v1125 v1130 v1133 v1136) kk) Q := by
  rw [k0_part35_eq_skeleton]; unfold onM k0_part35_skel
  simp (config := {zeta := false}) only [Prog.lift, Prog.bind_op, Prog.bind_ret, Prog.pure_eq_ret]
  refine P2_p m K c (by decide) ?_
  refine P2_a m K c (t := 7) fun v1149 => ?_
  refine P2_tile m K c 7 hw ?_
  extract_lets
  refine P2_rs m K c (j := 28) (cnd := k0_cond29 c) (by decide) (by decide) (cond_29 c) rfl (k0_off58_eq c) (k0_off59_eq c) rfl k0_dev60_eq ?_
  refine P2_rs m K c (j := 29) (cnd := k0_cond30 c) (by decide) (by decide) (cond_30 c) rfl (k0_off60_eq c) (k0_off61_eq c) rfl k0_dev61_eq ?_
  refine P2_rs m K c (j := 30) (cnd := k0_cond31 c) (by decide) (by decide) (cond_31 c) rfl (k0_off62_eq c) (k0_off63_eq c) rfl k0_dev62_eq ?_
  refine P2_rs m K c (j := 31) (cnd := k0_cond32 c) (by decide) (by decide) (cond_32 c) rfl (k0_off64_eq c) (k0_off65_eq c) rfl k0_dev63_eq ?_
  exact h

end

end Cert.Ring

end
-- ==== Proof.WalkSum.lean ====
/-
# The landed rows and the copies of the sum

What each printed part of the body does to what the device holds.
-/
module

public import proofs.«01_k».proof.Proof.Walk

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

section
variable {R : sProp (MT nD τ sig Unit (Elt F) ℕ UU ℕ)} {α : Type} {Q : α → sProp (MT nD τ sig Unit (Elt F) ℕ UU ℕ)}

theorem part36 {v2 : BitVec 32} {kk : PUnit → Prog (TpuEff nD τ sig (Elt F) Λ₀ .tc) α}
    (h : P3 m K c 4 R ⊢ wpc c (kk ⟨⟩) Q) :
    P3 m K c 1 R ⊢ wpc c (Prog.bind (onM (k0_part36 (F := F)) c v2) kk) Q := by
  rw [k0_part36_eq_skeleton]; unfold onM k0_part36_skel
  simp only [Prog.lift, Prog.bind_op, Prog.bind_ret, Prog.pure_eq_ret, semSignalWord, semWaitWord]
  refine go3 m K c 1 (by decide) (by decide) ?_
  refine go3 m K c 2 (by decide) (by decide) ?_
  refine go3 m K c 3 (by decide) (by decide) ?_
  exact h

theorem part37 {v2 : BitVec 32} {kk : PUnit → Prog (TpuEff nD τ sig (Elt F) Λ₀ .tc) α}
    (h : P3 m K c 7 R ⊢ wpc c (kk ⟨⟩) Q) :
    P3 m K c 4 R ⊢ wpc c (Prog.bind (onM (k0_part37 (F := F)) c v2) kk) Q := by
  rw [k0_part37_eq_skeleton]; unfold onM k0_part37_skel
  simp only [Prog.lift, Prog.bind_op, Prog.bind_ret, Prog.pure_eq_ret, semSignalWord, semWaitWord]
  refine go3 m K c 4 (by decide) (by decide) ?_
  refine go3 m K c 5 (by decide) (by decide) ?_
  refine go3 m K c 6 (by decide) (by decide) ?_
  exact h

theorem part38 {v2 : BitVec 32} {kk : BitVec 32 → Prog (TpuEff nD τ sig (Elt F) Λ₀ .tc) α}
    (h : ∀ v1264, P3 m K c 11 R ⊢ wpc c (kk v1264) Q) :
    P3 m K c 7 R ⊢ wpc c (Prog.bind (onM (k0_part38 (F := F)) c v2) kk) Q := by
  rw [k0_part38_eq_skeleton]; unfold onM k0_part38_skel
  simp only [Prog.lift, Prog.bind_op, Prog.bind_ret, Prog.pure_eq_ret, semSignalWord, semWaitWord]
  refine go3 m K c 7 (by decide) (by decide) ?_
  refine go3 m K c 8 (by decide) (by decide) ?_
  refine go3 m K c 9 (by decide) (by decide) ?_
  refine go3 m K c 10 (by decide) (by decide) ?_
  exact h _

theorem part39 {v2 : BitVec 32} {v1264 : BitVec 32} {kk : (Σ' (v1295 : BitVec 32), BitVec 32) → Prog (TpuEff nD τ sig (Elt F) Λ₀ .tc) α}
    (h : ∀ v1295, P3 m K c 14 R ⊢ wpc c (kk ⟨v1295, 1#32⟩) Q) :
    P3 m K c 11 R ⊢ wpc c (Prog.bind (onM (k0_part39 (F := F)) c v2 v1264) kk) Q := by
  rw [k0_part39_eq_skeleton]; unfold onM k0_part39_skel
  simp only [Prog.lift, Prog.bind_op, Prog.bind_ret, Prog.pure_eq_ret, semSignalWord, semWaitWord]
  refine go3 m K c 11 (by decide) (by decide) ?_
  refine go3 m K c 12 (by decide) (by decide) ?_
  refine go3 m K c 13 (by decide) (by decide) ?_
  exact h _

theorem part40 {v2 : BitVec 32} {v1295 : BitVec 32} {c1_i32_874 : BitVec 32} {kk : PUnit → Prog (TpuEff nD τ sig (Elt F) Λ₀ .tc) α}
    (h : P3 m K c 17 R ⊢ wpc c (kk ⟨⟩) Q) :
    P3 m K c 14 R ⊢ wpc c (Prog.bind (onM (k0_part40 (F := F)) c v2 v1295 c1_i32_874) kk) Q := by
  rw [k0_part40_eq_skeleton]; unfold onM k0_part40_skel
  simp only [Prog.lift, Prog.bind_op, Prog.bind_ret, Prog.pure_eq_ret, semSignalWord, semWaitWord]
  refine go3 m K c 14 (by decide) (by decide) ?_
  refine go3 m K c 15 (by decide) (by decide) ?_
  refine go3 m K c 16 (by decide) (by decide) ?_
  exact h

theorem part41 {v2 : BitVec 32} {kk : PUnit → Prog (TpuEff nD τ sig (Elt F) Λ₀ .tc) α}
    (h : P3 m K c 20 R ⊢ wpc c (kk ⟨⟩) Q) :
    P3 m K c 17 R ⊢ wpc c (Prog.bind (onM (k0_part41 (F := F)) c v2) kk) Q := by
  rw [k0_part41_eq_skeleton]; unfold onM k0_part41_skel
  simp only [Prog.lift, Prog.bind_op, Prog.bind_ret, Prog.pure_eq_ret, semSignalWord, semWaitWord]
  refine go3 m K c 17 (by decide) (by decide) ?_
  refine go3 m K c 18 (by decide) (by decide) ?_
  refine go3 m K c 19 (by decide) (by decide) ?_
  exact h

theorem part42 {v2 : BitVec 32} {kk : PUnit → Prog (TpuEff nD τ sig (Elt F) Λ₀ .tc) α}
    (h : P3 m K c 23 R ⊢ wpc c (kk ⟨⟩) Q) :
    P3 m K c 20 R ⊢ wpc c (Prog.bind (onM (k0_part42 (F := F)) c v2) kk) Q := by
  rw [k0_part42_eq_skeleton]; unfold onM k0_part42_skel
  simp only [Prog.lift, Prog.bind_op, Prog.bind_ret, Prog.pure_eq_ret, semSignalWord, semWaitWord]
  refine go3 m K c 20 (by decide) (by decide) ?_
  refine go3 m K c 21 (by decide) (by decide) ?_
  refine go3 m K c 22 (by decide) (by decide) ?_
  exact h

theorem part43 {v2 : BitVec 32} {kk : PUnit → Prog (TpuEff nD τ sig (Elt F) Λ₀ .tc) α}
    (h : P3 m K c 26 R ⊢ wpc c (kk ⟨⟩) Q) :
    P3 m K c 23 R ⊢ wpc c (Prog.bind (onM (k0_part43 (F := F)) c v2) kk) Q := by
  rw [k0_part43_eq_skeleton]; unfold onM k0_part43_skel
  simp only [Prog.lift, Prog.bind_op, Prog.bind_ret, Prog.pure_eq_ret, semSignalWord, semWaitWord]
  refine go3 m K c 23 (by decide) (by decide) ?_
  refine go3 m K c 24 (by decide) (by decide) ?_
  refine go3 m K c 25 (by decide) (by decide) ?_
  exact h

theorem part44 {v2 : BitVec 32} {kk : BitVec 32 → Prog (TpuEff nD τ sig (Elt F) Λ₀ .tc) α}
    (h : P3 m K c 30 R ⊢ wpc c (kk 30#32) Q) :
    P3 m K c 26 R ⊢ wpc c (Prog.bind (onM (k0_part44 (F := F)) c v2) kk) Q := by
  rw [k0_part44_eq_skeleton]; unfold onM k0_part44_skel
  simp only [Prog.lift, Prog.bind_op, Prog.bind_ret, Prog.pure_eq_ret, semSignalWord, semWaitWord]
  refine go3 m K c 26 (by decide) (by decide) ?_
  refine go3 m K c 27 (by decide) (by decide) ?_
  refine go3 m K c 28 (by decide) (by decide) ?_
  refine go3 m K c 29 (by decide) (by decide) ?_
  exact h

theorem part45 {v2 : BitVec 32} {c30_i32_1000 : BitVec 32} {kk : BitVec 32 → Prog (TpuEff nD τ sig (Elt F) Λ₀ .tc) α}
    (h : ∀ v1485, PR m K c (accFin m) iprop(Rem m c ∗ At c 1 ∗ R) ⊢ wpc c (kk v1485) Q) :
    P3 m K c 30 iprop(own m c ∗ rowA m c c ∗ R) ⊢ wpc c (Prog.bind (onM (k0_part45 (F := F)) c v2 c30_i32_1000) kk) Q := by
  rw [k0_part45_eq_skeleton]; unfold onM k0_part45_skel
  simp only [Prog.lift, Prog.bind_op, Prog.bind_ret, Prog.pure_eq_ret, semSignalWord, semWaitWord]
  refine go3 m K c 30 (by decide) (by decide) ?_
  refine go3 m K c 31 (by decide) (by decide) ?_
  refine (turn3R m K c).trans ?_
  refine PR_sum m K c (k0_off1_eq c) (by decide) ?_
  exact h _

theorem part46 {v2 : BitVec 32} {v1485 : BitVec 32} {kk : BitVec 32 → Prog (TpuEff nD τ sig (Elt F) Λ₀ .tc) α}
    (h : P4 m K c 4 R ⊢ wpc c (kk 4#32) Q) :
    P4 m K c 1 R ⊢ wpc c (Prog.bind (onM (k0_part46 (F := F)) c v2 v1485) kk) Q := by
  rw [k0_part46_eq_skeleton]; unfold onM k0_part46_skel
  simp only [Prog.lift, Prog.bind_op, Prog.bind_ret, Prog.pure_eq_ret, semSignalWord, semWaitWord]
  refine go4 m K c 1 (by decide) (by decide) (k0_dev64_eq c) ?_
  refine go4 m K c 2 (by decide) (by decide) (k0_dev65_eq c) ?_
  refine go4 m K c 3 (by decide) (by decide) (k0_dev66_eq c) ?_
  exact h

theorem part47 {v2 : BitVec 32} {c4_i32_1048 : BitVec 32} {kk : PUnit → Prog (TpuEff nD τ sig (Elt F) Λ₀ .tc) α}
    (h : P4 m K c 6 R ⊢ wpc c (kk ⟨⟩) Q) :
    P4 m K c 4 R ⊢ wpc c (Prog.bind (onM (k0_part47 (F := F)) c v2 c4_i32_1048) kk) Q := by
  rw [k0_part47_eq_skeleton]; unfold onM k0_part47_skel
  simp only [Prog.lift, Prog.bind_op, Prog.bind_ret, Prog.pure_eq_ret, semSignalWord, semWaitWord]
  refine go4 m K c 4 (by decide) (by decide) (k0_dev67_eq c) ?_
  refine go4 m K c 5 (by decide) (by decide) (k0_dev68_eq c) ?_
  exact h

theorem part48 {v2 : BitVec 32} {kk : PUnit → Prog (TpuEff nD τ sig (Elt F) Λ₀ .tc) α}
    (h : P4 m K c 9 R ⊢ wpc c (kk ⟨⟩) Q) :
    P4 m K c 6 R ⊢ wpc c (Prog.bind (onM (k0_part48 (F := F)) c v2) kk) Q := by
  rw [k0_part48_eq_skeleton]; unfold onM k0_part48_skel
  simp only [Prog.lift, Prog.bind_op, Prog.bind_ret, Prog.pure_eq_ret, semSignalWord, semWaitWord]
  refine go4 m K c 6 (by decide) (by decide) (k0_dev69_eq c) ?_
  refine go4 m K c 7 (by decide) (by decide) (k0_dev70_eq c) ?_
  refine go4 m K c 8 (by decide) (by decide) (k0_dev71_eq c) ?_
  exact h

theorem part49 {v2 : BitVec 32} {kk : PUnit → Prog (TpuEff nD τ sig (Elt F) Λ₀ .tc) α}
    (h : P4 m K c 12 R ⊢ wpc c (kk ⟨⟩) Q) :
    P4 m K c 9 R ⊢ wpc c (Prog.bind (onM (k0_part49 (F := F)) c v2) kk) Q := by
  rw [k0_part49_eq_skeleton]; unfold onM k0_part49_skel
  simp only [Prog.lift, Prog.bind_op, Prog.bind_ret, Prog.pure_eq_ret, semSignalWord, semWaitWord]
  refine go4 m K c 9 (by decide) (by decide) (k0_dev72_eq c) ?_
  refine go4 m K c 10 (by decide) (by decide) (k0_dev73_eq c) ?_
  refine go4 m K c 11 (by decide) (by decide) (k0_dev74_eq c) ?_
  exact h

theorem part50 {v2 : BitVec 32} {kk : PUnit → Prog (TpuEff nD τ sig (Elt F) Λ₀ .tc) α}
    (h : P4 m K c 15 R ⊢ wpc c (kk ⟨⟩) Q) :
    P4 m K c 12 R ⊢ wpc c (Prog.bind (onM (k0_part50 (F := F)) c v2) kk) Q := by
  rw [k0_part50_eq_skeleton]; unfold onM k0_part50_skel
  simp only [Prog.lift, Prog.bind_op, Prog.bind_ret, Prog.pure_eq_ret, semSignalWord, semWaitWord]
  refine go4 m K c 12 (by decide) (by decide) (k0_dev75_eq c) ?_
  refine go4 m K c 13 (by decide) (by decide) (k0_dev76_eq c) ?_
  refine go4 m K c 14 (by decide) (by decide) (k0_dev77_eq c) ?_
  exact h

theorem part51 {v2 : BitVec 32} {kk : (Σ' (v1690 : BitVec 32), BitVec 32) → Prog (TpuEff nD τ sig (Elt F) Λ₀ .tc) α}
    (h : ∀ v1690, P4 m K c 18 R ⊢ wpc c (kk ⟨v1690, 0#32⟩) Q) :
    P4 m K c 15 R ⊢ wpc c (Prog.bind (onM (k0_part51 (F := F)) c v2) kk) Q := by
  rw [k0_part51_eq_skeleton]; unfold onM k0_part51_skel
  simp only [Prog.lift, Prog.bind_op, Prog.bind_ret, Prog.pure_eq_ret, semSignalWord, semWaitWord]
  refine go4 m K c 15 (by decide) (by decide) (k0_dev78_eq c) ?_
  refine go4 m K c 16 (by decide) (by decide) (k0_dev79_eq c) ?_
  refine go4 m K c 17 (by decide) (by decide) (k0_dev80_eq c) ?_
  exact h _

theorem part52 {v2 : BitVec 32} {v1690 : BitVec 32} {c0_i32_1163 : BitVec 32} {kk : BitVec 32 → Prog (TpuEff nD τ sig (Elt F) Λ₀ .tc) α}
    (h : ∀ v1725, P4 m K c 21 R ⊢ wpc c (kk v1725) Q) :
    P4 m K c 18 R ⊢ wpc c (Prog.bind (onM (k0_part52 (F := F)) c v2 v1690 c0_i32_1163) kk) Q := by
  rw [k0_part52_eq_skeleton]; unfold onM k0_part52_skel
  simp only [Prog.lift, Prog.bind_op, Prog.bind_ret, Prog.pure_eq_ret, semSignalWord, semWaitWord]
  refine go4 m K c 18 (by decide) (by decide) (k0_dev81_eq c) ?_
  refine go4 m K c 19 (by decide) (by decide) (k0_dev82_eq c) ?_
  refine go4 m K c 20 (by decide) (by decide) (k0_dev83_eq c) ?_
  exact h _

theorem part53 {v2 : BitVec 32} {v1725 : BitVec 32} {kk : BitVec 32 → Prog (TpuEff nD τ sig (Elt F) Λ₀ .tc) α}
    (h : P4 m K c 24 R ⊢ wpc c (kk 24#32) Q) :
    P4 m K c 21 R ⊢ wpc c (Prog.bind (onM (k0_part53 (F := F)) c v2 v1725) kk) Q := by
  rw [k0_part53_eq_skeleton]; unfold onM k0_part53_skel
  simp only [Prog.lift, Prog.bind_op, Prog.bind_ret, Prog.pure_eq_ret, semSignalWord, semWaitWord]
  refine go4 m K c 21 (by decide) (by decide) (k0_dev84_eq c) ?_
  refine go4 m K c 22 (by decide) (by decide) (k0_dev85_eq c) ?_
  refine go4 m K c 23 (by decide) (by decide) (k0_dev86_eq c) ?_
  exact h

theorem part54 {v2 : BitVec 32} {c24_i32_1208 : BitVec 32} {kk : PUnit → Prog (TpuEff nD τ sig (Elt F) Λ₀ .tc) α}
    (h : P4 m K c 26 R ⊢ wpc c (kk ⟨⟩) Q) :
    P4 m K c 24 R ⊢ wpc c (Prog.bind (onM (k0_part54 (F := F)) c v2 c24_i32_1208) kk) Q := by
  rw [k0_part54_eq_skeleton]; unfold onM k0_part54_skel
  simp only [Prog.lift, Prog.bind_op, Prog.bind_ret, Prog.pure_eq_ret, semSignalWord, semWaitWord]
  refine go4 m K c 24 (by decide) (by decide) (k0_dev87_eq c) ?_
  refine go4 m K c 25 (by decide) (by decide) (k0_dev88_eq c) ?_
  exact h

theorem part55 {v2 : BitVec 32} {kk : PUnit → Prog (TpuEff nD τ sig (Elt F) Λ₀ .tc) α}
    (h : P4 m K c 29 R ⊢ wpc c (kk ⟨⟩) Q) :
    P4 m K c 26 R ⊢ wpc c (Prog.bind (onM (k0_part55 (F := F)) c v2) kk) Q := by
  rw [k0_part55_eq_skeleton]; unfold onM k0_part55_skel
  simp only [Prog.lift, Prog.bind_op, Prog.bind_ret, Prog.pure_eq_ret, semSignalWord, semWaitWord]
  refine go4 m K c 26 (by decide) (by decide) (k0_dev89_eq c) ?_
  refine go4 m K c 27 (by decide) (by decide) (k0_dev90_eq c) ?_
  refine go4 m K c 28 (by decide) (by decide) (k0_dev91_eq c) ?_
  exact h

theorem part56 {v2 : BitVec 32} {kk : PUnit → Prog (TpuEff nD τ sig (Elt F) Λ₀ .tc) α}
    (h : P4 m K c 32 R ⊢ wpc c (kk ⟨⟩) Q) :
    P4 m K c 29 R ⊢ wpc c (Prog.bind (onM (k0_part56 (F := F)) c v2) kk) Q := by
  rw [k0_part56_eq_skeleton]; unfold onM k0_part56_skel
  simp only [Prog.lift, Prog.bind_op, Prog.bind_ret, Prog.pure_eq_ret, semSignalWord, semWaitWord]
  refine go4 m K c 29 (by decide) (by decide) (k0_dev92_eq c) ?_
  refine go4 m K c 30 (by decide) (by decide) (k0_dev93_eq c) ?_
  refine go4 m K c 31 (by decide) (by decide) (k0_dev94_eq c) ?_
  exact h

end

end Cert.Ring

end
-- ==== Proof.WalkEnd.lean ====
/-
# The last waits

What each printed part of the body does to what the device holds.
-/
module

public import proofs.«01_k».proof.Proof.Walk

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! Each wait for the copy to a device is guarded by a word that says the device is another one. -/

theorem cond_33 : k0_cond33 c = 1#1 ↔ c.val ≠ 0 := guard_iff c 0 (by decide)
theorem cond_34 : k0_cond34 c = 1#1 ↔ c.val ≠ 1 := guard_iff c 1 (by decide)
theorem cond_35 : k0_cond35 c = 1#1 ↔ c.val ≠ 2 := guard_iff c 2 (by decide)
theorem cond_36 : k0_cond36 c = 1#1 ↔ c.val ≠ 3 := guard_iff c 3 (by decide)
theorem cond_37 : k0_cond37 c = 1#1 ↔ c.val ≠ 4 := guard_iff c 4 (by decide)
theorem cond_38 : k0_cond38 c = 1#1 ↔ c.val ≠ 5 := guard_iff c 5 (by decide)
theorem cond_39 : k0_cond39 c = 1#1 ↔ c.val ≠ 6 := guard_iff c 6 (by decide)
theorem cond_40 : k0_cond40 c = 1#1 ↔ c.val ≠ 7 := guard_iff c 7 (by decide)
theorem cond_41 : k0_cond41 c = 1#1 ↔ c.val ≠ 8 := guard_iff c 8 (by decide)
theorem cond_42 : k0_cond42 c = 1#1 ↔ c.val ≠ 9 := guard_iff c 9 (by decide)
theorem cond_43 : k0_cond43 c = 1#1 ↔ c.val ≠ 10 := guard_iff c 10 (by decide)
theorem cond_44 : k0_cond44 c = 1#1 ↔ c.val ≠ 11 := guard_iff c 11 (by decide)
theorem cond_45 : k0_cond45 c = 1#1 ↔ c.val ≠ 12 := guard_iff c 12 (by decide)
theorem cond_46 : k0_cond46 c = 1#1 ↔ c.val ≠ 13 := guard_iff c 13 (by decide)
theorem cond_47 : k0_cond47 c = 1#1 ↔ c.val ≠ 14 := guard_iff c 14 (by decide)
theorem cond_48 : k0_cond48 c = 1#1 ↔ c.val ≠ 15 := guard_iff c 15 (by decide)
theorem cond_49 : k0_cond49 c = 1#1 ↔ c.val ≠ 16 := guard_iff c 16 (by decide)
theorem cond_50 : k0_cond50 c = 1#1 ↔ c.val ≠ 17 := guard_iff c 17 (by decide)
theorem cond_51 : k0_cond51 c = 1#1 ↔ c.val ≠ 18 := guard_iff c 18 (by decide)
theorem cond_52 : k0_cond52 c = 1#1 ↔ c.val ≠ 19 := guard_iff c 19 (by decide)
theorem cond_53 : k0_cond53 c = 1#1 ↔ c.val ≠ 20 := guard_iff c 20 (by decide)
theorem cond_54 : k0_cond54 c = 1#1 ↔ c.val ≠ 21 := guard_iff c 21 (by decide)
theorem cond_55 : k0_cond55 c = 1#1 ↔ c.val ≠ 22 := guard_iff c 22 (by decide)
theorem cond_56 : k0_cond56 c = 1#1 ↔ c.val ≠ 23 := guard_iff c 23 (by decide)
theorem cond_57 : k0_cond57 c = 1#1 ↔ c.val ≠ 24 := guard_iff c 24 (by decide)
theorem cond_58 : k0_cond58 c = 1#1 ↔ c.val ≠ 25 := guard_iff c 25 (by decide)
theorem cond_59 : k0_cond59 c = 1#1 ↔ c.val ≠ 26 := guard_iff c 26 (by decide)
theorem cond_60 : k0_cond60 c = 1#1 ↔ c.val ≠ 27 := guard_iff c 27 (by decide)
theorem cond_61 : k0_cond61 c = 1#1 ↔ c.val ≠ 28 := guard_iff c 28 (by decide)
theorem cond_62 : k0_cond62 c = 1#1 ↔ c.val ≠ 29 := guard_iff c 29 (by decide)
theorem cond_63 : k0_cond63 c = 1#1 ↔ c.val ≠ 30 := guard_iff c 30 (by decide)
theorem cond_64 : k0_cond64 c = 1#1 ↔ c.val ≠ 31 := guard_iff c 31 (by decide)

attribute [local irreducible] k0_cond33 k0_cond34 k0_cond35 k0_cond36 k0_cond37 k0_cond38 k0_cond39 k0_cond40 k0_cond41 k0_cond42 k0_cond43 k0_cond44 k0_cond45 k0_cond46 k0_cond47 k0_cond48 k0_cond49 k0_cond50 k0_cond51 k0_cond52 k0_cond53 k0_cond54 k0_cond55 k0_cond56 k0_cond57 k0_cond58 k0_cond59 k0_cond60 k0_cond61 k0_cond62 k0_cond63 k0_cond64

section
variable {R : sProp (MT nD τ sig Unit (Elt F) ℕ UU ℕ)} {α : Type} {Q : α → sProp (MT nD τ sig Unit (Elt F) ℕ UU ℕ)}

theorem part57 {v2 : BitVec 32} {kk : PUnit → Prog (TpuEff nD τ sig (Elt F) Λ₀ .tc) α}
    (h : P5 m K c 4 R ⊢ wpc c (kk ⟨⟩) Q) :
    P5 m K c 1 R ⊢ wpc c (Prog.bind (onM (k0_part57 (F := F)) c v2) kk) Q := by
  rw [k0_part57_eq_skeleton]; unfold onM k0_part57_skel
  simp only [Prog.lift, Prog.bind_op, Prog.bind_ret, Prog.pure_eq_ret, semSignalWord, semWaitWord]
  refine go5 m K c 1 (by decide) (by decide) ?_
  refine go5 m K c 2 (by decide) (by decide) ?_
  refine go5 m K c 3 (by decide) (by decide) ?_
  exact h

theorem part58 {v2 : BitVec 32} {kk : PUnit → Prog (TpuEff nD τ sig (Elt F) Λ₀ .tc) α}
    (h : P5 m K c 8 R ⊢ wpc c (kk ⟨⟩) Q) :
    P5 m K c 4 R ⊢ wpc c (Prog.bind (onM (k0_part58 (F := F)) c v2) kk) Q := by
  rw [k0_part58_eq_skeleton]; unfold onM k0_part58_skel
  simp only [Prog.lift, Prog.bind_op, Prog.bind_ret, Prog.pure_eq_ret, semSignalWord, semWaitWord]
  refine go5 m K c 4 (by decide) (by decide) ?_
  refine go5 m K c 5 (by decide) (by decide) ?_
  refine go5 m K c 6 (by decide) (by decide) ?_
  refine go5 m K c 7 (by decide) (by decide) ?_
  exact h

theorem part59 {v2 : BitVec 32} {kk : (Σ' (v1956 : BitVec 32), BitVec 32) → Prog (TpuEff nD τ sig (Elt F) Λ₀ .tc) α}
    (h : ∀ v1956, P5 m K c 11 R ⊢ wpc c (kk ⟨v1956, 32#32⟩) Q) :
    P5 m K c 8 R ⊢ wpc c (Prog.bind (onM (k0_part59 (F := F)) c v2) kk) Q := by
  rw [k0_part59_eq_skeleton]; unfold onM k0_part59_skel
  simp only [Prog.lift, Prog.bind_op, Prog.bind_ret, Prog.pure_eq_ret, semSignalWord, semWaitWord]
  refine go5 m K c 8 (by decide) (by decide) ?_
  refine go5 m K c 9 (by decide) (by decide) ?_
  refine go5 m K c 10 (by decide) (by decide) ?_
  exact h _

theorem part60 {v2 : BitVec 32} {v1956 : BitVec 32} {c32_i32_1353 : BitVec 32} {kk : BitVec 32 → Prog (TpuEff nD τ sig (Elt F) Λ₀ .tc) α}
    (h : ∀ v1988, P5 m K c 14 R ⊢ wpc c (kk v1988) Q) :
    P5 m K c 11 R ⊢ wpc c (Prog.bind (onM (k0_part60 (F := F)) c v2 v1956 c32_i32_1353) kk) Q := by
  rw [k0_part60_eq_skeleton]; unfold onM k0_part60_skel
  simp only [Prog.lift, Prog.bind_op, Prog.bind_ret, Prog.pure_eq_ret, semSignalWord, semWaitWord]
  refine go5 m K c 11 (by decide) (by decide) ?_
  refine go5 m K c 12 (by decide) (by decide) ?_
  refine go5 m K c 13 (by decide) (by decide) ?_
  exact h _

theorem part61 {v2 : BitVec 32} {v1988 : BitVec 32} {kk : PUnit → Prog (TpuEff nD τ sig (Elt F) Λ₀ .tc) α}
    (h : P5 m K c 17 R ⊢ wpc c (kk ⟨⟩) Q) :
    P5 m K c 14 R ⊢ wpc c (Prog.bind (onM (k0_part61 (F := F)) c v2 v1988) kk) Q := by
  rw [k0_part61_eq_skeleton]; unfold onM k0_part61_skel
  simp only [Prog.lift, Prog.bind_op, Prog.bind_ret, Prog.pure_eq_ret, semSignalWord, semWaitWord]
  refine go5 m K c 14 (by decide) (by decide) ?_
  refine go5 m K c 15 (by decide) (by decide) ?_
  refine go5 m K c 16 (by decide) (by decide) ?_
  exact h

theorem part62 {v2 : BitVec 32} {kk : PUnit → Prog (TpuEff nD τ sig (Elt F) Λ₀ .tc) α}
    (h : P5 m K c 20 R ⊢ wpc c (kk ⟨⟩) Q) :
    P5 m K c 17 R ⊢ wpc c (Prog.bind (onM (k0_part62 (F := F)) c v2) kk) Q := by
  rw [k0_part62_eq_skeleton]; unfold onM k0_part62_skel
  simp only [Prog.lift, Prog.bind_op, Prog.bind_ret, Prog.pure_eq_ret, semSignalWord, semWaitWord]
  refine go5 m K c 17 (by decide) (by decide) ?_
  refine go5 m K c 18 (by decide) (by decide) ?_
  refine go5 m K c 19 (by decide) (by decide) ?_
  exact h

theorem part63 {v2 : BitVec 32} {kk : PUnit → Prog (TpuEff nD τ sig (Elt F) Λ₀ .tc) α}
    (h : P5 m K c 23 R ⊢ wpc c (kk ⟨⟩) Q) :
    P5 m K c 20 R ⊢ wpc c (Prog.bind (onM (k0_part63 (F := F)) c v2) kk) Q := by
  rw [k0_part63_eq_skeleton]; unfold onM k0_part63_skel
  simp only [Prog.lift, Prog.bind_op, Prog.bind_ret, Prog.pure_eq_ret, semSignalWord, semWaitWord]
  refine go5 m K c 20 (by decide) (by decide) ?_
  refine go5 m K c 21 (by decide) (by decide) ?_
  refine go5 m K c 22 (by decide) (by decide) ?_
  exact h

theorem part64 {v2 : BitVec 32} {kk : PUnit → Prog (TpuEff nD τ sig (Elt F) Λ₀ .tc) α}
    (h : P5 m K c 26 R ⊢ wpc c (kk ⟨⟩) Q) :
    P5 m K c 23 R ⊢ wpc c (Prog.bind (onM (k0_part64 (F := F)) c v2) kk) Q := by
  rw [k0_part64_eq_skeleton]; unfold onM k0_part64_skel
  simp only [Prog.lift, Prog.bind_op, Prog.bind_ret, Prog.pure_eq_ret, semSignalWord, semWaitWord]
  refine go5 m K c 23 (by decide) (by decide) ?_
  refine go5 m K c 24 (by decide) (by decide) ?_
  refine go5 m K c 25 (by decide) (by decide) ?_
  exact h

theorem part65 {v2 : BitVec 32} {kk : BitVec 32 → Prog (TpuEff nD τ sig (Elt F) Λ₀ .tc) α}
    (h : ∀ v2146, P5 m K c 30 R ⊢ wpc c (kk v2146) Q) :
    P5 m K c 26 R ⊢ wpc c (Prog.bind (onM (k0_part65 (F := F)) c v2) kk) Q := by
  rw [k0_part65_eq_skeleton]; unfold onM k0_part65_skel
  simp only [Prog.lift, Prog.bind_op, Prog.bind_ret, Prog.pure_eq_ret, semSignalWord, semWaitWord]
  refine go5 m K c 26 (by decide) (by decide) ?_
  refine go5 m K c 27 (by decide) (by decide) ?_
  refine go5 m K c 28 (by decide) (by decide) ?_
  refine go5 m K c 29 (by decide) (by decide) ?_
  exact h _

theorem part66 {v2 : BitVec 32} {v2146 : BitVec 32} {kk : PUnit → Prog (TpuEff nD τ sig (Elt F) Λ₀ .tc) α}
    (h : P6 m K c 4 iprop(FAs m c 32 1 ∗ FAr m c 32 ∗ R) ⊢ wpc c (kk ⟨⟩) Q) :
    P5 m K c 30 iprop(FRs c 32 0 ∗ FAs m c 32 1 ∗ R) ⊢ wpc c (Prog.bind (onM (k0_part66 (F := F)) c v2 v2146) kk) Q := by
  rw [k0_part66_eq_skeleton]; unfold onM k0_part66_skel
  simp (config := {zeta := false}) only [Prog.lift, Prog.bind_op, Prog.bind_ret, Prog.pure_eq_ret]
  refine go5 m K c 30 (by decide) (by decide) ?_
  refine go5 m K c 31 (by decide) (by decide) ?_
  refine (turn56 m K c).trans ?_
  extract_lets
  refine P6_wait m K c (b := 0) (cnd := k0_cond33 c) (by decide) (cond_33 c) (sem_x0 _ (⟨0, by decide⟩ : Dev nD) rfl) (cr_a ..) ?_
  refine P6_wait m K c (b := 1) (cnd := k0_cond34 c) (by decide) (cond_34 c) (sem_x0 _ (⟨1, by decide⟩ : Dev nD) rfl) (cr_a ..) ?_
  refine P6_wait m K c (b := 2) (cnd := k0_cond35 c) (by decide) (cond_35 c) (sem_x0 _ (⟨2, by decide⟩ : Dev nD) rfl) (cr_a ..) ?_
  refine P6_wait m K c (b := 3) (cnd := k0_cond36 c) (by decide) (cond_36 c) (sem_x0 _ (⟨3, by decide⟩ : Dev nD) rfl) (cr_a ..) ?_
  exact h

theorem part67 {v2 : BitVec 32} {kk : PUnit → Prog (TpuEff nD τ sig (Elt F) Λ₀ .tc) α}
    (h : P6 m K c 14 R ⊢ wpc c (kk ⟨⟩) Q) :
    P6 m K c 4 R ⊢ wpc c (Prog.bind (onM (k0_part67 (F := F)) c v2) kk) Q := by
  rw [k0_part67_eq_skeleton]; unfold onM k0_part67_skel
  simp (config := {zeta := false}) only [Prog.lift, Prog.bind_op, Prog.bind_ret, Prog.pure_eq_ret]
  extract_lets
  refine P6_wait m K c (b := 4) (cnd := k0_cond37 c) (by decide) (cond_37 c) (sem_x0 _ (⟨4, by decide⟩ : Dev nD) rfl) (cr_a ..) ?_
  refine P6_wait m K c (b := 5) (cnd := k0_cond38 c) (by decide) (cond_38 c) (sem_x0 _ (⟨5, by decide⟩ : Dev nD) rfl) (cr_a ..) ?_
  refine P6_wait m K c (b := 6) (cnd := k0_cond39 c) (by decide) (cond_39 c) (sem_x0 _ (⟨6, by decide⟩ : Dev nD) rfl) (cr_a ..) ?_
  refine P6_wait m K c (b := 7) (cnd := k0_cond40 c) (by decide) (cond_40 c) (sem_x0 _ (⟨7, by decide⟩ : Dev nD) rfl) (cr_a ..) ?_
  refine P6_wait m K c (b := 8) (cnd := k0_cond41 c) (by decide) (cond_41 c) (sem_x0 _ (⟨8, by decide⟩ : Dev nD) rfl) (cr_a ..) ?_
  refine P6_wait m K c (b := 9) (cnd := k0_cond42 c) (by decide) (cond_42 c) (sem_x0 _ (⟨9, by decide⟩ : Dev nD) rfl) (cr_a ..) ?_
  refine P6_wait m K c (b := 10) (cnd := k0_cond43 c) (by decide) (cond_43 c) (sem_x0 _ (⟨10, by decide⟩ : Dev nD) rfl) (cr_a ..) ?_
  refine P6_wait m K c (b := 11) (cnd := k0_cond44 c) (by decide) (cond_44 c) (sem_x0 _ (⟨11, by decide⟩ : Dev nD) rfl) (cr_a ..) ?_
  refine P6_wait m K c (b := 12) (cnd := k0_cond45 c) (by decide) (cond_45 c) (sem_x0 _ (⟨12, by decide⟩ : Dev nD) rfl) (cr_a ..) ?_
  refine P6_wait m K c (b := 13) (cnd := k0_cond46 c) (by decide) (cond_46 c) (sem_x0 _ (⟨13, by decide⟩ : Dev nD) rfl) (cr_a ..) ?_
  exact h

theorem part68 {v2 : BitVec 32} {kk : PUnit → Prog (TpuEff nD τ sig (Elt F) Λ₀ .tc) α}
    (h : P6 m K c 24 R ⊢ wpc c (kk ⟨⟩) Q) :
    P6 m K c 14 R ⊢ wpc c (Prog.bind (onM (k0_part68 (F := F)) c v2) kk) Q := by
  rw [k0_part68_eq_skeleton]; unfold onM k0_part68_skel
  simp (config := {zeta := false}) only [Prog.lift, Prog.bind_op, Prog.bind_ret, Prog.pure_eq_ret]
  extract_lets
  refine P6_wait m K c (b := 14) (cnd := k0_cond47 c) (by decide) (cond_47 c) (sem_x0 _ (⟨14, by decide⟩ : Dev nD) rfl) (cr_a ..) ?_
  refine P6_wait m K c (b := 15) (cnd := k0_cond48 c) (by decide) (cond_48 c) (sem_x0 _ (⟨15, by decide⟩ : Dev nD) rfl) (cr_a ..) ?_
  refine P6_wait m K c (b := 16) (cnd := k0_cond49 c) (by decide) (cond_49 c) (sem_x0 _ (⟨16, by decide⟩ : Dev nD) rfl) (cr_a ..) ?_
  refine P6_wait m K c (b := 17) (cnd := k0_cond50 c) (by decide) (cond_50 c) (sem_x0 _ (⟨17, by decide⟩ : Dev nD) rfl) (cr_a ..) ?_
  refine P6_wait m K c (b := 18) (cnd := k0_cond51 c) (by decide) (cond_51 c) (sem_x0 _ (⟨18, by decide⟩ : Dev nD) rfl) (cr_a ..) ?_
  refine P6_wait m K c (b := 19) (cnd := k0_cond52 c) (by decide) (cond_52 c) (sem_x0 _ (⟨19, by decide⟩ : Dev nD) rfl) (cr_a ..) ?_
  refine P6_wait m K c (b := 20) (cnd := k0_cond53 c) (by decide) (cond_53 c) (sem_x0 _ (⟨20, by decide⟩ : Dev nD) rfl) (cr_a ..) ?_
  refine P6_wait m K c (b := 21) (cnd := k0_cond54 c) (by decide) (cond_54 c) (sem_x0 _ (⟨21, by decide⟩ : Dev nD) rfl) (cr_a ..) ?_
  refine P6_wait m K c (b := 22) (cnd := k0_cond55 c) (by decide) (cond_55 c) (sem_x0 _ (⟨22, by decide⟩ : Dev nD) rfl) (cr_a ..) ?_
  refine P6_wait m K c (b := 23) (cnd := k0_cond56 c) (by decide) (cond_56 c) (sem_x0 _ (⟨23, by decide⟩ : Dev nD) rfl) (cr_a ..) ?_
  exact h

theorem part69 {v2 : BitVec 32} {kk : PUnit → Prog (TpuEff nD τ sig (Elt F) Λ₀ .tc) α}
    (h : P6 m K c 32 R ⊢ wpc c (kk ⟨⟩) Q) :
    P6 m K c 24 R ⊢ wpc c (Prog.bind (onM (k0_part69 (F := F)) c v2) kk) Q := by
  rw [k0_part69_eq_skeleton]; unfold onM k0_part69_skel
  simp (config := {zeta := false}) only [Prog.lift, Prog.bind_op, Prog.bind_ret, Prog.pure_eq_ret]
  extract_lets
  refine P6_wait m K c (b := 24) (cnd := k0_cond57 c) (by decide) (cond_57 c) (sem_x0 _ (⟨24, by decide⟩ : Dev nD) rfl) (cr_a ..) ?_
  refine P6_wait m K c (b := 25) (cnd := k0_cond58 c) (by decide) (cond_58 c) (sem_x0 _ (⟨25, by decide⟩ : Dev nD) rfl) (cr_a ..) ?_
  refine P6_wait m K c (b := 26) (cnd := k0_cond59 c) (by decide) (cond_59 c) (sem_x0 _ (⟨26, by decide⟩ : Dev nD) rfl) (cr_a ..) ?_
  refine P6_wait m K c (b := 27) (cnd := k0_cond60 c) (by decide) (cond_60 c) (sem_x0 _ (⟨27, by decide⟩ : Dev nD) rfl) (cr_a ..) ?_
  refine P6_wait m K c (b := 28) (cnd := k0_cond61 c) (by decide) (cond_61 c) (sem_x0 _ (⟨28, by decide⟩ : Dev nD) rfl) (cr_a ..) ?_
  refine P6_wait m K c (b := 29) (cnd := k0_cond62 c) (by decide) (cond_62 c) (sem_x0 _ (⟨29, by decide⟩ : Dev nD) rfl) (cr_a ..) ?_
  refine P6_wait m K c (b := 30) (cnd := k0_cond63 c) (by decide) (cond_63 c) (sem_x0 _ (⟨30, by decide⟩ : Dev nD) rfl) (cr_a ..) ?_
  refine P6_wait m K c (b := 31) (cnd := k0_cond64 c) (by decide) (cond_64 c) (sem_x0 _ (⟨31, by decide⟩ : Dev nD) rfl) (cr_a ..) ?_
  exact h

theorem part70 {v2 : BitVec 32} {kk : PUnit → Prog (TpuEff nD τ sig (Elt F) Λ₀ .tc) α}
    (h : P7 m K c 5 iprop(At c 0 ∗ R) ⊢ wpc c (kk ⟨⟩) Q) :
    P6 m K c 32 iprop(FAs m c 32 1 ∗ R) ⊢ wpc c (Prog.bind (onM (k0_part70 (F := F)) c v2) kk) Q := by
  rw [k0_part70_eq_skeleton]; unfold onM k0_part70_skel
  simp only [Prog.lift, Prog.bind_op, Prog.bind_ret, Prog.pure_eq_ret, semSignalWord, semWaitWord]
  refine (turn67 m K c).trans ?_
  refine go7 m K c 1 (by decide) (by decide) ?_
  refine go7 m K c 2 (by decide) (by decide) ?_
  refine go7 m K c 3 (by decide) (by decide) ?_
  refine go7 m K c 4 (by decide) (by decide) ?_
  exact h

theorem part71 {v2 : BitVec 32} {kk : PUnit → Prog (TpuEff nD τ sig (Elt F) Λ₀ .tc) α}
    (h : P7 m K c 9 R ⊢ wpc c (kk ⟨⟩) Q) :
    P7 m K c 5 R ⊢ wpc c (Prog.bind (onM (k0_part71 (F := F)) c v2) kk) Q := by
  rw [k0_part71_eq_skeleton]; unfold onM k0_part71_skel
  simp only [Prog.lift, Prog.bind_op, Prog.bind_ret, Prog.pure_eq_ret, semSignalWord, semWaitWord]
  refine go7 m K c 5 (by decide) (by decide) ?_
  refine go7 m K c 6 (by decide) (by decide) ?_
  refine go7 m K c 7 (by decide) (by decide) ?_
  refine go7 m K c 8 (by decide) (by decide) ?_
  exact h

theorem part72 {v2 : BitVec 32} {kk : PUnit → Prog (TpuEff nD τ sig (Elt F) Λ₀ .tc) α}
    (h : P7 m K c 13 R ⊢ wpc c (kk ⟨⟩) Q) :
    P7 m K c 9 R ⊢ wpc c (Prog.bind (onM (k0_part72 (F := F)) c v2) kk) Q := by
  rw [k0_part72_eq_skeleton]; unfold onM k0_part72_skel
  simp only [Prog.lift, Prog.bind_op, Prog.bind_ret, Prog.pure_eq_ret, semSignalWord, semWaitWord]
  refine go7 m K c 9 (by decide) (by decide) ?_
  refine go7 m K c 10 (by decide) (by decide) ?_
  refine go7 m K c 11 (by decide) (by decide) ?_
  refine go7 m K c 12 (by decide) (by decide) ?_
  exact h

theorem part73 {v2 : BitVec 32} {kk : PUnit → Prog (TpuEff nD τ sig (Elt F) Λ₀ .tc) α}
    (h : P7 m K c 16 R ⊢ wpc c (kk ⟨⟩) Q) :
    P7 m K c 13 R ⊢ wpc c (Prog.bind (onM (k0_part73 (F := F)) c v2) kk) Q := by
  rw [k0_part73_eq_skeleton]; unfold onM k0_part73_skel
  simp only [Prog.lift, Prog.bind_op, Prog.bind_ret, Prog.pure_eq_ret, semSignalWord, semWaitWord]
  refine go7 m K c 13 (by decide) (by decide) ?_
  refine go7 m K c 14 (by decide) (by decide) ?_
  refine go7 m K c 15 (by decide) (by decide) ?_
  exact h

theorem part74 {v2 : BitVec 32} {kk : PUnit → Prog (TpuEff nD τ sig (Elt F) Λ₀ .tc) α}
    (h : P7 m K c 20 R ⊢ wpc c (kk ⟨⟩) Q) :
    P7 m K c 16 R ⊢ wpc c (Prog.bind (onM (k0_part74 (F := F)) c v2) kk) Q := by
  rw [k0_part74_eq_skeleton]; unfold onM k0_part74_skel
  simp only [Prog.lift, Prog.bind_op, Prog.bind_ret, Prog.pure_eq_ret, semSignalWord, semWaitWord]
  refine go7 m K c 16 (by decide) (by decide) ?_
  refine go7 m K c 17 (by decide) (by decide) ?_
  refine go7 m K c 18 (by decide) (by decide) ?_
  refine go7 m K c 19 (by decide) (by decide) ?_
  exact h

theorem part75 {v2 : BitVec 32} {kk : PUnit → Prog (TpuEff nD τ sig (Elt F) Λ₀ .tc) α}
    (h : P7 m K c 24 R ⊢ wpc c (kk ⟨⟩) Q) :
    P7 m K c 20 R ⊢ wpc c (Prog.bind (onM (k0_part75 (F := F)) c v2) kk) Q := by
  rw [k0_part75_eq_skeleton]; unfold onM k0_part75_skel
  simp only [Prog.lift, Prog.bind_op, Prog.bind_ret, Prog.pure_eq_ret, semSignalWord, semWaitWord]
  refine go7 m K c 20 (by decide) (by decide) ?_
  refine go7 m K c 21 (by decide) (by decide) ?_
  refine go7 m K c 22 (by decide) (by decide) ?_
  refine go7 m K c 23 (by decide) (by decide) ?_
  exact h

theorem part76 {v2 : BitVec 32} {kk : PUnit → Prog (TpuEff nD τ sig (Elt F) Λ₀ .tc) α}
    (h : P7 m K c 28 R ⊢ wpc c (kk ⟨⟩) Q) :
    P7 m K c 24 R ⊢ wpc c (Prog.bind (onM (k0_part76 (F := F)) c v2) kk) Q := by
  rw [k0_part76_eq_skeleton]; unfold onM k0_part76_skel
  simp only [Prog.lift, Prog.bind_op, Prog.bind_ret, Prog.pure_eq_ret, semSignalWord, semWaitWord]
  refine go7 m K c 24 (by decide) (by decide) ?_
  refine go7 m K c 25 (by decide) (by decide) ?_
  refine go7 m K c 26 (by decide) (by decide) ?_
  refine go7 m K c 27 (by decide) (by decide) ?_
  exact h

theorem part77 {v2 : BitVec 32} {kk : PUnit → Prog (TpuEff nD τ sig (Elt F) Λ₀ .tc) α}
    (h : P7 m K c 31 R ⊢ wpc c (kk ⟨⟩) Q) :
    P7 m K c 28 R ⊢ wpc c (Prog.bind (onM (k0_part77 (F := F)) c v2) kk) Q := by
  rw [k0_part77_eq_skeleton]; unfold onM k0_part77_skel
  simp only [Prog.lift, Prog.bind_op, Prog.bind_ret, Prog.pure_eq_ret, semSignalWord, semWaitWord]
  refine go7 m K c 28 (by decide) (by decide) ?_
  refine go7 m K c 29 (by decide) (by decide) ?_
  refine go7 m K c 30 (by decide) (by decide) ?_
  exact h

end

end Cert.Ring

end
-- ==== Proof.Body.lean ====
/-
# The body

The printed parts one after the other.
-/
module

public import proofs.«01_k».proof.Proof.WalkStart
public import proofs.«01_k».proof.Proof.WalkTiles
public import proofs.«01_k».proof.Proof.WalkSum
public import proofs.«01_k».proof.Proof.WalkEnd

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The scatter's end: what a device holds besides. -/
abbrev Mid : sProp 𝕄 := iprop(agsPay m c c ∗ gAll m c ∗ At c 1 ∗ Tail m c)

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78

/-- The first part of a nested program. -/
theorem bindA {S : sProp 𝕄} {α β γ : Type} {p : Prog (TpuEff nD τ sig (Elt F) Λ₀ .tc) γ} {f : γ → Prog (TpuEff nD τ sig (Elt F) Λ₀ .tc) β}
    {g : β → Prog (TpuEff nD τ sig (Elt F) Λ₀ .tc) α} {Q : α → sProp 𝕄} (h : S ⊢ wpc c (Prog.bind p fun r => Prog.bind (f r) g) Q) :
    S ⊢ wpc c (Prog.bind (p >>= f) g) Q := by
  show S ⊢ wpc c (Prog.bind (Prog.bind p f) g) Q
  have e : Prog.bind (Prog.bind p f) g = Prog.bind p fun r => Prog.bind (f r) g := Prog.bind_assoc p f g
  rw [e]; exact h

/-- The first part of a program. -/
theorem bindM {S : sProp 𝕄} {α β : Type} {p : Prog (TpuEff nD τ sig (Elt F) Λ₀ .tc) β} {f : β → Prog (TpuEff nD τ sig (Elt F) Λ₀ .tc) α}
    {Q : α → sProp 𝕄} (h : S ⊢ wpc c (Prog.bind p f) Q) : S ⊢ wpc c (p >>= f) Q := h

set_option maxHeartbeats 4000000 in
/-- The body up to the waits on the sums. -/
theorem walk78 {α : Type} {Q : α → sProp 𝕄} {g : (Σ' (d0 : Dev nD) (v2 : BitVec 32), BitVec 32) → Prog (TpuEff nD τ sig (Elt F) Λ₀ .tc) α}
    (h : ∀ v, P5 m K c 14 iprop(FRs c 32 0 ∗ FAs m c 32 1 ∗ Mid m c) ⊢ wpc c (g ⟨c, devW c, v⟩) Q) :
    P1 m K c 0 1 iprop(BarPre m c ∗ slotAny c c ∗ Late m c) ⊢ wpc c (Prog.bind (onM (k0_part78 (F := F))) g) Q := by
  rw [k0_part78_eq_skeleton]; unfold onM k0_part78_skel
  refine bindA c (part1 m K c ?_)
  refine bindA c (part2 m K c ?_)
  refine bindA c (part3 m K c ?_)
  refine bindA c (part4 m K c ?_)
  refine bindA c (part5 m K c fun _ => ?_)
  refine bindA c (part6 m K c fun _ => ?_)
  refine bindA c (part7 m K c fun _ => ?_)
  refine bindA c (part8 m K c fun _ => ?_)
  refine bindA c (part9 m K c fun _ => ?_)
  refine bindA c (part10 m K c ?_)
  refine bindA c (part11 m K c ?_)
  refine bindA c (part12 m K c ?_)
  refine bindA c (part13 m K c fun _ => ?_)
  refine bindA c (part14 m K c rfl ?_)
  refine bindA c (part15 m K c ?_)
  refine bindA c (part16 m K c ?_)
  refine bindA c (part17 m K c rfl ?_)
  refine bindA c (part18 m K c ?_)
  refine bindA c (part19 m K c ?_)
  refine bindA c (part20 m K c rfl ?_)
  refine bindA c (part21 m K c ?_)
  refine bindA c (part22 m K c ?_)
  refine bindA c (part23 m K c rfl ?_)
  refine bindA c (part24 m K c ?_)
  refine bindA c (part25 m K c ?_)
  refine bindA c (part26 m K c rfl ?_)
  refine bindA c (part27 m K c ?_)
  refine bindA c (part28 m K c ?_)
  refine bindA c (part29 m K c rfl ?_)
  refine bindA c (part30 m K c ?_)
  refine bindA c (part31 m K c ?_)
  refine bindA c (part32 m K c rfl ?_)
  refine bindA c (part33 m K c ?_)
  refine bindA c (part34 m K c ?_)
  refine bindA c (part35 m K c rfl ?_)
  refine BIBase.Entails.trans (turn23 m K c) ?_
  refine bindA c (part36 m K c ?_)
  refine bindA c (part37 m K c ?_)
  refine bindA c (part38 m K c fun _ => ?_)
  refine bindA c (part39 m K c fun _ => ?_)
  refine bindA c (part40 m K c ?_)
  refine bindA c (part41 m K c ?_)
  refine bindA c (part42 m K c ?_)
  refine bindA c (part43 m K c ?_)
  refine bindA c (part44 m K c ?_)
  refine bindA c (part45 m K c fun _ => ?_)
  refine BIBase.Entails.trans (turnR4 m K c) ?_
  refine bindA c (part46 m K c ?_)
  refine bindA c (part47 m K c ?_)
  refine bindA c (part48 m K c ?_)
  refine bindA c (part49 m K c ?_)
  refine bindA c (part50 m K c ?_)
  refine bindA c (part51 m K c fun _ => ?_)
  refine bindA c (part52 m K c fun _ => ?_)
  refine bindA c (part53 m K c ?_)
  refine bindA c (part54 m K c ?_)
  refine bindA c (part55 m K c ?_)
  refine bindA c (part56 m K c ?_)
  refine BIBase.Entails.trans (turn45 m K c) ?_
  refine bindA c (part57 m K c ?_)
  refine bindA c (part58 m K c ?_)
  refine bindA c (part59 m K c fun _ => ?_)
  refine bindA c (part60 m K c fun _ => ?_)
  exact h _

set_option maxHeartbeats 4000000 in
/-- The body. -/
theorem walk {Q : PUnit → sProp 𝕄} (h : P9 m K c ⊢ |={Set.univ}=> Q ⟨⟩) :
    P1 m K c 0 1 iprop(BarPre m c ∗ slotAny c c ∗ Late m c) ⊢ wpc c (onM (cc0_body (F := F))) Q := by
  rw [cc0_body_eq_skeleton]; unfold onM cc0_body_skel
  refine bindM c (walk78 m K c fun _ => ?_)
  refine bindM c (part61 m K c ?_)
  refine bindM c (part62 m K c ?_)
  refine bindM c (part63 m K c ?_)
  refine bindM c (part64 m K c ?_)
  refine bindM c (part65 m K c fun _ => ?_)
  refine bindM c (part66 m K c ?_)
  refine bindM c (part67 m K c ?_)
  refine bindM c (part68 m K c ?_)
  refine bindM c (part69 m K c ?_)
  refine bindM c (part70 m K c ?_)
  refine bindM c (part71 m K c ?_)
  refine bindM c (part72 m K c ?_)
  refine bindM c (part73 m K c ?_)
  refine bindM c (part74 m K c ?_)
  refine bindM c (part75 m K c ?_)
  refine bindM c (part76 m K c ?_)
  refine bindM c (part77 m K c ?_)
  simp only [Prog.lift, Prog.bind_op, Prog.bind_ret, Prog.pure_eq_ret]
  refine go7 m K c 31 (by decide) (by decide) ?_
  refine BIBase.Entails.trans (turn78 m K c) ?_
  refine P8_out m K c (o := ![0, 0, 0]) (o' := ![0, 0, 0]) (funext fun a => by fin_cases a <;> rfl) (funext fun a => by fin_cases a <;> rfl) ?_
  rw [wpc, wp_ret]; exact h

end Cert.Ring

end
-- ==== Proof.Run.lean ====
/-
# The run

The region of every device, and what the run of all of them ends with.
-/
module

public import proofs.«01_k».proof.Proof.Entry
public import proofs.«01_k».proof.Proof.Body
public import Idealize.ShloMosaic.Lib.Pipeline.CollectiveSegs
public import Idealize.ShloMosaic.Lib.Quiescent

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (c : Dev nD)

variable (ρ : Dev nD → PrngReg)

/-! ## The region's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => wV m c
    | ⟨2, _⟩ => pV m c
    | ⟨3, _⟩ => outV m
  Φ t := match t with
    | ⟨0, _⟩ => iprop(start m c ∗ scr c)
    | ⟨_ + 1, _⟩ => fin m c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A staging buffer at given contents. -/
def stg (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_eq (b : Ref sig .tc) (X : b.ty.Contents (Elt F)) : stg c b X ⊢ (((c : Thread nD τ).loc b) ↦{fullShare} X) := by
  unfold stg; iintro ⟨%f, %h, H⟩; subst h; iexact H
theorem eq_stg (b : Ref sig .tc) (X : b.ty.Contents (Elt F)) : (((c : Thread nD τ).loc b) ↦{fullShare} X) ⊢ stg c b X := by
  unfold stg; iintro H; iexists X; isplitr; · ipureintro; rfl
  iexact H

def bodyPre : sProp 𝕄 :=
  iprop((start m c ∗ scr c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost : sProp 𝕄 :=
  iprop(fin m c ∗ (dats m ρ 0 c).owesAt () t0_0.succ ∗ stg c cc0_stg0_0 (xV m c) ∗ stg c cc0_stg1_0 (wV m c) ∗ stg c cc0_stg2_0 (pV m c) ∗ stg c cc0_stg3_0 (outV m))

theorem before_0 (d) : (dats m ρ 0 c).before (0 : Fin 4) t0_0 d = xV m c := by unfold Dat.before; rw [if_pos (fetch_0 t0_0)]; rfl
theorem before_1 (d) : (dats m ρ 0 c).before (1 : Fin 4) t0_0 d = wV m c := by unfold Dat.before; rw [if_pos (fetch_1 t0_0)]; rfl
theorem before_2 (d) : (dats m ρ 0 c).before (2 : Fin 4) t0_0 d = pV m c := by unfold Dat.before; rw [if_pos (fetch_2 t0_0)]; rfl

theorem owes_in : (dats m ρ 0 c).owesAt () t0_0.castSucc ⊢ Ow c 1 0 1 := by
  unfold Dat.owesAt Pipeline.owesWithin Ow
  rw [show (dats m ρ 0 c).owed t0_0.castSucc = O c 1 0 1 from rfl]
  iintro ⟨%W, %hW, H⟩
  iexists W; iexact H
theorem owes_out : Ow c 32 32 32 ⊢ (dats m ρ 0 c).owesAt () t0_0.succ := by
  unfold Dat.owesAt Pipeline.owesWithin Ow
  rw [show (dats m ρ 0 c).owed t0_0.succ = 0 from rfl, O_done]
  iintro ⟨%W, H⟩
  iexists W
  isplitr; · ipureintro; exact fun _ _ => Or.inl trivial
  iexact H

theorem pre_enter : bodyPre m c ρ ⊢ iprop(∃ K, P1 m K c 0 1 iprop(BarPre m c ∗ slotAny c c ∗ Late m c)) := by
  refine BIBase.Entails.trans ?_ (enter m c)
  have h0 := owes_in m c ρ
  have e0 : (iprop(∃ d, stg c cc0_stg0_0 ((dats m ρ 0 c).before (0 : Fin 4) t0_0 d)) : sProp 𝕄) ⊢ (xL c ↦{fullShare} xV m c) := by
    iintro ⟨%d, H⟩; rw [before_0]; iapply (stg_eq c); iexact H
  have e1 : (iprop(∃ d, stg c cc0_stg1_0 ((dats m ρ 0 c).before (1 : Fin 4) t0_0 d)) : sProp 𝕄) ⊢ (wL c ↦{fullShare} wV m c) := by
    iintro ⟨%d, H⟩; rw [before_1]; iapply (stg_eq c); iexact H
  have e2 : (iprop(∃ d, stg c cc0_stg2_0 ((dats m ρ 0 c).before (2 : Fin 4) t0_0 d)) : sProp 𝕄) ⊢ (pL c ↦{fullShare} pV m c) := by
    iintro ⟨%d, H⟩; rw [before_2]; iapply (stg_eq c); iexact H
  have e3 : (iprop(∃ d, stg c cc0_stg3_0 ((dats m ρ 0 c).before (3 : Fin 4) t0_0 d)) : sProp 𝕄) ⊢ iprop(∃ f, oL c ↦{fullShare} f) := by
    iintro ⟨%d, H⟩; unfold stg; icases H with ⟨%f, -, H⟩; iexists f; iexact H
  unfold bodyPre Stg
  iintro ⟨⟨H1, H2⟩, HO, Hx, Hw, Hp, Ho⟩
  isplitl [H1]; · iexact H1
  isplitl [H2]; · iexact H2
  isplitl [HO]; · iapply h0; iexact HO
  isplitl [Hx Hw Hp]
  · isplitl [Hx]; · iapply e0; iexact Hx
    isplitl [Hw]; · iapply e1; iexact Hw
    iapply e2; iexact Hp
  iapply e3; iexact Ho

theorem leave_post : P9 m K c ⊢ |={Set.univ}=> bodyPost m c ρ := by
  refine (leave m K c).trans (BI.fupd_mono ?_)
  have h0 := owes_out m c ρ
  unfold bodyPost Stg
  iintro ⟨H1, HO, ⟨Hx, Hw, Hp⟩, Ho⟩
  isplitl [H1]; · iexact H1
  isplitl [HO]; · iapply h0; iexact HO
  isplitl [Hx]; · iapply (eq_stg c); iexact Hx
  isplitl [Hw]; · iapply (eq_stg c); iexact Hw
  isplitl [Hp]; · iapply (eq_stg c); iexact Hp
  iapply (eq_stg c); iexact Ho

theorem sound_body : bodyPre m c ρ ⊢ wpc c (onM (cc0_body (F := F))) (fun _ => bodyPost m c ρ) := by
  refine (pre_enter m c ρ).trans ?_
  iintro ⟨%K, H⟩
  iapply (walk m K c (leave_post m K c ρ))
  iexact H

set_option maxRecDepth 4000 in
/-- The library's body obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  exact sound_body m c ρ

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  have h := creds (F := F) c
  unfold start
  iintro ⟨⟨Hk, Hv⟩, Hlev, Hcr, -, HG⟩
  ihave Hc := h $$ Hcr
  imodintro
  isplitl
  · isplitl [HG]; · iexact HG
    isplitl [Hc]; · iexact Hc
    isplitl [Hlev]; · iexact Hlev
    isplitl [Hk]; · iexact Hk
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scopedRest0_eq]
  unfold scr
  iintro ⟨Hs, -, Hr⟩
  isplitl [Hs]; · iexact Hs
  iexact Hr

/-- What is left of a device after the region: its barrier at zero and the operands the region does not stage. -/
def left (c : Dev nD) : sProp 𝕄 := iprop(unscopedSems0 c ∗ (k0L c ↦{fullShare} m (k0L c)) ∗ (v0L c ↦{fullShare} m (v0L c)))

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = fin m c from rfl, scopedRest0_eq]
  have h := Entails.of_eq (sems0_eq (F := F) c).symm
  unfold fin scr left
  iintro ⟨Hr, Hz, Hk, Hv⟩
  ihave Hz := h $$ Hz
  icases Hz with ⟨Hz, HB⟩
  isplitl [HB Hk Hv]
  · isplitl [HB]; · iexact HB
    isplitl [Hk] <;> iassumption
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    have hz : lvOf (decode (.dma ((cfg0.win w).sem s))) = 0 := by fin_cases w <;> fin_cases s <;> rfl
    rcases t with ⟨_ | _, ht⟩
    · exact mayWait c _ 1 0 1 (fun _ => by rw [hz]; decide) (fun _ => by rw [hz]; decide) (fun _ => by rw [hz]; decide)
    · show _ ⊢ MayWait _ _ () 0
      rw [← O_done c]
      exact mayWait c _ 32 32 32 (fun h => absurd h (Nat.lt_irrefl _)) (fun h => absurd h (Nat.lt_irrefl _)) (fun h => absurd h (Nat.lt_irrefl _))

theorem left_read (c : Dev nD) (s' : Phys nD τ sig (Elt F)) : iprop(left m c ∗ iprop(emp) ∗ SI s')
    ⊢ |={Set.univ}=> iprop(⌜(∀ sm : SemLoc sig, sm.isScoped .tc = false → s'.mem.sem ((c.tc : Thread nD τ), sm) = 0)
        ∧ s'.mem.mem (k0L c) = m (k0L c) ∧ s'.mem.mem (v0L c) = m (v0L c)⌝ ∗ SI s') := by
  have h (ℓ : Loc nD τ sig) : iprop((ℓ ↦{fullShare} m ℓ) ∗ SI s') ⊢ (iprop(⌜s'.mem.mem ℓ = m ℓ⌝ ∗ SI s') : sProp 𝕄) := by
    iintro ⟨H, HSI⟩
    icombine HSI H gives %h
    isplitr; · ipureintro; exact Buf.eq_of_forall_mem_univ h
    iexact HSI
  unfold left
  iintro ⟨⟨Hu, Hk, Hv⟩, -, HSI⟩
  ihave H := (h (k0L c)) $$ [Hk HSI]
  · isplitl [Hk] <;> iassumption
  icases H with ⟨%h1, HSI⟩
  ihave H := (h (v0L c)) $$ [Hv HSI]
  · isplitl [Hv] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨h3, h1, h2⟩
  iexact HSI

/-! ## The run -/

def finalA (c : Dev nD) (w : Fin cfg0.W) : Buf (Elt F) ((cfg0.win w).arr.view.loc (c : Thread nD τ)) := (dats m ρ 0 c).arrAt w cfg0.N

/-- What the run ends with on every device: the staged arrays at their contents, the other two operands as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem (k0L c) = m (k0L c) ∧ r.2.mem (v0L c) = m (v0L c)

set_option maxRecDepth 8000 in
/-- On thirty-two devices, for any float values, from any memory with zero counters: every weakly fair execution of
    @main terminates, and every final state has each device's result at the computed contents, its operands unchanged
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m c ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem (k0L c) = m (k0L c) ∧ s.mem (v0L c) = m (v0L c))
    (hY := left_read m)
    (hQ := fun _ h hs => ⟨fun c => ⟨fun w => (h c).1 w, (h c).2.2.2⟩, Idealize.ShloMosaic.sem_eq_zero hs fun c => (h c).2.2.1⟩)

theorem finalA_x (c : Dev nD) : finalA m ρ c (0 : Fin 4) = m ((c : Thread nD τ).loc main_arg0) := (dats (F := F) m ρ 0 c).arrAt_in (0 : Fin 4) rfl _
theorem finalA_wq (c : Dev nD) : finalA m ρ c (1 : Fin 4) = m ((c : Thread nD τ).loc main_arg1) := (dats (F := F) m ρ 0 c).arrAt_in (1 : Fin 4) rfl _
theorem finalA_wo (c : Dev nD) : finalA m ρ c (2 : Fin 4) = m ((c : Thread nD τ).loc main_arg4) := (dats (F := F) m ρ 0 c).arrAt_in (2 : Fin 4) rfl _

/-- No operand of any device changes. -/
theorem unchanged {r : PUnit × MemSt nD τ sig (Elt F)} (h : QC m ρ r) (c : Dev nD) :
    r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) :=
  ⟨((h c).1 0).trans (finalA_x m ρ c), ((h c).1 1).trans (finalA_wq m ρ c), (h c).2.1, (h c).2.2, ((h c).1 2).trans (finalA_wo m ρ c)⟩

end Cert.Ring

end
-- ==== Proof.Same.lean ====
/-
  The kernel as printed and the kernel as read at the extended reals are one text: the ideal pass rewrote nothing. Here the
  two body tables are shown equal, so a run of the one is a run of the other at any float values.
-/
module

public import proofs.«01_k».proof.Proof.Gen.Kernel
public import proofs.«01_k».proof.Proof.Gen.KernelIdeal

@[expose] public section

set_option maxRecDepth 10000

noncomputable section

namespace Cert.Ring

open Idealize.ShloMosaic Idealize.SL.Sem

variable {F : FTy → Type} [FloatOps F]

theorem cc0_body_same : Cert.Kernel.cc0_body (F := F) = Cert.KernelIdeal.cc0_body := rfl

attribute [local irreducible] Cert.Kernel.cc0_body Cert.KernelIdeal.cc0_body in
theorem defs₀_same : Cert.Kernel.defs₀ (F := F) = Cert.KernelIdeal.defs₀ := by
  unfold Cert.Kernel.defs₀ Cert.KernelIdeal.defs₀
  refine congrArg Defs.onTc ?_
  funext l
  fin_cases l
  funext a
  obtain ⟨t, s⟩ := a
  show Cert.Kernel.cc0_body .. = Cert.KernelIdeal.cc0_body ..
  rw [cc0_body_same]

theorem defs_same : Cert.Kernel.defs (F := F) = Cert.KernelIdeal.defs :=
  congrArg (Pipeline.defs Cert.KernelIdeal.pcfgs) defs₀_same

end Cert.Ring

end
-- ==== Proof.Math.lean ====
/-
  The function both programs compute, written once on extended reals: one row of attention over a list of keys, and one element
  of one head's output as such a row over the keys of the query's own block.
-/
module

public import Idealize.ShloMosaic.Lib.Pointwise

@[expose] public section

noncomputable section

namespace Cert.Ring

open Idealize.ShloMosaic

/-- The scale of the scores, as the programs spell it. -/
abbrev scl : EReal := Ideal.ofBits .f32 1040187392#32
/-- Where a maximum starts, as the programs spell it. -/
abbrev low : EReal := Ideal.ofBits .f32 4286578688#32

/-- The softmax of the scores `s`, weighing the values `v`. -/
def rowAttn {n : ℕ} (s v : Fin n → EReal) : EReal :=
  ∑ x, Ideal.div (Ideal.exp (s x - Finset.fold max low s Finset.univ)) (∑ y, Ideal.exp (s y - Finset.fold max low s Finset.univ)) * v x

variable (X : FVec Ideal ⟨3, ![2, 256, 512]⟩ .f32) (W : FVec Ideal ⟨2, ![512, 8192]⟩ .f32) (K V : FVec Ideal ⟨4, ![2, 256, 64, 128]⟩ .f32)
  (O : FVec Ideal ⟨2, ![8192, 512]⟩ .f32)

/-- Key `j` of the block of query `i`. -/
def keyOf (i : Fin 256) (j : Fin 64) : Fin 256 := ⟨64 * (i.val / 64) + j.val, by omega⟩
/-- Column `d` of head `h`. -/
def colOf (h : Fin 128) (d : Fin 64) : Fin 8192 := ⟨64 * h.val + d.val, by omega⟩

/-- The scaled score of query `i` against key `j` at head `h`. -/
def score (b : Fin 2) (h : Fin 128) (i j : Fin 256) : EReal :=
  (∑ d : Fin 64, (∑ l : Fin 512, X (ix3 b i l) * W (ix2 l (colOf h d))) * K (ix4 b j d h)) * scl

/-- Element `d` of head `h`'s output at query `i`: the softmax over the query's own block of 64 keys. -/
def ctx (b : Fin 2) (i : Fin 256) (h : Fin 128) (d : Fin 64) : EReal :=
  rowAttn (fun j : Fin 64 => score X W K b h i (keyOf i j)) (fun j => V (ix4 b (keyOf i j) d h))

/-- One element of the result: every head's output against its rows of the output projection. -/
def result (b : Fin 2) (i : Fin 256) (o : Fin 512) : EReal :=
  ∑ n : Fin 8192, ctx X W K V b i ⟨n.val / 64, by omega⟩ ⟨n.val % 64, by omega⟩ * O (ix2 n o)

end Cert.Ring

end
-- ==== Proof.KValue.lean ====
/-
  What the kernel computes, index by index, at the extended reals: its tiles as sums and quotients of the operands' elements, and
  the accumulator's final contents as the sum over all devices.
-/
module

public import proofs.«01_k».proof.Proof.Proto
public import proofs.«01_k».proof.Proof.Math
public import Idealize.ShloMosaic.Lib.Pipeline.ValueKit

@[expose] public section

set_option maxRecDepth 16384

noncomputable section

namespace Cert.Ring

open Cert.KernelIdeal Cert.KernelIdeal.Gen Idealize.ShloMosaic Idealize.ShloMosaic.TcCoe

/-! ## The payloads at an index -/

/-- One head of one block. -/
theorem attn_apply (q k v : FVec Ideal S64x64 .f32) (i d : Fin 64) :
    attn q k v (ix2 i d) = rowAttn (fun j : Fin 64 => (∑ e : Fin 64, q (ix2 i e) * k (ix2 j e)) * scl) (fun j => v (ix2 j d)) := by
  pointwise [attn, normRow, expRow, scores]
  rfl

theorem head_apply (s : FVec Ideal S128x4 .f32) (x : Vec Ideal S1x64x64x128 .f32) (h : Fin 4) (j d : Fin 64) :
    headOf h (k0_pay9 s x) (ix2 j d) = ∑ c : Fin 128, s (ix2 c h) * x (ix4 (0 : Fin 1) j d c) := by
  pointwise [headOf, k0_pay9]

theorem devW_eq : ∀ c : Dev nD, devW c = BitVec.ofNat 32 c.val := by decide +kernel

theorem sel_word : ∀ (p : Fin 32) (c : Fin 128) (h : Fin 4),
    BitVec.setWidth 32 (IntOp.cmpi CmpIPredicate.eq (BitVec.ofNat 32 c.val) (IntOp.addi (Scalar.muli (BitVec.ofNat 32 p.val) 4#32) (BitVec.ofNat 32 h.val)))
      = if c.val = 4 * p.val + h.val then 1#32 else 0#32 := by decide +kernel

theorem sel_apply (p : Dev nD) (c : Fin 128) (h : Fin 4) :
    sel (F := Ideal) p (ix2 c h) = if c.val = 4 * p.val + h.val then 1 else 0 := by
  unfold sel
  rw [devW_eq]
  pointwise [k0_pay8]
  rw [sel_word p c h]
  show (((if c.val = 4 * p.val + h.val then 1#32 else 0#32 : BitVec 32).toInt : ℝ) : EReal) = _
  split <;> simp

/-- The one-hot columns pick the device's own heads. -/
theorem sel_head (p : Dev nD) (x : Vec Ideal S1x64x64x128 .f32) (h : Fin 4) (j d : Fin 64) :
    headOf h (k0_pay9 (sel p) x) (ix2 j d) = x (ix4 (0 : Fin 1) j d (⟨4 * p.val + h.val, by have : p.val < 32 := p.isLt; omega⟩ : Fin 128)) := by
  rw [head_apply, Finset.sum_eq_single (⟨4 * p.val + h.val, by have : p.val < 32 := p.isLt; omega⟩ : Fin 128)]
  · rw [sel_apply, if_pos rfl, one_mul]
  · intro c _ hc
    rw [sel_apply, if_neg (fun e => hc (Fin.ext e)), zero_mul]
  · exact fun h' => absurd (Finset.mem_univ _) h'

theorem q_apply (t : Fin 8) (x : Vec Ideal S2x256x512 .f32) (w : Vec Ideal S512x64 .f32) (j d : Fin 64) :
    qBlock t (k0_pay5 (k0_pay3 x) w) (ix2 j d)
      = ∑ l : Fin 512, x (ix3 (⟨(64 * t.val + j.val) / 256, by omega⟩ : Fin 2) (⟨(64 * t.val + j.val) % 256, by omega⟩ : Fin 256) l) * w (ix2 l d) := by
  pointwise [qBlock, k0_pay5, k0_pay3]

/-- The four heads side by side. -/
theorem tile_apply (t : Fin 8) (q : Fin 4 → FVec Ideal S512x64 .f32) (kt vt : FVec Ideal S4x64x64 .f32) (wo : Vec Ideal S256x512 .f32) (a : Fin 4) (r : Fin 16) (o : Fin 512) :
    tile t (q 0) (q 1) (q 2) (q 3) kt vt wo (ix3 a r o)
      = ∑ x : Fin 256, headOut t ⟨x.val / 64, by omega⟩ (q ⟨x.val / 64, by omega⟩) kt vt (ix2 (⟨a.val * 16 + r.val, by omega⟩ : Fin 64) (⟨x.val % 64, by omega⟩ : Fin 64)) * wo (ix2 x o) := by
  have key : ∀ x : Fin 256, (if h : x.val < 64 then headOut t 0 (q 0) kt vt (ix2 (⟨a.val * 16 + r.val, by omega⟩ : Fin 64) (⟨x.val, h⟩ : Fin 64))
        else if h : x.val - 64 < 64 then headOut t 1 (q 1) kt vt (ix2 (⟨a.val * 16 + r.val, by omega⟩ : Fin 64) (⟨x.val - 64, h⟩ : Fin 64))
        else if h : x.val - 64 - 64 < 64 then headOut t 2 (q 2) kt vt (ix2 (⟨a.val * 16 + r.val, by omega⟩ : Fin 64) (⟨x.val - 64 - 64, h⟩ : Fin 64))
        else headOut t 3 (q 3) kt vt (ix2 (⟨a.val * 16 + r.val, by omega⟩ : Fin 64) (⟨x.val - 64 - 64 - 64, by omega⟩ : Fin 64)))
      = headOut t ⟨x.val / 64, by omega⟩ (q ⟨x.val / 64, by omega⟩) kt vt (ix2 (⟨a.val * 16 + r.val, by omega⟩ : Fin 64) (⟨x.val % 64, by omega⟩ : Fin 64)) := by
    intro x
    have aux : ∀ (g : Fin 4) (y : Fin 64), g.val = x.val / 64 → y.val = x.val % 64 →
        headOut t g (q g) kt vt (ix2 (⟨a.val * 16 + r.val, by omega⟩ : Fin 64) y)
          = headOut t ⟨x.val / 64, by omega⟩ (q ⟨x.val / 64, by omega⟩) kt vt (ix2 (⟨a.val * 16 + r.val, by omega⟩ : Fin 64) (⟨x.val % 64, by omega⟩ : Fin 64)) := by
      intro g y hg hy
      have eg : (⟨x.val / 64, by omega⟩ : Fin 4) = g := Fin.ext hg.symm
      have ey : (⟨x.val % 64, by omega⟩ : Fin 64) = y := Fin.ext hy.symm
      rw [eg, ey]
    split
    · exact aux 0 _ (by show 0 = _; omega) (by show x.val = _; omega)
    · split
      · exact aux 1 _ (by show 1 = _; omega) (by show x.val - 64 = _; omega)
      · split
        · exact aux 2 _ (by show 2 = _; omega) (by show x.val - 64 - 64 = _; omega)
        · exact aux 3 _ (by show 3 = _; omega) (by show x.val - 64 - 64 - 64 = _; omega)
  pointwise [tile]
  exact Finset.sum_congr rfl fun x _ => congrArg (· * wo (ix2 x o)) (key x)

theorem pay81_apply (x : Vec Ideal S1x16x512 .f32) (y : Vec Ideal S32x16x512 .f32) (r : Fin 16) (o : Fin 512) :
    k0_pay81 x y (ix3 (0 : Fin 1) r o) = x (ix3 (0 : Fin 1) r o) + ∑ p : Fin 32, y (ix3 p r o) := by
  pointwise [k0_pay81]
theorem pay2_apply (r : Fin 16) (o : Fin 512) : k0_pay2 (F := Ideal) (ix3 (0 : Fin 1) r o) = 0 := by
  pointwise [k0_pay2]
theorem pay1_apply (x : Vec Ideal S32x16x512 .f32) (b : Fin 2) (i : Fin 256) (o : Fin 512) :
    k0_pay1 x (ix3 b i o) = x (ix3 (⟨b.val * 16 + i.val / 16, by omega⟩ : Fin 32) (⟨i.val % 16, by omega⟩ : Fin 16) o) := by
  pointwise [k0_pay1]

/-! ## The staged arrays -/

variable (m : (ℓ : Loc nD τ sig) → Buf (Elt Ideal) ℓ)

theorem zero_block (n k : ℕ) : 0 * n + k = k := by omega

theorem xV_eq (c : Dev nD) : xV m c = m ((c : Thread nD τ).loc main_arg0) := by
  funext i
  blk_ext [xV]
  all_goals exact zero_block _ _
theorem wV_eq (c : Dev nD) : wV m c = m ((c : Thread nD τ).loc main_arg1) := by
  funext i
  blk_ext [wV]
  all_goals exact zero_block _ _
theorem pV_eq (c : Dev nD) : pV m c = m ((c : Thread nD τ).loc main_arg4) := by
  funext i
  blk_ext [pV]
  all_goals exact zero_block _ _
theorem wCol_apply (c : Dev nD) (h : Fin 4) (l : Fin 512) (d : Fin 64) :
    wCol m c h (ix2 l d) = m ((c : Thread nD τ).loc main_arg1) (ix2 l (⟨64 * h.val + d.val, by omega⟩ : Fin 256)) := by
  unfold wCol
  rw [wV_eq]
  pointwise [View.readAt_apply]
  rfl
theorem kT_apply (c : Dev nD) (t : Fin 8) (j d : Fin 64) (g : Fin 128) :
    kT m c t (ix4 (0 : Fin 1) j d g) = m ((c : Thread nD τ).loc main_arg2) (ix4 (⟨t.val / 4, by omega⟩ : Fin 2) (⟨64 * (t.val % 4) + j.val, by omega⟩ : Fin 256) d g) := by
  unfold kT
  pointwise [View.readAt_apply]
  rfl
theorem vT_apply (c : Dev nD) (t : Fin 8) (j d : Fin 64) (g : Fin 128) :
    vT m c t (ix4 (0 : Fin 1) j d g) = m ((c : Thread nD τ).loc main_arg3) (ix4 (⟨t.val / 4, by omega⟩ : Fin 2) (⟨64 * (t.val % 4) + j.val, by omega⟩ : Fin 256) d g) := by
  unfold vT
  pointwise [View.readAt_apply]
  rfl

/-! ## The operands as parts of whole arrays -/

variable (X : FVec Ideal S2x256x512 .f32) (W : FVec Ideal ⟨2, ![512, 8192]⟩ .f32) (K V : FVec Ideal S2x256x64x128 .f32)
  (O : FVec Ideal ⟨2, ![8192, 512]⟩ .f32)

/-- Every device's operands are copies or parts of the whole arrays. -/
structure Parts : Prop where
  x : ∀ c : Dev nD, m ((c : Thread nD τ).loc main_arg0) = X
  w : ∀ (c : Dev nD) (l : Fin 512) (n : Fin 256), m ((c : Thread nD τ).loc main_arg1) (ix2 l n) = W (ix2 l (⟨256 * c.val + n.val, by have : c.val < 32 := c.isLt; omega⟩ : Fin 8192))
  k : ∀ c : Dev nD, m ((c : Thread nD τ).loc main_arg2) = K
  v : ∀ c : Dev nD, m ((c : Thread nD τ).loc main_arg3) = V
  o : ∀ (c : Dev nD) (n : Fin 256) (l : Fin 512), m ((c : Thread nD τ).loc main_arg4) (ix2 n l) = O (ix2 (⟨256 * c.val + n.val, by have : c.val < 32 := c.isLt; omega⟩ : Fin 8192) l)

variable {m X W K V O}

/-- One element of one head's output on device `c`, in the whole arrays' terms. -/
theorem headOut_apply (H : Parts m X W K V O) (c : Dev nD) (t : Fin 8) (h : Fin 4) (i d : Fin 64) :
    headOut t h (qV m c h) (k0_pay9 (sel c) (kT m c t)) (k0_pay9 (sel c) (vT m c t)) (ix2 i d)
      = ctx X W K V (⟨t.val / 4, by omega⟩ : Fin 2) (⟨64 * (t.val % 4) + i.val, by omega⟩ : Fin 256)
          (⟨4 * c.val + h.val, by have : c.val < 32 := c.isLt; omega⟩ : Fin 128) d := by
  have hc : c.val < 32 := c.isLt
  unfold headOut
  rw [attn_apply]
  unfold ctx
  have hk : ∀ j : Fin 64, (⟨64 * (t.val % 4) + j.val, by omega⟩ : Fin 256) = keyOf (⟨64 * (t.val % 4) + i.val, by omega⟩ : Fin 256) j := fun j =>
    Fin.ext (by show 64 * (t.val % 4) + j.val = 64 * ((64 * (t.val % 4) + i.val) / 64) + j.val; omega)
  refine congrArg₂ rowAttn (funext fun j => ?_) (funext fun j => ?_)
  · unfold score
    refine congrArg (· * scl) (Finset.sum_congr rfl fun e _ => ?_)
    rw [sel_head, kT_apply, H.k, hk j]
    refine congrArg₂ (· * ·) ?_ rfl
    unfold qV
    rw [q_apply]
    refine Finset.sum_congr rfl fun l _ => ?_
    rw [xV_eq, H.x, wCol_apply, H.w]
    refine congrArg₂ (· * ·) ?_ ?_
    · have e1 : (⟨(64 * t.val + i.val) / 256, by omega⟩ : Fin 2) = ⟨t.val / 4, by omega⟩ := Fin.ext (by show (64 * t.val + i.val) / 256 = t.val / 4; omega)
      have e2 : (⟨(64 * t.val + i.val) % 256, by omega⟩ : Fin 256) = ⟨64 * (t.val % 4) + i.val, by omega⟩ := Fin.ext (by show (64 * t.val + i.val) % 256 = 64 * (t.val % 4) + i.val; omega)
      rw [e1, e2]
    · refine congrArg W (congrArg (ix2 l) (Fin.ext ?_))
      show 256 * c.val + (64 * h.val + e.val) = 64 * (4 * c.val + h.val) + e.val
      omega
  · rw [sel_head, vT_apply, H.v, hk j]

/-- One element of device `c`'s part of the product. -/
theorem accPart_apply (H : Parts m X W K V O) (c : Dev nD) (q : Fin 32) (r : Fin 16) (o : Fin 512) :
    accPart m c (ix3 q r o) = ∑ x : Fin 256,
      ctx X W K V (⟨q.val / 16, by omega⟩ : Fin 2) (⟨16 * (q.val % 16) + r.val, by omega⟩ : Fin 256)
        (⟨(256 * c.val + x.val) / 64, by have : c.val < 32 := c.isLt; omega⟩ : Fin 128) (⟨(256 * c.val + x.val) % 64, by omega⟩ : Fin 64)
        * O (ix2 (⟨256 * c.val + x.val, by have : c.val < 32 := c.isLt; omega⟩ : Fin 8192) o) := by
  have hc : c.val < 32 := c.isLt
  show tileV m c (⟨q.val / 4, by omega⟩ : Fin 8) (ix3 (⟨q.val % 4, by omega⟩ : Fin 4) r o) = _
  unfold tileV
  rw [tile_apply _ (qV m c)]
  refine Finset.sum_congr rfl fun x _ => ?_
  rw [headOut_apply H, pV_eq, H.o]
  refine congrArg (· * _) ?_
  have e1 : (⟨(q.val / 4) / 4, by omega⟩ : Fin 2) = ⟨q.val / 16, by omega⟩ := Fin.ext (by show (q.val / 4) / 4 = q.val / 16; omega)
  have e2 : (⟨64 * ((q.val / 4) % 4) + (q.val % 4 * 16 + r.val), by omega⟩ : Fin 256) = ⟨16 * (q.val % 16) + r.val, by omega⟩ :=
    Fin.ext (by show 64 * ((q.val / 4) % 4) + (q.val % 4 * 16 + r.val) = 16 * (q.val % 16) + r.val; omega)
  have e3 : (⟨4 * c.val + x.val / 64, by omega⟩ : Fin 128) = ⟨(256 * c.val + x.val) / 64, by omega⟩ := Fin.ext (by show 4 * c.val + x.val / 64 = (256 * c.val + x.val) / 64; omega)
  have e4 : (⟨x.val % 64, by omega⟩ : Fin 64) = ⟨(256 * c.val + x.val) % 64, by omega⟩ := Fin.ext (by show x.val % 64 = (256 * c.val + x.val) % 64; omega)
  rw [← e1, ← e2, ← e3, ← e4]

variable (m) in
/-- One element of device `p`'s part. -/
def accE (p q : Fin 32) (r : Fin 16) (o : Fin 512) : EReal := accPart m p (ix3 q r o)
variable (m) in
/-- One element of device `q`'s staging slots. -/
def stageE (q p : Fin 32) (r : Fin 16) (o : Fin 512) : EReal := stageAll m q (ix3 p r o)

theorem stageE_self (q : Fin 32) (r : Fin 16) (o : Fin 512) : stageE m q q r o = 0 := by
  show (if q = q then _ else _) = _
  rw [if_pos rfl]
  exact pay2_apply r o
theorem stageE_ne (q p : Fin 32) (h : p ≠ q) (r : Fin 16) (o : Fin 512) : stageE m q p r o = accE m p q r o := by
  show (if p = q then _ else _) = _
  rw [if_neg h]
  rfl

/-- The accumulator at the end: the sum of all devices' parts. -/
theorem accFin_apply (q : Fin 32) (r : Fin 16) (o : Fin 512) :
    accFin m (ix3 q r o) = ∑ p : Fin 32, accE m p q r o := by
  have e : (aM.view.readAt (Elt Ideal) (rowR q).toLoadRect (accPart m q)) (ix3 (0 : Fin 1) r o) = accE m q q r o := by
    pointwise [View.readAt_apply]
    rfl
  have h : red m q (ix3 (0 : Fin 1) r o) = accE m q q r o + ∑ p : Fin 32, stageE m q p r o := by
    unfold red
    rw [pay81_apply, e]
    rfl
  refine Eq.trans h ?_
  rw [← Finset.add_sum_erase Finset.univ (fun p : Fin 32 => accE m p q r o) (Finset.mem_univ q),
    ← Finset.add_sum_erase Finset.univ (fun p : Fin 32 => stageE m q p r o) (Finset.mem_univ q), stageE_self, zero_add]
  refine congrArg (accE m q q r o + ·) ?_
  exact Finset.sum_congr rfl fun p hp => stageE_ne q p (Finset.ne_of_mem_erase hp) r o

/-- A sum over 8192 as 32 sums over 256. -/
theorem sum_8192 (f : Fin 8192 → EReal) : (∑ n, f n) = ∑ p : Fin 32, ∑ x : Fin 256, f ⟨256 * p.val + x.val, by omega⟩ := by
  rw [← Fintype.sum_prod_type' (f := fun (p : Fin 32) (x : Fin 256) => f ⟨256 * p.val + x.val, by omega⟩),
    ← (finProdFinEquiv (m := 32) (n := 256)).sum_comp]
  refine Finset.sum_congr rfl fun y _ => congrArg f (Fin.ext ?_)
  show y.2.val + 256 * y.1.val = 256 * y.1.val + y.2.val
  omega

/-- The kernel's result, index by index. -/
theorem outV_apply (H : Parts m X W K V O) (b : Fin 2) (i : Fin 256) (o : Fin 512) :
    outV m (ix3 b i o) = result X W K V O b i o := by
  have h : outV m (ix3 b i o) = ∑ p : Fin 32, accE m p (⟨b.val * 16 + i.val / 16, by omega⟩ : Fin 32) (⟨i.val % 16, by omega⟩ : Fin 16) o := by
    unfold outV
    rw [pay1_apply]
    exact accFin_apply _ _ _
  have h2 : (∑ p : Fin 32, accE m p (⟨b.val * 16 + i.val / 16, by omega⟩ : Fin 32) (⟨i.val % 16, by omega⟩ : Fin 16) o) = result X W K V O b i o := ?_
  · exact h.trans h2
  unfold result
  rw [sum_8192]
  refine Finset.sum_congr rfl fun p _ => ?_
  unfold accE
  refine Eq.trans (accPart_apply H p _ _ _) ?_
  have e1 : (⟨(b.val * 16 + i.val / 16) / 16, by omega⟩ : Fin 2) = b := Fin.ext (by show (b.val * 16 + i.val / 16) / 16 = b.val; omega)
  have e2 : (⟨16 * ((b.val * 16 + i.val / 16) % 16) + i.val % 16, by omega⟩ : Fin 256) = i := Fin.ext (by show 16 * ((b.val * 16 + i.val / 16) % 16) + i.val % 16 = i.val; omega)
  rw [e1, e2]

end Cert.Ring

end
-- ==== Proof.Soft.lean ====
/-
  The softmax over all 256 keys with the keys outside the query's block at minus infinity is the softmax over the block's own 64
  keys, when the scores are real numbers; and the scores are real numbers when the operands are.
-/
module

public import proofs.«01_k».proof.Proof.Math
public import Idealize.ShloMosaic.Lib.IdealHost

@[expose] public section

noncomputable section

namespace Cert.Ring

open Idealize.ShloMosaic

/-- Being a real number. -/
def Real' (a : EReal) : Prop := ∃ r : ℝ, a = (r : EReal)

theorem Real'.mul {a b : EReal} : Real' a → Real' b → Real' (a * b) := by
  rintro ⟨r, rfl⟩ ⟨s, rfl⟩
  exact ⟨r * s, (EReal.coe_mul r s).symm⟩

theorem Real'.sum {ι : Type} (s : Finset ι) (f : ι → EReal) (h : ∀ i, Real' (f i)) : Real' (∑ i ∈ s, f i) := by
  classical
  refine Finset.induction_on s ⟨0, by simp⟩ fun a s ha ih => ?_
  rw [Finset.sum_insert ha]
  obtain ⟨r, hr⟩ := h a
  obtain ⟨t, ht⟩ := ih
  exact ⟨r + t, by rw [hr, ht, EReal.coe_add]⟩

theorem real_of_lt {a : EReal} (h : max a (-a) < ⊤) : Real' a := by
  have h1 : a ≠ ⊤ := fun e => absurd (lt_of_le_of_lt (le_max_left a (-a)) h) (by rw [e]; exact lt_irrefl _)
  have h2 : a ≠ ⊥ := fun e => absurd (lt_of_le_of_lt (le_max_right a (-a)) h) (by rw [e, EReal.neg_bot]; exact lt_irrefl _)
  exact ⟨a.toReal, (EReal.coe_toReal h1 h2).symm⟩

theorem low_eq : low = (⊥ : EReal) := by
  unfold low
  simp [Ideal.ofBits, Ideal.ieee]

theorem scl_real : Real' scl := by
  unfold scl
  exact ⟨_, by simp [Ideal.ofBits, Ideal.ieee, -EReal.coe_mul]; rfl⟩

theorem keyOf_injective (i : Fin 256) : Function.Injective (keyOf i) := fun a b h => by
  have : 64 * (i.val / 64) + a.val = 64 * (i.val / 64) + b.val := congrArg Fin.val h
  exact Fin.ext (by omega)

theorem keyOf_block (i : Fin 256) (j : Fin 64) : i.val / 64 = (keyOf i j).val / 64 := by
  show i.val / 64 = (64 * (i.val / 64) + j.val) / 64
  omega

theorem exists_key (i j : Fin 256) (h : i.val / 64 = j.val / 64) : ∃ x, keyOf i x = j :=
  ⟨⟨j.val % 64, by omega⟩, Fin.ext (by show 64 * (i.val / 64) + j.val % 64 = j.val; omega)⟩

/-- A sum over all keys whose terms vanish outside the block is the sum over the block. -/
theorem sum_block (i : Fin 256) (g : Fin 256 → EReal) (h : ∀ j : Fin 256, i.val / 64 ≠ j.val / 64 → g j = 0) :
    ∑ j, g j = ∑ j : Fin 64, g (keyOf i j) :=
  (Fintype.sum_of_injective (keyOf i) (keyOf_injective i) _ g
    (fun j hj => h j fun e => hj (by obtain ⟨x, hx⟩ := exists_key i j e; exact ⟨x, hx⟩)) fun _ => rfl).symm

variable (i : Fin 256) (s v z : Fin 256 → EReal)

theorem max_block (hin : ∀ j : Fin 256, i.val / 64 = j.val / 64 → z j = s j) (hout : ∀ j : Fin 256, i.val / 64 ≠ j.val / 64 → z j = ⊥) :
    Finset.fold max low z Finset.univ = Finset.fold max low (fun j => s (keyOf i j)) Finset.univ := by
  apply le_antisymm
  · refine (Finset.fold_max_le _).mpr ⟨(Finset.le_fold_max _).mpr (.inl le_rfl), fun j _ => ?_⟩
    by_cases e : i.val / 64 = j.val / 64
    · obtain ⟨x, rfl⟩ := exists_key i j e
      rw [hin _ e]
      exact (Finset.le_fold_max _).mpr (.inr ⟨x, Finset.mem_univ _, le_rfl⟩)
    · rw [hout j e]
      exact bot_le
  · refine (Finset.fold_max_le _).mpr ⟨(Finset.le_fold_max _).mpr (.inl le_rfl), fun x _ => ?_⟩
    exact (Finset.le_fold_max _).mpr (.inr ⟨keyOf i x, Finset.mem_univ _, by rw [hin _ (keyOf_block i x)]⟩)

theorem max_real (t : Fin 64 → EReal) (ht : ∀ j, Real' (t j)) : Real' (Finset.fold max low t Finset.univ) := by
  have h1 : Finset.fold max low t Finset.univ ≠ ⊤ := by
    refine ne_of_lt ((Finset.fold_max_lt _).mpr ⟨by rw [low_eq]; exact bot_lt_top, fun j _ => ?_⟩)
    obtain ⟨r, hr⟩ := ht j
    rw [hr]; exact EReal.coe_lt_top r
  have h2 : Finset.fold max low t Finset.univ ≠ ⊥ := by
    refine ne_of_gt ((Finset.lt_fold_max _).mpr (.inr ⟨0, Finset.mem_univ _, ?_⟩))
    obtain ⟨r, hr⟩ := ht 0
    rw [hr]; exact EReal.bot_lt_coe r
  exact ⟨_, (EReal.coe_toReal h1 h2).symm⟩

theorem exp_sum_ne (t : Fin 64 → EReal) (ht : ∀ j, Real' (t j)) (M : EReal) (hM : Real' M) : (∑ y, Ideal.exp (t y - M)) ≠ 0 := by
  obtain ⟨r, rfl⟩ := hM
  have pos : ∀ y, 0 < Ideal.exp (t y - (r : EReal)) := fun y => by
    obtain ⟨u, hu⟩ := ht y
    rw [hu, ← EReal.coe_sub, Ideal.exp_coe]
    exact EReal.coe_pos.mpr (Real.exp_pos _)
  refine ne_of_gt (lt_of_lt_of_le (pos 0) ?_)
  exact Finset.single_le_sum (f := fun y => Ideal.exp (t y - (r : EReal))) (fun y _ => (pos y).le) (Finset.mem_univ 0)

/-- The masked softmax is the block's. -/
theorem soft_block (hs : ∀ j, Real' (s j)) (hin : ∀ j : Fin 256, i.val / 64 = j.val / 64 → z j = s j)
    (hout : ∀ j : Fin 256, i.val / 64 ≠ j.val / 64 → z j = ⊥) (M : EReal) (hM : M = Finset.fold max low z Finset.univ) :
    ∑ j, Ideal.div (Ideal.exp (z j - M)) (∑ y, Ideal.exp (z y - M)) * v j
      = rowAttn (fun j => s (keyOf i j)) (fun j => v (keyOf i j)) := by
  rw [max_block i s z hin hout] at hM
  have hr : Real' M := hM ▸ max_real _ fun j => hs _
  have hz : ∀ j : Fin 256, i.val / 64 ≠ j.val / 64 → Ideal.exp (z j - M) = 0 := fun j e => by
    obtain ⟨r, hr⟩ := hr
    rw [hout j e, hr, EReal.bot_sub]
    exact Ideal.exp_bot
  have hd : (∑ y, Ideal.exp (z y - M)) = ∑ y : Fin 64, Ideal.exp (s (keyOf i y) - M) := by
    rw [sum_block i _ hz]
    exact Finset.sum_congr rfl fun y _ => by rw [hin _ (keyOf_block i y)]
  rw [hd, sum_block i _ fun j e => by rw [hz j e, Ideal.zero_div (exp_sum_ne _ (fun j => hs _) M hr), zero_mul]]
  unfold rowAttn
  rw [← hM]
  exact Finset.sum_congr rfl fun y _ => by rw [hin _ (keyOf_block i y)]

theorem score_real (X : FVec Ideal ⟨3, ![2, 256, 512]⟩ .f32) (W : FVec Ideal ⟨2, ![512, 8192]⟩ .f32) (K : FVec Ideal ⟨4, ![2, 256, 64, 128]⟩ .f32)
    (hX : ∀ i, Real' (X i)) (hW : ∀ i, Real' (W i)) (hK : ∀ i, Real' (K i)) (b : Fin 2) (h : Fin 128) (i j : Fin 256) : Real' (score X W K b h i j) :=
  (Real'.sum _ _ fun _ => (Real'.sum _ _ fun _ => (hX _).mul (hW _)).mul (hK _)).mul scl_real

end Cert.Ring

end
-- ==== Proof.RValue.lean ====
/-
  The reference's value: its printed operations cut into named arrays, each read at an index, and the result shown to be the
  function of Math.lean when the scores are real numbers.
-/
module

public import proofs.«01_k».proof.Proof.Soft
public import proofs.«01_k».proof.Proof.Gen.ReferenceIdeal.Run
public import Idealize.ShloMosaic.Lib.Pipeline.ValueKit
public import Idealize.ShloMosaic.Lib.Pointwise

@[expose] public section

set_option maxRecDepth 16384
set_option maxHeartbeats 2000000

noncomputable section

namespace Cert.RefValue

open Cert.ReferenceIdeal Cert.ReferenceIdeal.Gen Cert.ReferenceIdeal.Value Idealize.ShloMosaic Idealize.ShloMosaic.TcCoe Idealize.SL.Sem Cert.Ring

/-- The block number of every query and of every key. -/
def blkA : IVec S256 32 := select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- The mask. -/
def mkA : IVec S256x256 1 := ori (cmpi .eq (broadcastInDim S256x256 ![0, 1] bcast_S256x1_S256x256_0_1 (broadcastInDim S256x1 ![0] bcast_S256_S256x1_0 blkA)) (broadcastInDim S256x256 ![0, 1] bcast_S1x256_S256x256_0_1 (broadcastInDim S1x256 ![1] bcast_S256_S1x256_1 blkA))) (cmpi .eq (broadcastInDim S256x256 ![0, 1] bcast_S1x256_S256x256_0_1 (Host.remsi (broadcastInDim S1x256 ![1] bcast_S256_S1x256_1 blkA) (broadcastInDim S1x256 ![] bcast_S_S1x256 (constantI S_ 32 4#32)))) (broadcastInDim S256x256 ![0, 1] bcast_S256x1_S256x256_0_1 (Host.remsi (broadcastInDim S256x1 ![0] bcast_S256_S256x1_0 blkA) (broadcastInDim S256x1 ![] bcast_S_S256x1 (constantI S_ 32 4#32)))))
/-- The scaled scores. -/
def scA (x : FVec Ideal S2x256x512 .f32) (w : FVec Ideal S512x8192 .f32) (k : FVec Ideal S2x256x64x128 .f32) : FVec Ideal S2x128x256x256 .f32 :=
  mulf (Host.dotGeneral dot_S2x256x128x64_S2x256x128x64_S2x128x256x256_3_3_1_1_02_02 none (shapeCast S2x256x128x64 (Host.dotGeneral dot_S2x256x512_S512x8192_S2x256x8192_2_0_01_1_n_n none x w) shapeCasts_S2x256x8192_S2x256x128x64) (transpose S2x256x128x64 [0, 1, 3, 2] k transposes_S2x256x64x128_S2x256x128x64_0_1_3_2)) (broadcastInDim S2x128x256x256 ![] bcast_S_S2x128x256x256 (constant S_ .f32 0x3E000000#32))
/-- The scores with the masked ones replaced. -/
def msA (mk : IVec S256x256 1) (ng : FVec Ideal S256x256 .f32) (s : FVec Ideal S2x128x256x256 .f32) : FVec Ideal S2x128x256x256 .f32 :=
  select (broadcastInDim S2x128x256x256 ![0, 1, 2, 3] bcast_S1x1x256x256_S2x128x256x256_0_1_2_3 (broadcastInDim S1x1x256x256 ![2, 3] bcast_S256x256_S1x1x256x256_2_3 mk)) s (broadcastInDim S2x128x256x256 ![0, 1, 2, 3] bcast_S1x1x256x256_S2x128x256x256_0_1_2_3 (broadcastInDim S1x1x256x256 ![2, 3] bcast_S256x256_S1x1x256x256_2_3 ng))
/-- Each row's maximum. -/
def mxA (z : FVec Ideal S2x128x256x256 .f32) : FVec Ideal S2x128x256 .f32 := Host.reduce FloatOps.maximumf z (constant S_ .f32 0xFF800000#32) reducesTo_S2x128x256x256_S2x128x256_d3 h_S_
/-- The exponentials. -/
def exA (z : FVec Ideal S2x128x256x256 .f32) : FVec Ideal S2x128x256x256 .f32 := Host.exp (subf z (broadcastInDim S2x128x256x256 ![0, 1, 2, 3] bcast_S2x128x256x1_S2x128x256x256_0_1_2_3 (broadcastInDim S2x128x256x1 ![0, 1, 2] bcast_S2x128x256_S2x128x256x1_0_1_2 (mxA z))))
/-- Whether a query sees any key. -/
def kpA (mk : IVec S256x256 1) : IVec S256 1 := Host.reduce IntOp.ori mk (constantI S_ 1 0#1) reducesTo_S256x256_S256_d1 h_S_
/-- The denominators. -/
def dnA (mk : IVec S256x256 1) (z : FVec Ideal S2x128x256x256 .f32) : FVec Ideal S2x128x256x1 .f32 := select (broadcastInDim S2x128x256x1 ![0, 1, 2, 3] bcast_S1x1x256x1_S2x128x256x1_0_1_2_3 (broadcastInDim S1x1x256x1 ![2] bcast_S256_S1x1x256x1_2 (kpA mk))) (broadcastInDim S2x128x256x1 ![0, 1, 2] bcast_S2x128x256_S2x128x256x1_0_1_2 (Host.reduceAdd (exA z) (constant S_ .f32 0x00000000#32) reducesTo_S2x128x256x256_S2x128x256_d3 h_S_)) (broadcastInDim S2x128x256x1 ![] bcast_S_S2x128x256x1 (id (constant S_ .f32 0x3F800000#32)))
/-- The weights. -/
def wtA (mk : IVec S256x256 1) (z : FVec Ideal S2x128x256x256 .f32) : FVec Ideal S2x128x256x256 .f32 := select (broadcastInDim S2x128x256x256 ![0, 1, 2, 3] bcast_S1x1x256x1_S2x128x256x256_0_1_2_3 (broadcastInDim S1x1x256x1 ![2] bcast_S256_S1x1x256x1_2 (kpA mk))) (Host.divf (exA z) (broadcastInDim S2x128x256x256 ![0, 1, 2, 3] bcast_S2x128x256x1_S2x128x256x256_0_1_2_3 (dnA mk z))) (broadcastInDim S2x128x256x256 ![] bcast_S_S2x128x256x256 (id (constant S_ .f32 0x00000000#32)))
/-- The result, from the weights. -/
def outA (u : FVec Ideal S2x128x256x256 .f32) (v : FVec Ideal S2x256x64x128 .f32) (o : FVec Ideal S8192x512 .f32) : FVec Ideal S2x256x512 .f32 :=
  Host.dotGeneral dot_S2x256x8192_S8192x512_S2x256x512_2_0_01_1_n_n none (shapeCast _ (transpose S2x256x128x64 [0, 3, 1, 2] (Host.dotGeneral dot_S2x256x128x64_S2x128x256x256_S2x128x64x256_1_3_3_2_02_01 none (transpose S2x256x128x64 [0, 1, 3, 2] v transposes_S2x256x64x128_S2x256x128x64_0_1_3_2) u) transposes_S2x128x64x256_S2x256x128x64_0_3_1_2) shapeCasts_S2x256x128x64_S2x256x8192) o

variable (m : (ℓ : Loc nD τ sig) → Buf (Elt Ideal) ℓ)

/-- The printed result, in these arrays. -/
theorem res_eq (c : Dev nD) : res_main_v46 m c
    = outA (wtA mkA (msA mkA (reg_main_v18 m c) (scA (m ((c.tc : Thread nD τ).loc main_arg0)) (m ((c.tc : Thread nD τ).loc main_arg1)) (m ((c.tc : Thread nD τ).loc main_arg2)))))
        (m ((c.tc : Thread nD τ).loc main_arg3)) (m ((c.tc : Thread nD τ).loc main_arg4)) := by
  unfold res_main_v46
  rfl

/-- What the region is given: the mask as words. -/
theorem entry_mask (c : Dev nD) : Gen.V m c main_v17 = extui 32 mkA natLt_1_32 := by
  show Gen.V0 m c (Proc.devRef .tc main_v17) = _
  simp only [Gen.V0, Gen.hostOps0, Gen.hostOps0_1, Gen.hostOps0_2, Gen.hostOps0_3, Gen.hostOps0_4, StableHlo.TRef.binary, StableHlo.TRef.nullary, StableHlo.TRef.ternary, StableHlo.TRef.unary, StableHlo.TRef.toBuf, StableHlo.TRef.ofBuf, cast_eq, List.flatten_cons, List.flatten_nil, List.append_nil, List.cons_append, List.nil_append]
  after_results_simp <;> rfl

theorem blkA_apply (i : Fin 256) : blkA (ix1 i) = BitVec.ofNat 32 (i.val / 64) := by
  pointwise [blkA]
  revert i
  decide +kernel

theorem mkA_apply (i j : Fin 256) : mkA (ix2 i j) = BitVec.ofBool (decide (i.val / 64 = j.val / 64)) := by
  pointwise [mkA]
  simp only [blkA_apply]
  exact (by decide +kernel : ∀ a b : Fin 4,
    IntOp.ori (IntOp.cmpi CmpIPredicate.eq (BitVec.ofNat 32 a.val) (BitVec.ofNat 32 b.val))
      (IntOp.cmpi CmpIPredicate.eq (IntOp.remsi ArithUnit.host (BitVec.ofNat 32 b.val) 4#32)
        (IntOp.remsi ArithUnit.host (BitVec.ofNat 32 a.val) 4#32)) = BitVec.ofBool (decide (a.val = b.val)))
    ⟨i.val / 64, by omega⟩ ⟨j.val / 64, by omega⟩

theorem scA_apply (x : FVec Ideal S2x256x512 .f32) (w : FVec Ideal S512x8192 .f32) (k : FVec Ideal S2x256x64x128 .f32) (b : Fin 2) (h : Fin 128) (i j : Fin 256) :
    scA x w k (ix4 b h i j) = score x w k b h i j := by
  pointwise [scA]
  unfold score colOf
  simp only [Nat.mul_comm]

theorem msA_apply (mk : IVec S256x256 1) (ng : FVec Ideal S256x256 .f32) (s : FVec Ideal S2x128x256x256 .f32) (b : Fin 2) (h : Fin 128) (i j : Fin 256) :
    msA mk ng s (ix4 b h i j) = if mk (ix2 i j) = 1 then s (ix4 b h i j) else ng (ix2 i j) := by
  pointwise [msA]
  rfl
theorem mxA_apply (z : FVec Ideal S2x128x256x256 .f32) (b : Fin 2) (h : Fin 128) (i : Fin 256) :
    mxA z (ix3 b h i) = Finset.fold max low (fun j : Fin 256 => z (ix4 b h i j)) Finset.univ := by
  pointwise [mxA]
theorem exA_apply (z : FVec Ideal S2x128x256x256 .f32) (b : Fin 2) (h : Fin 128) (i j : Fin 256) :
    exA z (ix4 b h i j) = Ideal.exp (z (ix4 b h i j) - mxA z (ix3 b h i)) := by
  pointwise [exA]
theorem kpA_apply (i : Fin 256) : kpA mkA (ix1 i) = 1 := by
  pointwise [kpA]
  rw [← Finset.insert_erase (Finset.mem_univ i), Finset.fold_insert (Finset.notMem_erase i _), mkA_apply, decide_eq_true rfl]
  exact (by decide +kernel : ∀ r : BitVec 1, IntOp.ori (BitVec.ofBool true) r = 1) _
theorem sel_one (a b : EReal) : Scalar.select (1 : BitVec 1) a b = a := rfl

theorem dnA_apply (z : FVec Ideal S2x128x256x256 .f32) (b : Fin 2) (h : Fin 128) (i : Fin 256) :
    dnA mkA z (ix4 b h i (0 : Fin 1)) = ∑ j : Fin 256, exA z (ix4 b h i j) := by
  pointwise [dnA, kpA_apply]
  exact sel_one _ _
theorem wtA_apply (z : FVec Ideal S2x128x256x256 .f32) (b : Fin 2) (h : Fin 128) (i j : Fin 256) :
    wtA mkA z (ix4 b h i j) = Ideal.div (exA z (ix4 b h i j)) (dnA mkA z (ix4 b h i (0 : Fin 1))) := by
  pointwise [wtA, kpA_apply]
  exact sel_one _ _
theorem outA_apply (u : FVec Ideal S2x128x256x256 .f32) (v : FVec Ideal S2x256x64x128 .f32) (o : FVec Ideal S8192x512 .f32) (b : Fin 2) (i : Fin 256) (l : Fin 512) :
    outA u v o (ix3 b i l) = ∑ n : Fin 8192, (∑ j : Fin 256, u (ix4 b (⟨n.val / 64, by omega⟩ : Fin 128) i j) * v (ix4 b j (⟨n.val % 64, by omega⟩ : Fin 64) (⟨n.val / 64, by omega⟩ : Fin 128))) * o (ix2 n l) := by
  pointwise [outA]
  exact Finset.sum_congr rfl fun n _ => congrArg (· * _) (Finset.sum_congr rfl fun j _ => mul_comm _ _)

theorem zero_block (n k : ℕ) : 0 * n + k = k := by omega

theorem reg_apply (c : Dev nD) (i j : Fin 256) (h : mkA (ix2 i j) = 0) : reg_main_v18 m c (ix2 i j) = (⊥ : EReal) := by
  have e : reg_main_v18 m c = out0_1 (extui 32 mkA natLt_1_32) := by
    unfold reg_main_v18
    refine (Gen.dats m 0 c).arrAt_eq_of_covers 1 _ (by decide +kernel) fun t hf y => ?_
    blk_simp
    obtain rfl : t = ⟨0, by decide⟩ := Fin.ext (by have : t.val < 1 := t.isLt; show t.val = 0; omega)
    rw [after0_1, (funext fun y => by (blk_ext [iblk, entry_mask] <;> exact zero_block _ _) : iblk m c 0 ⟨0, by decide⟩ = extui 32 mkA natLt_1_32)]
    refine congrArg (out0_1 (extui 32 mkA natLt_1_32)) ?_
    blk_ext []
    all_goals exact (zero_block _ _).symm
  rw [e]
  unfold out0_1
  rw [View.canon_cons_unit_lit _ _ _ (by decide), View.ld_unit_lit _ _ (by decide)]
  pointwise [k0_pay1, h]
  exact (IdealRules.named_const.statement Cert.ReferenceIdeal.κ "mask" .f32 0xCE6E6B28#32 ⊥ rfl).2.2

theorem true_word : BitVec.ofBool true = (1 : BitVec 1) := by decide +kernel
theorem false_word : BitVec.ofBool false = (0 : BitVec 1) := by decide +kernel
theorem zero_ne_one_word : ¬ (0 : BitVec 1) = 1 := by decide +kernel

variable (X : FVec Ideal S2x256x512 .f32) (W : FVec Ideal S512x8192 .f32) (K V : FVec Ideal S2x256x64x128 .f32) (O : FVec Ideal S8192x512 .f32)

/-- One element of one head's output. -/
theorem head_ref (c : Dev nD) (hX : ∀ i, Real' (X i)) (hW : ∀ i, Real' (W i)) (hK : ∀ i, Real' (K i)) (b : Fin 2) (i : Fin 256) (h : Fin 128) (d : Fin 64) :
    (∑ j : Fin 256, wtA mkA (msA mkA (reg_main_v18 m c) (scA X W K)) (ix4 b h i j) * V (ix4 b j d h)) = ctx X W K V b i h d := by
  generalize hz : msA mkA (reg_main_v18 m c) (scA X W K) = z
  have e := soft_block i (fun j => score X W K b h i j) (fun j => V (ix4 b j d h))
    (fun j => z (ix4 b h i j)) (fun j => score_real X W K hX hW hK _ _ _ _)
    (fun j h => by
      rw [← hz, msA_apply, mkA_apply, decide_eq_true h, if_pos true_word, scA_apply])
    (fun j h => by
      have e0 : mkA (ix2 i j) = 0 := by rw [mkA_apply, decide_eq_false h]; exact false_word
      rw [← hz, msA_apply, e0, if_neg zero_ne_one_word]
      exact reg_apply m c i j e0)
    (mxA z (ix3 b h i)) (mxA_apply z _ _ _)
  unfold ctx
  rw [← e]
  refine Finset.sum_congr rfl fun j _ => ?_
  rw [wtA_apply, dnA_apply, exA_apply]
  simp only [exA_apply]

/-- The reference's result, index by index. -/
theorem ref_apply (c : Dev nD)
    (eX : m ((c.tc : Thread nD τ).loc main_arg0) = X) (eW : m ((c.tc : Thread nD τ).loc main_arg1) = W) (eK : m ((c.tc : Thread nD τ).loc main_arg2) = K)
    (eV : m ((c.tc : Thread nD τ).loc main_arg3) = V) (eO : m ((c.tc : Thread nD τ).loc main_arg4) = O)
    (hX : ∀ i, Real' (X i)) (hW : ∀ i, Real' (W i)) (hK : ∀ i, Real' (K i)) (b : Fin 2) (i : Fin 256) (l : Fin 512) :
    res_main_v46 m c (ix3 b i l) = result X W K V O b i l := by
  rw [res_eq, eX, eW, eK, eV, eO]
  refine (outA_apply _ _ _ b i l).trans ?_
  unfold result
  simp only [head_ref m X W K V c hX hW hK]

end Cert.RefValue

end
-- ==== Proof.Final.lean ====
/-
  The kernel's run and the reference's, brought together: both leave the function of Math.lean.
-/
module

public import proofs.«01_k».proof.Defs
public import proofs.«01_k».proof.Proof.Run
public import proofs.«01_k».proof.Proof.KValue
public import proofs.«01_k».proof.Proof.RValue
public import Idealize.ShloMosaic.Lib.ReduceAll
public import Idealize.ShloMosaic.Lib.LayoutAt

@[expose] public section

set_option maxRecDepth 16384
set_option maxHeartbeats 1000000

noncomputable section

namespace Cert.Final

open Idealize.ShloMosaic Idealize.ShloMosaic.TcCoe Idealize.SL.Sem Cert.Ring

section out
open Cert.KernelIdeal Cert.KernelIdeal.Gen

/-- What the run leaves in the output array. -/
theorem finalA_out (m : (ℓ : Loc nD τ sig) → Buf (Elt Ideal) ℓ) (ρ : Dev nD → PrngReg) (c : Dev nD) : finalA m ρ c (3 : Fin 4) = outV m := by
  unfold finalA
  refine (dats m ρ 0 c).arrAt_eq_of_covers (3 : Fin 4) _ (by decide +kernel) fun t hf y => ?_
  blk_simp
  obtain rfl : t = ⟨0, by decide⟩ := Fin.ext (by have : t.val < 1 := t.isLt; show t.val = 0; omega)
  refine congrArg (outV m) ?_
  blk_ext []
  all_goals exact (zero_block _ _).symm
end out

/-! ## The precondition, decoded -/

theorem pre_facts : Cert.Pre_finite_scores_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x64x128 := by decide
  reducesTo_S2x256x64x128_S_d0_1_2_3 := by decide

theorem top_eq : Ideal.ofBits .f32 0x7F800000#32 = (⊤ : EReal) := by simp [Ideal.ofBits, Ideal.ieee]

theorem and_split : ∀ a b : BitVec 1, IntOp.andi a b = 1#1 → a = 1#1 ∧ b = 1#1 := by decide +kernel

/-- An element whose absolute value lies below infinity is a real number. -/
theorem elt_real (a : EReal) (h : Ideal.cmp .olt (max a (-a)) (Ideal.ofBits .f32 0x7F800000#32) = 1#1) : Real' a := by
  rw [top_eq] at h
  by_cases e : max a (-a) < ⊤
  · exact real_of_lt e
  · exfalso
    have h' : BitVec.ofBool (decide (max a (-a) < ⊤)) = 1#1 := h
    rw [decide_eq_false e] at h'
    exact absurd h' (by decide +kernel)

open Cert.Pre_finite_scores_KernelIdeal in
/-- The precondition makes the scores' operands real numbers. -/
theorem pre_real [Facts] (x : FVec Ideal S2x256x512 .f32) (w : FVec Ideal S512x256 .f32) (k v : FVec Ideal S2x256x64x128 .f32) (o : FVec Ideal S256x512 .f32)
    (h : fn x w k v o = fun _ => 1#1) : (∀ i, Real' (x i)) ∧ (∀ i, Real' (w i)) ∧ (∀ i, Real' (k i)) := by
  have h0 := congrFun h ix0
  dsimp only [fn] at h0
  obtain ⟨h01, h2⟩ := and_split _ _ h0
  obtain ⟨h0, h1⟩ := and_split _ _ h01
  haveI : Subsingleton S_.Idx := ⟨fun a b => funext fun d => d.elim0⟩
  exact ⟨fun i => elt_real _ (Host.reduce_andi_all _ _ _ _ _ h0 i), fun i => elt_real _ (Host.reduce_andi_all _ _ _ _ _ h1 i),
    fun i => elt_real _ (Host.reduce_andi_all _ _ _ _ _ h2 i)⟩

/-! ## The claim -/

section
variable (W : FVec Ideal ⟨2, ![512, 8192]⟩ .f32) (O : FVec Ideal ⟨2, ![8192, 512]⟩ .f32)

theorem w_block (c : Fin 32) (l : Fin 512) (n : Fin 256) :
    (Layout.block ⟨2, ![512, 256]⟩ ⟨2, ![512, 8192]⟩ 1 32 c W) (ix2 l n) = W (ix2 l (⟨256 * c.val + n.val, by omega⟩ : Fin 8192)) := by
  rw [Layout.block_apply]
  refine congrArg W ?_
  shard_ext
theorem o_block (c : Fin 32) (n : Fin 256) (l : Fin 512) :
    (Layout.block ⟨2, ![256, 512]⟩ ⟨2, ![8192, 512]⟩ 0 32 c O) (ix2 n l) = O (ix2 (⟨256 * c.val + n.val, by omega⟩ : Fin 8192) l) := by
  rw [Layout.block_apply]
  refine congrArg O ?_
  shard_ext
end

theorem algebraic : Cert.algebraic_KernelIdeal_ReferenceIdeal_pre_finite_scores_KernelIdeal (hPre_finite_scores_KernelIdeal := pre_facts) := by
  intro m g m' g' hpre hin
  letI := pre_facts
  have H : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (hin c).1
      w := fun c l n => (congrFun (hin c).2.1 (ix2 l n)).trans (w_block _ c l n)
      k := fun c => (hin c).2.2.1
      v := fun c => (hin c).2.2.2.1
      o := fun c n l => (congrFun (hin c).2.2.2.2 (ix2 n l)).trans (o_block _ c n l) }
  have P := fun c => pre_real _ _ _ _ _ (hpre c)
  have hX : ∀ i, Real' (m' (((0 : Dev Cert.ReferenceIdeal.nD).tc : Thread Cert.ReferenceIdeal.nD Cert.ReferenceIdeal.τ).loc Cert.ReferenceIdeal.main_arg0) i) := fun i => by
    have := (P 0).1 i
    rw [H.x 0] at this
    exact this
  have hK : ∀ i, Real' (m' (((0 : Dev Cert.ReferenceIdeal.nD).tc : Thread Cert.ReferenceIdeal.nD Cert.ReferenceIdeal.τ).loc Cert.ReferenceIdeal.main_arg2) i) := fun i => by
    have := (P 0).2.2 i
    rw [H.k 0] at this
    exact this
  have hW : ∀ i, Real' (m' (((0 : Dev Cert.ReferenceIdeal.nD).tc : Thread Cert.ReferenceIdeal.nD Cert.ReferenceIdeal.τ).loc Cert.ReferenceIdeal.main_arg1) i) := fun i => by
    have hi : ∀ (l : Fin 512) (n : Fin 8192), Real' (m' (((0 : Dev Cert.ReferenceIdeal.nD).tc : Thread Cert.ReferenceIdeal.nD Cert.ReferenceIdeal.τ).loc Cert.ReferenceIdeal.main_arg1) (ix2 l n)) := fun l n => by
      have := (P (⟨n.val / 256, by omega⟩ : Fin 32)).2.1 (ix2 l (⟨n.val % 256, by omega⟩ : Fin 256))
      rw [H.w] at this
      have e : (⟨256 * (n.val / 256) + n.val % 256, by omega⟩ : Fin 8192) = n := Fin.ext (by show 256 * (n.val / 256) + n.val % 256 = n.val; omega)
      rw [e] at this
      exact this
    have e := hi (i 0) (i 1)
    rw [eq_ix2 i]
    exact e
  have val : outV m = Cert.ReferenceIdeal.Value.res_main_v46 m' 0 := by
    funext i
    have e := (outV_apply H (i 0) (i 1) (i 2)).trans (Cert.RefValue.ref_apply m' _ _ _ _ _ 0 rfl rfl rfl rfl rfl hX hW hK (i 0) (i 1) (i 2)).symm
    rw [eq_ix3 i]
    exact e
  refine ⟨Cert.ReferenceIdeal.Value.res_main_v46 m' 0, ?_, ?_⟩
  · refine (θ_run Cert.KernelIdeal.defs _ _).mono (fun r h c => ⟨?_, unchanged m g h.1 c⟩) (run_main (F := Ideal) m g)
    exact (((h.1 c).1 3).trans (finalA_out m g c)).trans val
  · exact (θ_run Cert.ReferenceIdeal.defs _ _).mono (fun r h => h 0) (Cert.ReferenceIdeal.Value.run m' g')

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Run
public import proofs.«01_k».proof.Proof.Same
public import proofs.«01_k».proof.Proof.Final
public import Idealize.ShloMosaic.Adequacy
public import Idealize.ShloMosaic.Init

@[expose] public section

noncomputable section

namespace Cert.Proof

open Idealize.ShloMosaic Idealize.SL.Sem Cert.Kernel

variable {F : FTy → Type} [FloatOps F]

/-- The kernel's run, for any float values: every argument array ends unchanged and every counter at zero. -/
theorem frame_any (m : (ℓ : Loc Cert.KernelIdeal.nD Cert.KernelIdeal.τ Cert.KernelIdeal.sig) → Buf (Elt F) ℓ) (ρ) :
    θ_run Cert.KernelIdeal.defs (onTc (Cert.KernelIdeal.main (F := F))) (Cert.Ring.s₀ m ρ) (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
      ∧ r.2.sem = fun _ => 0) :=
  (θ_run Cert.KernelIdeal.defs _ _).mono (fun _ h => ⟨Cert.Ring.unchanged m ρ h.1, h.2⟩) (Cert.Ring.run_main m ρ)

theorem frame_kernel : Cert.quiescent_Kernel := fun m ρ _ => by
  rw [Cert.Ring.defs_same]
  exact frame_any (F := Bits) m ρ
theorem frame_kernelIdeal : Cert.quiescent_KernelIdeal := fun m ρ _ => frame_any (F := Ideal) m ρ
theorem frame_referenceIdeal : Cert.quiescent_ReferenceIdeal := fun m ρ h => Cert.ReferenceIdeal.Gen.frame m ρ
theorem frame_reference : Cert.quiescent_Reference := fun m ρ h => Cert.Reference.Gen.frame m ρ

/-- The mask's literal stands for negative infinity. -/
theorem preserves_reference : Cert.preserves_Reference_ReferenceIdeal :=
  IdealRules.named_const.statement Cert.ReferenceIdeal.κ "mask" .f32 0xCE6E6B28#32 ⊥ rfl

/-- The side conditions of the precondition at the reference's shapes. -/
theorem pre_facts_reference : Cert.Pre_finite_scores_ReferenceIdeal.Facts where
  bcast_S_S2x256x512 := by decide
  reducesTo_S2x256x512_S_d0_1_2 := by decide
  h_S_ := by decide
  bcast_S_S512x8192 := by decide
  reducesTo_S512x8192_S_d0_1 := by decide
  bcast_S_S2x256x64x128 := by decide
  reducesTo_S2x256x64x128_S_d0_1_2_3 := by decide

theorem frame_kernelIdeal_pre : Cert.quiescent_KernelIdeal_pre_finite_scores_KernelIdeal (hPre_finite_scores_KernelIdeal := Cert.Final.pre_facts) :=
  fun m ρ _ => frame_any (F := Ideal) m ρ
theorem frame_referenceIdeal_pre : Cert.quiescent_ReferenceIdeal_pre_finite_scores_ReferenceIdeal (hPre_finite_scores_ReferenceIdeal := pre_facts_reference) :=
  fun m ρ _ => Cert.ReferenceIdeal.Gen.frame m ρ

theorem claim : Cert.Claim :=
  ⟨Cert.Kernel.Gen.facts, Cert.KernelIdeal.Gen.facts, Cert.ReferenceIdeal.Gen.facts, Cert.Reference.Gen.facts, Cert.Final.pre_facts, pre_facts_reference,
    frame_kernel, frame_kernelIdeal, frame_kernelIdeal_pre, frame_referenceIdeal, frame_referenceIdeal_pre, frame_reference, trivial, preserves_reference,
    Cert.Final.algebraic⟩

end Cert.Proof

end
